-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v65) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S16384x13824 : Shape := ⟨2, ![16384, 13824]⟩
abbrev S4x2048 : Shape := ⟨2, ![4, 2048]⟩
abbrev S2048 : Shape := ⟨1, ![2048]⟩
abbrev S16x128x128 : Shape := ⟨3, ![16, 128, 128]⟩
abbrev S1x2048 : Shape := ⟨2, ![1, 2048]⟩
abbrev S16384x2048 : Shape := ⟨2, ![16384, 2048]⟩
abbrev S2048x128 : Shape := ⟨2, ![2048, 128]⟩
abbrev S4x128 : Shape := ⟨2, ![4, 128]⟩
abbrev S1x128 : Shape := ⟨2, ![1, 128]⟩
abbrev S1x128x128 : Shape := ⟨3, ![1, 128, 128]⟩
abbrev S2056x128 : Shape := ⟨2, ![2056, 128]⟩
abbrev S2112x128 : Shape := ⟨2, ![2112, 128]⟩
abbrev S8x128 : Shape := ⟨2, ![8, 128]⟩
abbrev S128x128 : Shape := ⟨2, ![128, 128]⟩
abbrev S256x128 : Shape := ⟨2, ![256, 128]⟩

abbrev nBuf : Space → Nat
  | .hbm => 15
  | .vmem => 23
  | .smem => 0
  | _ => 0

abbrev bufTy : (tb : Table) → Fin (tcTables nBuf tb) → BufTy
  | .hbm, ⟨0, _⟩ => ⟨S16384x13824, .bf16⟩
  | .hbm, ⟨1, _⟩ => ⟨S4x2048, .f32⟩
  | .hbm, ⟨2, _⟩ => ⟨S2048, .f32⟩
  | .hbm, ⟨3, _⟩ => ⟨S16x128x128, .f32⟩
  | .hbm, ⟨4, _⟩ => ⟨S2048, .f32⟩
  | .hbm, ⟨5, _⟩ => ⟨S16x128x128, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S16x128x128, .bf16⟩
  | .hbm, ⟨10, _⟩ => ⟨S1x2048, .f32⟩
  | .hbm, ⟨11, _⟩ => ⟨S16x128x128, .bf16⟩
  | .hbm, ⟨12, _⟩ => ⟨S1x2048, .f32⟩
  | .hbm, ⟨13, _⟩ => ⟨S1x2048, .f32⟩
  | .hbm, ⟨14, _⟩ => ⟨S16384x2048, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S1x128x128, .bf16⟩
  | .local _ .vmem, ⟨9, _⟩ => ⟨S1x128x128, .bf16⟩
  | .local _ .vmem, ⟨10, _⟩ => ⟨S1x128, .f32⟩
  | .local _ .vmem, ⟨11, _⟩ => ⟨S1x128, .f32⟩
  | .local _ .vmem, ⟨12, _⟩ => ⟨S1x128x128, .bf16⟩
  | .local _ .vmem, ⟨13, _⟩ => ⟨S1x128x128, .bf16⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2048x128, .bf16⟩
  | .local _ .vmem, ⟨19, _⟩ => ⟨S2048x128, .bf16⟩
  | .local _ .vmem, ⟨20, _⟩ => ⟨S2056x128, .f32⟩
  | .local _ .vmem, ⟨21, _⟩ => ⟨S2112x128, .f32⟩
  | .local _ .vmem, ⟨22, _⟩ => ⟨S2112x128, .f32⟩
  | _, _ => ⟨S16384x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32 : BitVec 32 := 0#32
  let c32_i32 : BitVec 32 := 32#32
  let v151 : BitVec 32 := Scalar.addi c0_i32 c32_i32
  let c1_i32 : BitVec 32 := 1#32
  ⟨c0_i32, v151, c1_i32⟩
def k0_off1 (k0_t1 : Fin k0_t1_loop.trips) (c0_i32_156 : BitVec 32) : Fin 2 → Nat :=
  let c0_i32 : BitVec 32 := 0#32
  let c1_i32 : BitVec 32 := 1#32
  let arg15 : BitVec 32 := Scf.iv c0_i32 c1_i32 k0_t1
  let c8_i32 : BitVec 32 := 8#32
  let v366 : BitVec 32 := Scalar.muli arg15 c8_i32
  let v367 : BitVec 32 := Scalar.addi v366 c0_i32_156
  let v368 : Index := Scalar.indexCast v367
  let c0_157 : Index := 0#32
  ![v368.toNat, 0]
def cc0_transform_0 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16384x13824 : Shape := ⟨2, ![16384, 13824]⟩
abbrev S4x2048 : Shape := ⟨2, ![4, 2048]⟩
abbrev S2048 : Shape := ⟨1, ![2048]⟩
abbrev S16x128x128 : Shape := ⟨3, ![16, 128, 128]⟩
abbrev S16384x2048 : Shape := ⟨2, ![16384, 2048]⟩
abbrev S8x2048x2048 : Shape := ⟨3, ![8, 2048, 2048]⟩
abbrev S_ : Shape := ⟨0, ![]⟩
abbrev S8x2051x2048 : Shape := ⟨3, ![8, 2051, 2048]⟩
abbrev S1x2048 : Shape := ⟨2, ![1, 2048]⟩
abbrev S1x1x2048 : Shape := ⟨3, ![1, 1, 2048]⟩
abbrev S8x2048x16x128 : Shape := ⟨4, ![8, 2048, 16, 128]⟩
abbrev S16x128x8x2048 : Shape := ⟨4, ![16, 128, 8, 2048]⟩
abbrev S8x2048 : Shape := ⟨2, ![8, 2048]⟩
abbrev S2048x8x2048 : Shape := ⟨3, ![2048, 8, 2048]⟩
abbrev S1x8x2048 : Shape := ⟨3, ![1, 8, 2048]⟩

abbrev nBuf : Space → Nat
  | .hbm => 158
  | .vmem => 0
  | .smem => 0
  | _ => 0

abbrev hbmTy0_0 (i : Nat) : BufTy := match i % 128 with
  | 0 => ⟨S16384x13824, .bf16⟩
  | 1 => ⟨S4x2048, .f32⟩
  | 2 => ⟨S2048, .f32⟩
  | 3 => ⟨S16x128x128, .f32⟩
  | 4 => ⟨S2048, .f32⟩
  | 5 => ⟨S16x128x128, .f32⟩
  | 6 => ⟨S2048, .f32⟩
  | 7 => ⟨S2048, .f32⟩
  | 8 => ⟨S16384x2048, .bf16⟩
  | 9 => ⟨S16384x2048, .f32⟩
  | 10 => ⟨S8x2048x2048, .f32⟩
  | 11 => ⟨S_, .i32⟩
  | 12 => ⟨S_, .f32⟩
  | 13 => ⟨S8x2051x2048, .f32⟩
  | 14 => ⟨S8x2048x2048, .f32⟩
  | 15 => ⟨S1x2048, .f32⟩
  | 16 => ⟨S2048, .f32⟩
  | 17 => ⟨S1x1x2048, .f32⟩
  | 18 => ⟨S8x2048x2048, .f32⟩
  | 19 => ⟨S8x2048x2048, .f32⟩
  | 20 => ⟨S1x1x2048, .f32⟩
  | 21 => ⟨S8x2048x2048, .f32⟩
  | 22 => ⟨S8x2048x2048, .f32⟩
  | 23 => ⟨S8x2048x2048, .f32⟩
  | 24 => ⟨S1x2048, .f32⟩
  | 25 => ⟨S2048, .f32⟩
  | 26 => ⟨S1x1x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S1x2048, .f32⟩
  | 32 => ⟨S2048, .f32⟩
  | 33 => ⟨S1x1x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S1x2048, .f32⟩
  | 39 => ⟨S2048, .f32⟩
  | 40 => ⟨S1x1x2048, .f32⟩
  | 41 => ⟨S8x2048x2048, .f32⟩
  | 42 => ⟨S8x2048x2048, .f32⟩
  | 43 => ⟨S8x2048x2048, .f32⟩
  | 44 => ⟨S8x2048x16x128, .f32⟩
  | 45 => ⟨S16x128x8x2048, .f32⟩
  | 46 => ⟨S8x2048x16x128, .f32⟩
  | 47 => ⟨S8x2048x2048, .f32⟩
  | 48 => ⟨S1x1x2048, .f32⟩
  | 49 => ⟨S8x2048x2048, .f32⟩
  | 50 => ⟨S8x2048x2048, .f32⟩
  | 51 => ⟨S8x2048x2048, .f32⟩
  | 52 => ⟨S8x2048x2048, .f32⟩
  | 53 => ⟨S_, .f32⟩
  | 54 => ⟨S8x2048x2048, .f32⟩
  | 55 => ⟨S8x2048x2048, .f32⟩
  | 56 => ⟨S_, .f32⟩
  | 57 => ⟨S8x2048x2048, .f32⟩
  | 58 => ⟨S8x2048x2048, .f32⟩
  | 59 => ⟨S16x128x8x2048, .f32⟩
  | 60 => ⟨S8x2048x16x128, .f32⟩
  | 61 => ⟨S8x2048x2048, .f32⟩
  | 62 => ⟨S1x1x2048, .f32⟩
  | 63 => ⟨S8x2048x2048, .f32⟩
  | 64 => ⟨S8x2048x2048, .f32⟩
  | 65 => ⟨S8x2048x2048, .f32⟩
  | 66 => ⟨S8x2048x2048, .f32⟩
  | 67 => ⟨S_, .f32⟩
  | 68 => ⟨S8x2048x2048, .f32⟩
  | 69 => ⟨S8x2048x2048, .f32⟩
  | 70 => ⟨S_, .f32⟩
  | 71 => ⟨S8x2048x2048, .f32⟩
  | 72 => ⟨S8x2048x2048, .f32⟩
  | 73 => ⟨S_, .f32⟩
  | 74 => ⟨S8x2048x2048, .f32⟩
  | 75 => ⟨S8x2048x2048, .f32⟩
  | 76 => ⟨S2048, .f32⟩
  | 77 => ⟨S_, .f32⟩
  | 78 => ⟨S2048, .f32⟩
  | 79 => ⟨S2048, .f32⟩
  | 80 => ⟨S2048, .f32⟩
  | 81 => ⟨S2048, .f32⟩
  | 82 => ⟨S2048, .i1⟩
  | 83 => ⟨S2048, .f32⟩
  | 84 => ⟨S2048, .f32⟩
  | 85 => ⟨S2048, .f32⟩
  | 86 => ⟨S2048, .f32⟩
  | 87 => ⟨S2048, .f32⟩
  | 88 => ⟨S2048, .f32⟩
  | 89 => ⟨S2048, .f32⟩
  | 90 => ⟨S2048, .f32⟩
  | 91 => ⟨S2048, .f32⟩
  | 92 => ⟨S1x1x2048, .f32⟩
  | 93 => ⟨S8x2048x2048, .f32⟩
  | 94 => ⟨S8x2048x2048, .f32⟩
  | 95 => ⟨S8x2048x2048, .f32⟩
  | 96 => ⟨S_, .f32⟩
  | 97 => ⟨S8x2048x2048, .f32⟩
  | 98 => ⟨S8x2048x2048, .f32⟩
  | 99 => ⟨S8x2048x2048, .f32⟩
  | 100 => ⟨S8x2048x2048, .f32⟩
  | 101 => ⟨S8x2048x2048, .f32⟩
  | 102 => ⟨S8x2048x2048, .f32⟩
  | 103 => ⟨S8x2048x2048, .f32⟩
  | 104 => ⟨S_, .f32⟩
  | 105 => ⟨S8x2048, .f32⟩
  | 106 => ⟨S2048x8x2048, .f32⟩
  | 107 => ⟨S2048x8x2048, .f32⟩
  | 108 => ⟨S_, .f32⟩
  | 109 => ⟨S2048x8x2048, .f32⟩
  | 110 => ⟨S_, .i32⟩
  | 111 => ⟨S2048x8x2048, .f32⟩
  | 112 => ⟨S2048x8x2048, .f32⟩
  | 113 => ⟨S_, .i32⟩
  | 114 => ⟨S8x2048, .f32⟩
  | 115 => ⟨S2048x8x2048, .f32⟩
  | 116 => ⟨S_, .i32⟩
  | 117 => ⟨S_, .i1⟩
  | 118 => ⟨S_, .i32⟩
  | 119 => ⟨S_, .i32⟩
  | 120 => ⟨S1x8x2048, .f32⟩
  | 121 => ⟨S8x2048, .f32⟩
  | 122 => ⟨S_, .i32⟩
  | 123 => ⟨S_, .i32⟩
  | 124 => ⟨S1x8x2048, .f32⟩
  | 125 => ⟨S8x2048, .f32⟩
  | 126 => ⟨S8x2048, .f32⟩
  | 127 => ⟨S8x2048, .f32⟩
  | _ => ⟨S16384x13824, .bf16⟩

abbrev hbmTy0_1 (i : Nat) : BufTy := match i % 128 with
  | 0 => ⟨S1x8x2048, .f32⟩
  | 1 => ⟨S_, .i32⟩
  | 2 => ⟨S_, .i32⟩
  | 3 => ⟨S2048x8x2048, .f32⟩
  | 4 => ⟨S_, .i32⟩
  | 5 => ⟨S_, .i32⟩
  | 6 => ⟨S16384x2048, .bf16⟩
  | 7 => ⟨S16384x2048, .f32⟩
  | 8 => ⟨S8x2048x2048, .f32⟩
  | 9 => ⟨S8x2048x2048, .f32⟩
  | 10 => ⟨S8x2048x2048, .f32⟩
  | 11 => ⟨S_, .f32⟩
  | 12 => ⟨S8x2048x2048, .f32⟩
  | 13 => ⟨S8x2048x2048, .f32⟩
  | 14 => ⟨S8x2048x2048, .f32⟩
  | 15 => ⟨S_, .f32⟩
  | 16 => ⟨S8x2048x2048, .f32⟩
  | 17 => ⟨S8x2048x2048, .f32⟩
  | 18 => ⟨S8x2048x2048, .f32⟩
  | 19 => ⟨S_, .f32⟩
  | 20 => ⟨S8x2048x2048, .f32⟩
  | 21 => ⟨S8x2048x2048, .f32⟩
  | 22 => ⟨S_, .f32⟩
  | 23 => ⟨S8x2048x2048, .f32⟩
  | 24 => ⟨S8x2048x2048, .f32⟩
  | 25 => ⟨S8x2048x2048, .f32⟩
  | 26 => ⟨S8x2048x2048, .f32⟩
  | 27 => ⟨S8x2048x2048, .f32⟩
  | 28 => ⟨S16384x2048, .f32⟩
  | 29 => ⟨S16384x2048, .bf16⟩
  | _ => ⟨S16384x13824, .bf16⟩

abbrev hbmTy (i : Nat) : BufTy := match i / 128 with
  | 0 => hbmTy0_0 i
  | 1 => hbmTy0_1 i
  | _ => ⟨S16384x13824, .bf16⟩

abbrev bufTy : (tb : Table) → Fin (tcTables nBuf tb) → BufTy
  | .hbm, ⟨i, _⟩ => hbmTy i
  | _, _ => ⟨S16384x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst : Ref sig .tc := ⟨.hbm, 53, rfl⟩
abbrev main_v43 : Ref sig .tc := ⟨.hbm, 54, rfl⟩
abbrev main_v44 : Ref sig .tc := ⟨.hbm, 55, rfl⟩
abbrev main_cst_0 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_1 : Ref sig .tc := ⟨.hbm, 67, rfl⟩
abbrev main_v55 : Ref sig .tc := ⟨.hbm, 68, rfl⟩
abbrev main_v56 : Ref sig .tc := ⟨.hbm, 69, rfl⟩
abbrev main_cst_2 : Ref sig .tc := ⟨.hbm, 70, rfl⟩
abbrev main_v57 : Ref sig .tc := ⟨.hbm, 71, rfl⟩
abbrev main_v58 : Ref sig .tc := ⟨.hbm, 72, rfl⟩
abbrev main_cst_3 : Ref sig .tc := ⟨.hbm, 73, rfl⟩
abbrev main_v59 : Ref sig .tc := ⟨.hbm, 74, rfl⟩
abbrev main_v60 : Ref sig .tc := ⟨.hbm, 75, rfl⟩
abbrev main_call1_v0 : Ref sig .tc := ⟨.hbm, 76, rfl⟩
abbrev main_call1_call0_cst : Ref sig .tc := ⟨.hbm, 77, rfl⟩
abbrev main_call1_call0_v0 : Ref sig .tc := ⟨.hbm, 78, rfl⟩
abbrev main_call1_call0_v1 : Ref sig .tc := ⟨.hbm, 79, rfl⟩
abbrev main_call1_call0_v2 : Ref sig .tc := ⟨.hbm, 80, rfl⟩
abbrev main_call1_call0_v3 : Ref sig .tc := ⟨.hbm, 81, rfl⟩
abbrev main_call1_call0_v4 : Ref sig .tc := ⟨.hbm, 82, rfl⟩
abbrev main_call1_call0_v5 : Ref sig .tc := ⟨.hbm, 83, rfl⟩
abbrev main_call1_call0_v6 : Ref sig .tc := ⟨.hbm, 84, rfl⟩
abbrev main_call1_call0_v7 : Ref sig .tc := ⟨.hbm, 85, rfl⟩
abbrev main_call1_call0_v8 : Ref sig .tc := ⟨.hbm, 86, rfl⟩
abbrev main_call1_call0_v9 : Ref sig .tc := ⟨.hbm, 87, rfl⟩
abbrev main_call1_call0_v10 : Ref sig .tc := ⟨.hbm, 88, rfl⟩
abbrev main_call1_call0_v11 : Ref sig .tc := ⟨.hbm, 89, rfl⟩
abbrev main_call1_v1 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_4 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_5 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_6 : Ref sig .tc := ⟨.hbm, 108, rfl⟩
abbrev main_v76 : Ref sig .tc := ⟨.hbm, 109, rfl⟩
abbrev main_c_7 : Ref sig .tc := ⟨.hbm, 110, rfl⟩
abbrev main_v77_0 : Ref sig .tc := ⟨.hbm, 111, rfl⟩
abbrev main_v77_1 : Ref sig .tc := ⟨.hbm, 112, rfl⟩
abbrev main_v77_2 : Ref sig .tc := ⟨.hbm, 113, rfl⟩
abbrev main_v77_3 : Ref sig .tc := ⟨.hbm, 114, rfl⟩
abbrev main_v77_4 : Ref sig .tc := ⟨.hbm, 115, rfl⟩
abbrev main_while0c_c_16 : Ref sig .tc := ⟨.hbm, 116, rfl⟩
abbrev main_while0c_v98 : Ref sig .tc := ⟨.hbm, 117, rfl⟩
abbrev main_while0b_call2_c : Ref sig .tc := ⟨.hbm, 118, rfl⟩
abbrev main_while0b_call2_c_0 : Ref sig .tc := ⟨.hbm, 119, rfl⟩
abbrev main_while0b_call2_v0 : Ref sig .tc := ⟨.hbm, 120, rfl⟩
abbrev main_while0b_v98 : Ref sig .tc := ⟨.hbm, 121, rfl⟩
abbrev main_while0b_call3_c : Ref sig .tc := ⟨.hbm, 122, rfl⟩
abbrev main_while0b_call3_c_0 : Ref sig .tc := ⟨.hbm, 123, rfl⟩
abbrev main_while0b_call3_v0 : Ref sig .tc := ⟨.hbm, 124, rfl⟩
abbrev main_while0b_v99 : Ref sig .tc := ⟨.hbm, 125, rfl⟩
abbrev main_while0b_v100 : Ref sig .tc := ⟨.hbm, 126, rfl⟩
abbrev main_while0b_v101 : Ref sig .tc := ⟨.hbm, 127, rfl⟩
abbrev main_while0b_call4_v0 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_v102 : Ref sig .tc := ⟨.hbm, 131, rfl⟩
abbrev main_while0b_c_16 : Ref sig .tc := ⟨.hbm, 132, rfl⟩
abbrev main_while0b_v103 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_cst_8 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_cst_9 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_cst_10 : Ref sig .tc := ⟨.hbm, 147, rfl⟩
abbrev main_v89 : Ref sig .tc := ⟨.hbm, 148, rfl⟩
abbrev main_v90 : Ref sig .tc := ⟨.hbm, 149, rfl⟩
abbrev main_cst_11 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S8x2048x6144 : Shape := ⟨3, ![8, 2048, 6144]⟩
abbrev S2x6144x2048 : Shape := ⟨3, ![2, 6144, 2048]⟩
abbrev S8x2048x2048 : Shape := ⟨3, ![8, 2048, 2048]⟩
abbrev S8x2048 : Shape := ⟨2, ![8, 2048]⟩
abbrev S16384x6144 : Shape := ⟨2, ![16384, 6144]⟩
abbrev S16384x2048 : Shape := ⟨2, ![16384, 2048]⟩
abbrev S8x1x2048 : Shape := ⟨3, ![8, 1, 2048]⟩
abbrev S512x6144 : Shape := ⟨2, ![512, 6144]⟩
abbrev S1x6144x1024 : Shape := ⟨3, ![1, 6144, 1024]⟩
abbrev S512x1024 : Shape := ⟨2, ![512, 1024]⟩
abbrev S1x1x1024 : Shape := ⟨3, ![1, 1, 1024]⟩
abbrev S1x1024 : Shape := ⟨2, ![1, 1024]⟩
abbrev S6144x1024 : Shape := ⟨2, ![6144, 1024]⟩

abbrev nBuf : Space → Nat
  | .hbm => 10
  | .vmem => 10
  | .smem => 0
  | _ => 0

abbrev bufTy : (tb : Table) → Fin (tcTables nBuf tb) → BufTy
  | .hbm, ⟨0, _⟩ => ⟨S8x2048x6144, .f32⟩
  | .hbm, ⟨1, _⟩ => ⟨S2x6144x2048, .f32⟩
  | .hbm, ⟨2, _⟩ => ⟨S8x2048x2048, .f32⟩
  | .hbm, ⟨3, _⟩ => ⟨S8x2048, .f32⟩
  | .hbm, ⟨4, _⟩ => ⟨S16384x6144, .f32⟩
  | .hbm, ⟨5, _⟩ => ⟨S16384x6144, .bf16⟩
  | .hbm, ⟨6, _⟩ => ⟨S2x6144x2048, .bf16⟩
  | .hbm, ⟨7, _⟩ => ⟨S16384x2048, .f32⟩
  | .hbm, ⟨8, _⟩ => ⟨S8x1x2048, .f32⟩
  | .hbm, ⟨9, _⟩ => ⟨S16384x2048, .f32⟩
  | .local _ .vmem, ⟨0, _⟩ => ⟨S512x6144, .bf16⟩
  | .local _ .vmem, ⟨1, _⟩ => ⟨S512x6144, .bf16⟩
  | .local _ .vmem, ⟨2, _⟩ => ⟨S1x6144x1024, .bf16⟩
  | .local _ .vmem, ⟨3, _⟩ => ⟨S1x6144x1024, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | _, _ => ⟨S8x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x6144x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8x2048x6144 : Shape := ⟨3, ![8, 2048, 6144]⟩
abbrev S2x6144x2048 : Shape := ⟨3, ![2, 6144, 2048]⟩
abbrev S8x2048x2048 : Shape := ⟨3, ![8, 2048, 2048]⟩
abbrev S8x2048 : Shape := ⟨2, ![8, 2048]⟩
abbrev S8x1x2048 : Shape := ⟨3, ![8, 1, 2048]⟩
abbrev S1x6144x2048 : Shape := ⟨3, ![1, 6144, 2048]⟩
abbrev S6144x2048 : Shape := ⟨2, ![6144, 2048]⟩
abbrev S16384x2048 : Shape := ⟨2, ![16384, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x6144, .f32⟩
  | .hbm, ⟨1, _⟩ => ⟨S2x6144x2048, .f32⟩
  | .hbm, ⟨2, _⟩ => ⟨S8x2048x2048, .f32⟩
  | .hbm, ⟨3, _⟩ => ⟨S8x2048, .f32⟩
  | .hbm, ⟨4, _⟩ => ⟨S8x1x2048, .f32⟩
  | .hbm, ⟨5, _⟩ => ⟨S1x6144x2048, .f32⟩
  | .hbm, ⟨6, _⟩ => ⟨S6144x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S16384x2048, .f32⟩
  | _, _ => ⟨S8x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel3.lean ====
abbrev S8x2048x2048 : Shape := ⟨3, ![8, 2048, 2048]⟩
abbrev S2x2048x2048 : Shape := ⟨3, ![2, 2048, 2048]⟩
abbrev S8x2048 : Shape := ⟨2, ![8, 2048]⟩
abbrev S16384x2048 : Shape := ⟨2, ![16384, 2048]⟩
abbrev S8x1x2048 : Shape := ⟨3, ![8, 1, 2048]⟩
abbrev S512x2048 : Shape := ⟨2, ![512, 2048]⟩
abbrev S1x2048x2048 : Shape := ⟨3, ![1, 2048, 2048]⟩
abbrev S1x1x2048 : Shape := ⟨3, ![1, 1, 2048]⟩
abbrev S1x2048 : Shape := ⟨2, ![1, 2048]⟩
abbrev S2048x2048 : Shape := ⟨2, ![2048, 2048]⟩

abbrev nBuf : Space → Nat
  | .hbm => 10
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S2x2048x2048, .f32⟩
  | .hbm, ⟨2, _⟩ => ⟨S8x2048x2048, .f32⟩
  | .hbm, ⟨3, _⟩ => ⟨S8x2048, .f32⟩
  | .hbm, ⟨4, _⟩ => ⟨S16384x2048, .f32⟩
  | .hbm, ⟨5, _⟩ => ⟨S16384x2048, .bf16⟩
  | .hbm, ⟨6, _⟩ => ⟨S2x2048x2048, .bf16⟩
  | .hbm, ⟨7, _⟩ => ⟨S16384x2048, .f32⟩
  | .hbm, ⟨8, _⟩ => ⟨S8x1x2048, .f32⟩
  | .hbm, ⟨9, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8x2048x2048 : Shape := ⟨3, ![8, 2048, 2048]⟩
abbrev S2x2048x2048 : Shape := ⟨3, ![2, 2048, 2048]⟩
abbrev S8x2048 : Shape := ⟨2, ![8, 2048]⟩
abbrev S8x1x2048 : Shape := ⟨3, ![8, 1, 2048]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048x2048, .f32⟩
  | .hbm, ⟨2, _⟩ => ⟨S8x2048x2048, .f32⟩
  | .hbm, ⟨3, _⟩ => ⟨S8x2048, .f32⟩
  | .hbm, ⟨4, _⟩ => ⟨S8x1x2048, .f32⟩
  | .hbm, ⟨5, _⟩ => ⟨S1x2048x2048, .f32⟩
  | .hbm, ⟨6, _⟩ => ⟨S2048x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel4.lean ====
abbrev S8x2048x2048 : Shape := ⟨3, ![8, 2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8x2048x2048 : Shape := ⟨3, ![8, 2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x1, .f32⟩
  | .hbm, ⟨13, _⟩ => ⟨S8x2048x2048, .f32⟩
  | .hbm, ⟨14, _⟩ => ⟨S8x2048x2048, .f32⟩
  | .hbm, ⟨15, _⟩ => ⟨S1x1x2048, .f32⟩
  | .hbm, ⟨16, _⟩ => ⟨S8x2048x2048, .f32⟩
  | .hbm, ⟨17, _⟩ => ⟨S8x2048x2048, .f32⟩
  | .hbm, ⟨18, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S8x2048x2048 : Shape := ⟨3, ![8, 2048, 2048]⟩
abbrev S2x2048x2048 : Shape := ⟨3, ![2, 2048, 2048]⟩
abbrev S16384x13824 : Shape := ⟨2, ![16384, 13824]⟩
abbrev S16384x2048 : Shape := ⟨2, ![16384, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 12
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S2x2048x2048, .f32⟩
  | .hbm, ⟨3, _⟩ => ⟨S2x2048x2048, .f32⟩
  | .hbm, ⟨4, _⟩ => ⟨S16384x13824, .bf16⟩
  | .hbm, ⟨5, _⟩ => ⟨S16384x2048, .f32⟩
  | .hbm, ⟨6, _⟩ => ⟨S16384x2048, .bf16⟩
  | .hbm, ⟨7, _⟩ => ⟨S16384x2048, .f32⟩
  | .hbm, ⟨8, _⟩ => ⟨S16384x2048, .bf16⟩
  | .hbm, ⟨9, _⟩ => ⟨S2x2048x2048, .bf16⟩
  | .hbm, ⟨10, _⟩ => ⟨S2x2048x2048, .bf16⟩
  | .hbm, ⟨11, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8x2048x2048 : Shape := ⟨3, ![8, 2048, 2048]⟩
abbrev S2x2048x2048 : Shape := ⟨3, ![2, 2048, 2048]⟩
abbrev S16384x13824 : Shape := ⟨2, ![16384, 13824]⟩
abbrev S16384x2048 : Shape := ⟨2, ![16384, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S2x2048x2048, .f32⟩
  | .hbm, ⟨3, _⟩ => ⟨S2x2048x2048, .f32⟩
  | .hbm, ⟨4, _⟩ => ⟨S16384x13824, .bf16⟩
  | .hbm, ⟨5, _⟩ => ⟨S16384x2048, .bf16⟩
  | .hbm, ⟨6, _⟩ => ⟨S16384x2048, .f32⟩
  | .hbm, ⟨7, _⟩ => ⟨S8x2048x2048, .f32⟩
  | .hbm, ⟨8, _⟩ => ⟨S16384x2048, .bf16⟩
  | .hbm, ⟨9, _⟩ => ⟨S16384x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S1x2048x2048, .f32⟩
  | .hbm, ⟨20, _⟩ => ⟨S2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S1x2048x2048, .f32⟩
  | .hbm, ⟨32, _⟩ => ⟨S2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S16384x2048, .f32⟩
  | .hbm, ⟨37, _⟩ => ⟨S16384x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel6.lean ====
abbrev S8x2048x2048 : Shape := ⟨3, ![8, 2048, 2048]⟩
abbrev S2048 : Shape := ⟨1, ![2048]⟩
abbrev S8x2048 : Shape := ⟨2, ![8, 2048]⟩
abbrev S2x2048x13360 : Shape := ⟨3, ![2, 2048, 13360]⟩
abbrev S_ : Shape := ⟨0, ![]⟩
abbrev S1x2048 : Shape := ⟨2, ![1, 2048]⟩
abbrev S1x11776 : Shape := ⟨2, ![1, 11776]⟩
abbrev S1x13824 : Shape := ⟨2, ![1, 13824]⟩
abbrev S2x2048x5120 : Shape := ⟨3, ![2, 2048, 5120]⟩
abbrev S2x2048x8192 : Shape := ⟨3, ![2, 2048, 8192]⟩
abbrev S2x2048x48 : Shape := ⟨3, ![2, 2048, 48]⟩
abbrev S2x2048x512 : Shape := ⟨3, ![2, 2048, 512]⟩
abbrev S2x2048x13824 : Shape := ⟨3, ![2, 2048, 13824]⟩
abbrev S16384x2048 : Shape := ⟨2, ![16384, 2048]⟩
abbrev S8x1x2048 : Shape := ⟨3, ![8, 1, 2048]⟩
abbrev S16384x13824 : Shape := ⟨2, ![16384, 13824]⟩
abbrev S1024x2048 : Shape := ⟨2, ![1024, 2048]⟩
abbrev S1x1x2048 : Shape := ⟨3, ![1, 1, 2048]⟩
abbrev S1x2048x1536 : Shape := ⟨3, ![1, 2048, 1536]⟩
abbrev S1x1536 : Shape := ⟨2, ![1, 1536]⟩
abbrev S1024x1536 : Shape := ⟨2, ![1024, 1536]⟩
abbrev S2x1024x2048 : Shape := ⟨3, ![2, 1024, 2048]⟩
abbrev S1024x128 : Shape := ⟨2, ![1024, 128]⟩
abbrev S1024 : Shape := ⟨1, ![1024]⟩
abbrev S1024x1 : Shape := ⟨2, ![1024, 1]⟩
abbrev S16x128 : Shape := ⟨2, ![16, 128]⟩
abbrev S16x2048 : Shape := ⟨2, ![16, 2048]⟩
abbrev S1x1024x2048 : Shape := ⟨3, ![1, 1024, 2048]⟩
abbrev S1x16x2048 : Shape := ⟨3, ![1, 16, 2048]⟩
abbrev S2048x1536 : Shape := ⟨2, ![2048, 1536]⟩
abbrev S128x2048 : Shape := ⟨2, ![128, 2048]⟩
abbrev S128 : Shape := ⟨1, ![128]⟩
abbrev S128x1 : Shape := ⟨2, ![128, 1]⟩
abbrev S1x128x2048 : Shape := ⟨3, ![1, 128, 2048]⟩

abbrev nBuf : Space → Nat
  | .hbm => 23
  | .vmem => 15
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2x2048x13360, .f32⟩
  | .hbm, ⟨5, _⟩ => ⟨S_, .f32⟩
  | .hbm, ⟨6, _⟩ => ⟨S1x2048, .f32⟩
  | .hbm, ⟨7, _⟩ => ⟨S_, .f32⟩
  | .hbm, ⟨8, _⟩ => ⟨S1x11776, .f32⟩
  | .hbm, ⟨9, _⟩ => ⟨S1x13824, .f32⟩
  | .hbm, ⟨10, _⟩ => ⟨S2x2048x5120, .f32⟩
  | .hbm, ⟨11, _⟩ => ⟨S2x2048x8192, .f32⟩
  | .hbm, ⟨12, _⟩ => ⟨S2x2048x48, .f32⟩
  | .hbm, ⟨13, _⟩ => ⟨S_, .i32⟩
  | .hbm, ⟨14, _⟩ => ⟨S_, .f32⟩
  | .hbm, ⟨15, _⟩ => ⟨S2x2048x512, .f32⟩
  | .hbm, ⟨16, _⟩ => ⟨S2x2048x13824, .f32⟩
  | .hbm, ⟨17, _⟩ => ⟨S2x2048x13824, .bf16⟩
  | .hbm, ⟨18, _⟩ => ⟨S16384x2048, .f32⟩
  | .hbm, ⟨19, _⟩ => ⟨S1x2048, .f32⟩
  | .hbm, ⟨20, _⟩ => ⟨S8x1x2048, .f32⟩
  | .hbm, ⟨21, _⟩ => ⟨S8x1x2048, .f32⟩
  | .hbm, ⟨22, _⟩ => ⟨S16384x13824, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x1536, .bf16⟩
  | .local _ .vmem, ⟨8, _⟩ => ⟨S1x2048x1536, .bf16⟩
  | .local _ .vmem, ⟨9, _⟩ => ⟨S1x1536, .f32⟩
  | .local _ .vmem, ⟨10, _⟩ => ⟨S1x1536, .f32⟩
  | .local _ .vmem, ⟨11, _⟩ => ⟨S1024x1536, .bf16⟩
  | .local _ .vmem, ⟨12, _⟩ => ⟨S1024x1536, .bf16⟩
  | .local _ .vmem, ⟨13, _⟩ => ⟨S2x1024x2048, .bf16⟩
  | .local _ .vmem, ⟨14, _⟩ => ⟨S1024x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let arg1 : BitVec 32 := BitVec.ofNat 32 (i 1).val
  let c0_i32_4 : BitVec 32 := 0#32
  let v11 : BitVec 1 := Scalar.cmpi .eq arg1 c0_i32_4
  let v12 : BitVec 1 := Scalar.andi v10 v11
  let v13 : BitVec 32 := Scalar.extui v12
  let c0_i32_5 : BitVec 32 := 0#32
  let v14 : BitVec 1 := Scalar.cmpi .ne v13 c0_i32_5
  v14

@[reducible] def k0_t1_loop : Scf.Loop 32 :=
  let c0_i32_48 : BitVec 32 := 0#32
  let c64_i32 : BitVec 32 := 64#32
  let v89 : BitVec 32 := Scalar.addi c0_i32_48 c64_i32
  let c1_i32_49 : BitVec 32 := 1#32
  ⟨c0_i32_48, v89, c1_i32_49⟩
def k0_mult1 (k0_t1 : Fin k0_t1_loop.trips) : BitVec 32 :=
  let c0_i32_48 : BitVec 32 := 0#32
  let c1_i32_49 : BitVec 32 := 1#32
  let arg11 : BitVec 32 := Scf.iv c0_i32_48 c1_i32_49 k0_t1
  let c16_i32 : BitVec 32 := 16#32
  let v90 : BitVec 32 := Scalar.muli arg11 c16_i32
  v90
def k0_off1 (k0_t1 : Fin k0_t1_loop.trips) : Fin 2 → Nat :=
  let c0_i32_48 : BitVec 32 := 0#32
  let c1_i32_49 : BitVec 32 := 1#32
  let arg11 : BitVec 32 := Scf.iv c0_i32_48 c1_i32_49 k0_t1
  let c16_i32 : BitVec 32 := 16#32
  let v90 : BitVec 32 := Scalar.muli arg11 c16_i32
  let v91 : BitVec 32 := v90
  let v92 : Index := Scalar.indexCast v91
  let c0_51 : Index := 0#32
  ![v92.toNat, 0]
def k0_off2 (k0_t1 : Fin k0_t1_loop.trips) : Fin 2 → Nat :=
  let c0_i32_48 : BitVec 32 := 0#32
  let c1_i32_49 : BitVec 32 := 1#32
  let arg11 : BitVec 32 := Scf.iv c0_i32_48 c1_i32_49 k0_t1
  let c16_i32 : BitVec 32 := 16#32
  let v90 : BitVec 32 := Scalar.muli arg11 c16_i32
  let v91 : BitVec 32 := v90
  let v95 : Index := Scalar.indexCast v91
  let c0_52 : Index := 0#32
  ![v95.toNat, 0]
def k0_off3 (k0_t1 : Fin k0_t1_loop.trips) : Fin 2 → Nat :=
  let c0_i32_53 : BitVec 32 := 0#32
  let c0_i32_48 : BitVec 32 := 0#32
  let c1_i32_49 : BitVec 32 := 1#32
  let arg11 : BitVec 32 := Scf.iv c0_i32_48 c1_i32_49 k0_t1
  let c16_i32 : BitVec 32 := 16#32
  let v90 : BitVec 32 := Scalar.muli arg11 c16_i32
  let v91 : BitVec 32 := v90
  let v106 : BitVec 32 := Scalar.addi c0_i32_53 v91
  let v109 : Index := Scalar.indexCast v106
  let c0_56 : Index := 0#32
  ![v109.toNat, 0]
def k0_off4 (k0_t1 : Fin k0_t1_loop.trips) : Fin 3 → Nat :=
  let c0_i32_47 : BitVec 32 := 0#32
  let c0_i32_53 : BitVec 32 := 0#32
  let c0_i32_48 : BitVec 32 := 0#32
  let c1_i32_49 : BitVec 32 := 1#32
  let arg11 : BitVec 32 := Scf.iv c0_i32_48 c1_i32_49 k0_t1
  let c16_i32 : BitVec 32 := 16#32
  let v90 : BitVec 32 := Scalar.muli arg11 c16_i32
  let v91 : BitVec 32 := v90
  let v106 : BitVec 32 := Scalar.addi c0_i32_53 v91
  let v109 : Index := Scalar.indexCast v106
  let c0_i32_55 : BitVec 32 := 0#32
  ![0, v109.toNat, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v15 : Index := Scalar.indexCast v9
  let c0 : Index := 0#32
  let c0_6 : Index := 0#32
  ![v15.toNat, 0, 0]
def k0_mult2 (i : grid0.Coords) : BitVec 32 :=
  let c896_i32 : BitVec 32 := 896#32
  let c0_i32_15 : BitVec 32 := 0#32
  let arg1 : BitVec 32 := BitVec.ofNat 32 (i 1).val
  let c1_i32_14 : BitVec 32 := 1#32
  let v27 : BitVec 32 := Scalar.subi arg1 c1_i32_14
  let c128_i32 : BitVec 32 := 128#32
  let v28 : BitVec 32 := Scalar.muli v27 c128_i32
  let v29 : BitVec 32 := Scalar.maxsi c0_i32_15 v28
  let v30 : BitVec 32 := Scalar.minsi c896_i32 v29
  v30
def k0_off6 (i : grid0.Coords) : Fin 2 → Nat :=
  let c896_i32 : BitVec 32 := 896#32
  let c0_i32_15 : BitVec 32 := 0#32
  let arg1 : BitVec 32 := BitVec.ofNat 32 (i 1).val
  let c1_i32_14 : BitVec 32 := 1#32
  let v27 : BitVec 32 := Scalar.subi arg1 c1_i32_14
  let c128_i32 : BitVec 32 := 128#32
  let v28 : BitVec 32 := Scalar.muli v27 c128_i32
  let v29 : BitVec 32 := Scalar.maxsi c0_i32_15 v28
  let v30 : BitVec 32 := Scalar.minsi c896_i32 v29
  let v31 : BitVec 32 := v30
  let v32 : Index := Scalar.indexCast v31
  let c0_16 : Index := 0#32
  ![v32.toNat, 0]
def k0_off7 (i : grid0.Coords) : Fin 3 → Nat :=
  let c1_i32_29 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : BitVec 32 := Scalar.subi c1_i32_29 v9
  let v61 : Index := Scalar.indexCast v60
  let c896_i32 : BitVec 32 := 896#32
  let c0_i32_15 : BitVec 32 := 0#32
  let arg1 : BitVec 32 := BitVec.ofNat 32 (i 1).val
  let c1_i32_14 : BitVec 32 := 1#32
  let v27 : BitVec 32 := Scalar.subi arg1 c1_i32_14
  let c128_i32 : BitVec 32 := 128#32
  let v28 : BitVec 32 := Scalar.muli v27 c128_i32
  let v29 : BitVec 32 := Scalar.maxsi c0_i32_15 v28
  let v30 : BitVec 32 := Scalar.minsi c896_i32 v29
  let v31 : BitVec 32 := v30
  let v62 : Index := Scalar.indexCast v31
  let c0_30 : Index := 0#32
  ![v61.toNat, v62.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .eq arg1 c0_i32_0
  let v2 : BitVec 1 := Scalar.andi v0 v1
  let c1_i32 : BitVec 32 := 1#32
  let v3 : BitVec 32 := Scalar.addi arg0 c1_i32
  let c15_i32 : BitVec 32 := 15#32
  let v4 : BitVec 32 := Scalar.minsi v3 c15_i32
  let c0_i32_1 : BitVec 32 := 0#32
  let v5 : BitVec 32 := Scalar.select v2 c0_i32_1 v4
  let c0_i32_2 : BitVec 32 := 0#32
  let c0_i32_3 : BitVec 32 := 0#32
  ![v5.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .eq arg1 c0_i32_0
  let v2 : BitVec 1 := Scalar.andi v0 v1
  let c1_i32 : BitVec 32 := 1#32
  let v3 : BitVec 32 := Scalar.addi arg0 c1_i32
  let c15_i32 : BitVec 32 := 15#32
  let v4 : BitVec 32 := Scalar.minsi v3 c15_i32
  let c0_i32_1 : BitVec 32 := 0#32
  let v5 : BitVec 32 := Scalar.select v2 c0_i32_1 v4
  let c1024_i32 : BitVec 32 := 1024#32
  let v6 : BitVec 32 := Scalar.muli v5 c1024_i32
  let c2048_i32 : BitVec 32 := 2048#32
  let v7 : BitVec 32 := Scalar.divsi v6 c2048_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c2048_i32 c0_i32_4
  let v14 : BitVec 32 := Scalar.extui v13
  let c0_i32_5 : BitVec 32 := 0#32
  let v15 : BitVec 1 := Scalar.cmpi .slt c2048_i32 c0_i32_5
  let v16 : BitVec 32 := Scalar.extui v15
  let v17 : BitVec 32 := Scalar.subi v14 v16
  let v18 : BitVec 1 := Scalar.cmpi .ne v12 v17
  let v19 : BitVec 32 := Scalar.remsi v6 c2048_i32
  let c0_i32_6 : BitVec 32 := 0#32
  let v20 : BitVec 1 := Scalar.cmpi .ne v19 c0_i32_6
  let v21 : BitVec 1 := Scalar.andi v18 v20
  let c1_i32_7 : BitVec 32 := 1#32
  let v22 : BitVec 32 := Scalar.subi v7 c1_i32_7
  let v23 : BitVec 32 := Scalar.select v21 v22 v7
  let c0_i32_8 : BitVec 32 := 0#32
  let c0_i32_9 : BitVec 32 := 0#32
  let c0_i32_10 : BitVec 32 := 0#32
  ![v23.toNat, c0_i32_8.toNat, c0_i32_9.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .eq arg1 c0_i32_0
  let v2 : BitVec 1 := Scalar.andi v0 v1
  let c1_i32 : BitVec 32 := 1#32
  let v3 : BitVec 32 := Scalar.addi arg0 c1_i32
  let c15_i32 : BitVec 32 := 15#32
  let v4 : BitVec 32 := Scalar.minsi v3 c15_i32
  let c0_i32_1 : BitVec 32 := 0#32
  let v5 : BitVec 32 := Scalar.select v2 c0_i32_1 v4
  let c1024_i32 : BitVec 32 := 1024#32
  let v6 : BitVec 32 := Scalar.muli v5 c1024_i32
  let c2048_i32 : BitVec 32 := 2048#32
  let v7 : BitVec 32 := Scalar.divsi v6 c2048_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c2048_i32 c0_i32_4
  let v14 : BitVec 32 := Scalar.extui v13
  let c0_i32_5 : BitVec 32 := 0#32
  let v15 : BitVec 1 := Scalar.cmpi .slt c2048_i32 c0_i32_5
  let v16 : BitVec 32 := Scalar.extui v15
  let v17 : BitVec 32 := Scalar.subi v14 v16
  let v18 : BitVec 1 := Scalar.cmpi .ne v12 v17
  let v19 : BitVec 32 := Scalar.remsi v6 c2048_i32
  let c0_i32_6 : BitVec 32 := 0#32
  let v20 : BitVec 1 := Scalar.cmpi .ne v19 c0_i32_6
  let v21 : BitVec 1 := Scalar.andi v18 v20
  let c1_i32_7 : BitVec 32 := 1#32
  let v22 : BitVec 32 := Scalar.subi v7 c1_i32_7
  let v23 : BitVec 32 := Scalar.select v21 v22 v7
  let c0_i32_8 : BitVec 32 := 0#32
  let c0_i32_9 : BitVec 32 := 0#32
  let c0_i32_10 : BitVec 32 := 0#32
  ![v23.toNat, c0_i32_8.toNat, c0_i32_9.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8x2048x2048 : Shape := ⟨3, ![8, 2048, 2048]⟩
abbrev S2048 : Shape := ⟨1, ![2048]⟩
abbrev S8x2048 : Shape := ⟨2, ![8, 2048]⟩
abbrev S2x2048x13360 : Shape := ⟨3, ![2, 2048, 13360]⟩
abbrev S_ : Shape := ⟨0, ![]⟩
abbrev S8x2048x1 : Shape := ⟨3, ![8, 2048, 1]⟩
abbrev S1x1x2048 : Shape := ⟨3, ![1, 1, 2048]⟩
abbrev S8x1x2048 : Shape := ⟨3, ![8, 1, 2048]⟩
abbrev S1x2048x13360 : Shape := ⟨3, ![1, 2048, 13360]⟩
abbrev S2048x13360 : Shape := ⟨2, ![2048, 13360]⟩
abbrev S8x2048x13360 : Shape := ⟨3, ![8, 2048, 13360]⟩
abbrev S16384x13360 : Shape := ⟨2, ![16384, 13360]⟩
abbrev S16384x2048 : Shape := ⟨2, ![16384, 2048]⟩
abbrev S16384x3072 : Shape := ⟨2, ![16384, 3072]⟩
abbrev S16384x8192 : Shape := ⟨2, ![16384, 8192]⟩
abbrev S16384x48 : Shape := ⟨2, ![16384, 48]⟩
abbrev S16384x464 : Shape := ⟨2, ![16384, 464]⟩
abbrev S16384x13824 : Shape := ⟨2, ![16384, 13824]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2x2048x13360, .f32⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | .hbm, ⟨21, _⟩ => ⟨S8x1x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x2048x2048, .f32⟩
  | .hbm, ⟨26, _⟩ => ⟨S8x2048x2048, .f32⟩
  | .hbm, ⟨27, _⟩ => ⟨S8x1x2048, .f32⟩
  | .hbm, ⟨28, _⟩ => ⟨S8x2048x2048, .f32⟩
  | .hbm, ⟨29, _⟩ => ⟨S8x2048x2048, .f32⟩
  | .hbm, ⟨30, _⟩ => ⟨S1x2048x13360, .f32⟩
  | .hbm, ⟨31, _⟩ => ⟨S2048x13360, .f32⟩
  | .hbm, ⟨32, _⟩ => ⟨S8x2048x13360, .f32⟩
  | .hbm, ⟨33, _⟩ => ⟨S16384x13360, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x3072, .f32⟩
  | .hbm, ⟨39, _⟩ => ⟨S16384x8192, .f32⟩
  | .hbm, ⟨40, _⟩ => ⟨S16384x48, .f32⟩
  | .hbm, ⟨41, _⟩ => ⟨S_, .f32⟩
  | .hbm, ⟨42, _⟩ => ⟨S16384x464, .f32⟩
  | .hbm, ⟨43, _⟩ => ⟨S16384x13824, .f32⟩
  | .hbm, ⟨44, _⟩ => ⟨S16384x13824, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel7.lean ====
abbrev S8x2048x2048 : Shape := ⟨3, ![8, 2048, 2048]⟩
abbrev S2048 : Shape := ⟨1, ![2048]⟩
abbrev S8x2048 : Shape := ⟨2, ![8, 2048]⟩
abbrev S2x2048x12288 : Shape := ⟨3, ![2, 2048, 12288]⟩
abbrev S3x6144 : Shape := ⟨2, ![3, 6144]⟩
abbrev S6144 : Shape := ⟨1, ![6144]⟩
abbrev S16384x2048 : Shape := ⟨2, ![16384, 2048]⟩
abbrev S1x2048 : Shape := ⟨2, ![1, 2048]⟩
abbrev S8x1x2048 : Shape := ⟨3, ![8, 1, 2048]⟩
abbrev S1x6144 : Shape := ⟨2, ![1, 6144]⟩
abbrev S16384x6144 : Shape := ⟨2, ![16384, 6144]⟩
abbrev S1024x2048 : Shape := ⟨2, ![1024, 2048]⟩
abbrev S1x1x2048 : Shape := ⟨3, ![1, 1, 2048]⟩
abbrev S1x2048x768 : Shape := ⟨3, ![1, 2048, 768]⟩
abbrev S3x768 : Shape := ⟨2, ![3, 768]⟩
abbrev S1x768 : Shape := ⟨2, ![1, 768]⟩
abbrev S1024x768 : Shape := ⟨2, ![1024, 768]⟩
abbrev S2x1040x2048 : Shape := ⟨3, ![2, 1040, 2048]⟩
abbrev S1024x128 : Shape := ⟨2, ![1024, 128]⟩
abbrev S16x2048 : Shape := ⟨2, ![16, 2048]⟩
abbrev S1x16x2048 : Shape := ⟨3, ![1, 16, 2048]⟩
abbrev S1024 : Shape := ⟨1, ![1024]⟩
abbrev S1024x1 : Shape := ⟨2, ![1024, 1]⟩
abbrev S16x128 : Shape := ⟨2, ![16, 128]⟩
abbrev S1x1040x2048 : Shape := ⟨3, ![1, 1040, 2048]⟩
abbrev S1040x2048 : Shape := ⟨2, ![1040, 2048]⟩
abbrev S2048x768 : Shape := ⟨2, ![2048, 768]⟩
abbrev S1040x768 : Shape := ⟨2, ![1040, 768]⟩
abbrev S160x2048 : Shape := ⟨2, ![160, 2048]⟩
abbrev S160 : Shape := ⟨1, ![160]⟩
abbrev S160x1 : Shape := ⟨2, ![160, 1]⟩
abbrev S1x160x2048 : Shape := ⟨3, ![1, 160, 2048]⟩

abbrev nBuf : Space → Nat
  | .hbm => 14
  | .vmem => 19
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2x2048x12288, .f32⟩
  | .hbm, ⟨5, _⟩ => ⟨S3x6144, .f32⟩
  | .hbm, ⟨6, _⟩ => ⟨S6144, .f32⟩
  | .hbm, ⟨7, _⟩ => ⟨S16384x2048, .f32⟩
  | .hbm, ⟨8, _⟩ => ⟨S1x2048, .f32⟩
  | .hbm, ⟨9, _⟩ => ⟨S8x1x2048, .f32⟩
  | .hbm, ⟨10, _⟩ => ⟨S8x1x2048, .f32⟩
  | .hbm, ⟨11, _⟩ => ⟨S2x2048x12288, .bf16⟩
  | .hbm, ⟨12, _⟩ => ⟨S1x6144, .f32⟩
  | .hbm, ⟨13, _⟩ => ⟨S16384x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x768, .bf16⟩
  | .local _ .vmem, ⟨8, _⟩ => ⟨S1x2048x768, .bf16⟩
  | .local _ .vmem, ⟨9, _⟩ => ⟨S1x2048x768, .bf16⟩
  | .local _ .vmem, ⟨10, _⟩ => ⟨S1x2048x768, .bf16⟩
  | .local _ .vmem, ⟨11, _⟩ => ⟨S3x768, .f32⟩
  | .local _ .vmem, ⟨12, _⟩ => ⟨S3x768, .f32⟩
  | .local _ .vmem, ⟨13, _⟩ => ⟨S1x768, .f32⟩
  | .local _ .vmem, ⟨14, _⟩ => ⟨S1x768, .f32⟩
  | .local _ .vmem, ⟨15, _⟩ => ⟨S1024x768, .bf16⟩
  | .local _ .vmem, ⟨16, _⟩ => ⟨S1024x768, .bf16⟩
  | .local _ .vmem, ⟨17, _⟩ => ⟨S2x1040x2048, .bf16⟩
  | .local _ .vmem, ⟨18, _⟩ => ⟨S1024x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let arg1 : BitVec 32 := BitVec.ofNat 32 (i 1).val
  let c0_i32_4 : BitVec 32 := 0#32
  let v11 : BitVec 1 := Scalar.cmpi .eq arg1 c0_i32_4
  let v12 : BitVec 1 := Scalar.andi v10 v11
  let v13 : BitVec 32 := Scalar.extui v12
  let c0_i32_5 : BitVec 32 := 0#32
  let v14 : BitVec 1 := Scalar.cmpi .ne v13 c0_i32_5
  v14

@[reducible] def k0_t1_loop : Scf.Loop 32 :=
  let c0_i32_80 : BitVec 32 := 0#32
  let c64_i32 : BitVec 32 := 64#32
  let v161 : BitVec 32 := Scalar.addi c0_i32_80 c64_i32
  let c1_i32_81 : BitVec 32 := 1#32
  ⟨c0_i32_80, v161, c1_i32_81⟩
def k0_mult1 (k0_t1 : Fin k0_t1_loop.trips) : BitVec 32 :=
  let c0_i32_80 : BitVec 32 := 0#32
  let c1_i32_81 : BitVec 32 := 1#32
  let arg13 : BitVec 32 := Scf.iv c0_i32_80 c1_i32_81 k0_t1
  let c16_i32_83 : BitVec 32 := 16#32
  let v162 : BitVec 32 := Scalar.muli arg13 c16_i32_83
  v162
def k0_off1 (k0_t1 : Fin k0_t1_loop.trips) : Fin 2 → Nat :=
  let c0_i32_80 : BitVec 32 := 0#32
  let c1_i32_81 : BitVec 32 := 1#32
  let arg13 : BitVec 32 := Scf.iv c0_i32_80 c1_i32_81 k0_t1
  let c16_i32_83 : BitVec 32 := 16#32
  let v162 : BitVec 32 := Scalar.muli arg13 c16_i32_83
  let v163 : BitVec 32 := v162
  let v164 : Index := Scalar.indexCast v163
  let c0_84 : Index := 0#32
  ![v164.toNat, 0]
def k0_off2 (k0_t1 : Fin k0_t1_loop.trips) : Fin 2 → Nat :=
  let c0_i32_80 : BitVec 32 := 0#32
  let c1_i32_81 : BitVec 32 := 1#32
  let arg13 : BitVec 32 := Scf.iv c0_i32_80 c1_i32_81 k0_t1
  let c16_i32_83 : BitVec 32 := 16#32
  let v162 : BitVec 32 := Scalar.muli arg13 c16_i32_83
  let v163 : BitVec 32 := v162
  let v167 : Index := Scalar.indexCast v163
  let c0_85 : Index := 0#32
  ![v167.toNat, 0]
def k0_off3 (k0_t1 : Fin k0_t1_loop.trips) : Fin 2 → Nat :=
  let c16_i32_86 : BitVec 32 := 16#32
  let c0_i32_80 : BitVec 32 := 0#32
  let c1_i32_81 : BitVec 32 := 1#32
  let arg13 : BitVec 32 := Scf.iv c0_i32_80 c1_i32_81 k0_t1
  let c16_i32_83 : BitVec 32 := 16#32
  let v162 : BitVec 32 := Scalar.muli arg13 c16_i32_83
  let v163 : BitVec 32 := v162
  let v178 : BitVec 32 := Scalar.addi c16_i32_86 v163
  let v181 : Index := Scalar.indexCast v178
  let c0_89 : Index := 0#32
  ![v181.toNat, 0]
def k0_off4 (k0_t1 : Fin k0_t1_loop.trips) : Fin 3 → Nat :=
  let c0_i32_79 : BitVec 32 := 0#32
  let c16_i32_86 : BitVec 32 := 16#32
  let c0_i32_80 : BitVec 32 := 0#32
  let c1_i32_81 : BitVec 32 := 1#32
  let arg13 : BitVec 32 := Scf.iv c0_i32_80 c1_i32_81 k0_t1
  let c16_i32_83 : BitVec 32 := 16#32
  let v162 : BitVec 32 := Scalar.muli arg13 c16_i32_83
  let v163 : BitVec 32 := v162
  let v178 : BitVec 32 := Scalar.addi c16_i32_86 v163
  let v181 : Index := Scalar.indexCast v178
  let c0_i32_88 : BitVec 32 := 0#32
  ![0, v181.toNat, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v15 : Index := Scalar.indexCast v9
  let c0 : Index := 0#32
  let c0_6 : Index := 0#32
  ![v15.toNat, 0, 0]
def k0_mult2 (i : grid0.Coords) : BitVec 32 :=
  let c864_i32 : BitVec 32 := 864#32
  let c0_i32_39 : BitVec 32 := 0#32
  let arg1 : BitVec 32 := BitVec.ofNat 32 (i 1).val
  let c1_i32_38 : BitVec 32 := 1#32
  let v86 : BitVec 32 := Scalar.subi arg1 c1_i32_38
  let c160_i32 : BitVec 32 := 160#32
  let v87 : BitVec 32 := Scalar.muli v86 c160_i32
  let v88 : BitVec 32 := Scalar.maxsi c0_i32_39 v87
  let v89 : BitVec 32 := Scalar.minsi c864_i32 v88
  v89
def k0_off6 (i : grid0.Coords) : Fin 2 → Nat :=
  let c864_i32 : BitVec 32 := 864#32
  let c0_i32_39 : BitVec 32 := 0#32
  let arg1 : BitVec 32 := BitVec.ofNat 32 (i 1).val
  let c1_i32_38 : BitVec 32 := 1#32
  let v86 : BitVec 32 := Scalar.subi arg1 c1_i32_38
  let c160_i32 : BitVec 32 := 160#32
  let v87 : BitVec 32 := Scalar.muli v86 c160_i32
  let v88 : BitVec 32 := Scalar.maxsi c0_i32_39 v87
  let v89 : BitVec 32 := Scalar.minsi c864_i32 v88
  let v90 : BitVec 32 := v89
  let v91 : Index := Scalar.indexCast v90
  let c0_40 : Index := 0#32
  ![v91.toNat, 0]
def k0_off7 (i : grid0.Coords) : Fin 3 → Nat :=
  let c1_i32_53 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v119 : BitVec 32 := Scalar.subi c1_i32_53 v9
  let v121 : Index := Scalar.indexCast v119
  let c16_i32 : BitVec 32 := 16#32
  let c864_i32 : BitVec 32 := 864#32
  let c0_i32_39 : BitVec 32 := 0#32
  let arg1 : BitVec 32 := BitVec.ofNat 32 (i 1).val
  let c1_i32_38 : BitVec 32 := 1#32
  let v86 : BitVec 32 := Scalar.subi arg1 c1_i32_38
  let c160_i32 : BitVec 32 := 160#32
  let v87 : BitVec 32 := Scalar.muli v86 c160_i32
  let v88 : BitVec 32 := Scalar.maxsi c0_i32_39 v87
  let v89 : BitVec 32 := Scalar.minsi c864_i32 v88
  let v90 : BitVec 32 := v89
  let v120 : BitVec 32 := Scalar.addi c16_i32 v90
  let v122 : Index := Scalar.indexCast v120
  let c0_54 : Index := 0#32
  ![v121.toNat, v122.toNat, 0]
def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v126 : Index := Scalar.indexCast v9
  let c1024 : Index := 1024#32
  let c0_55 : Index := 0#32
  ![v126.toNat, 1024, 0]
def k0_off9 (i : grid0.Coords) : Fin 3 → Nat :=
  let c1_i32_56 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v129 : BitVec 32 := Scalar.subi c1_i32_56 v9
  let v130 : Index := Scalar.indexCast v129
  let c0_57 : Index := 0#32
  let c0_58 : Index := 0#32
  ![v130.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .eq arg1 c0_i32_0
  let v2 : BitVec 1 := Scalar.andi v0 v1
  let c1_i32 : BitVec 32 := 1#32
  let v3 : BitVec 32 := Scalar.addi arg0 c1_i32
  let c15_i32 : BitVec 32 := 15#32
  let v4 : BitVec 32 := Scalar.minsi v3 c15_i32
  let c0_i32_1 : BitVec 32 := 0#32
  let v5 : BitVec 32 := Scalar.select v2 c0_i32_1 v4
  let c0_i32_2 : BitVec 32 := 0#32
  let c0_i32_3 : BitVec 32 := 0#32
  ![v5.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .eq arg1 c0_i32_0
  let v2 : BitVec 1 := Scalar.andi v0 v1
  let c1_i32 : BitVec 32 := 1#32
  let v3 : BitVec 32 := Scalar.addi arg0 c1_i32
  let c15_i32 : BitVec 32 := 15#32
  let v4 : BitVec 32 := Scalar.minsi v3 c15_i32
  let c0_i32_1 : BitVec 32 := 0#32
  let v5 : BitVec 32 := Scalar.select v2 c0_i32_1 v4
  let c1024_i32 : BitVec 32 := 1024#32
  let v6 : BitVec 32 := Scalar.muli v5 c1024_i32
  let c2048_i32 : BitVec 32 := 2048#32
  let v7 : BitVec 32 := Scalar.divsi v6 c2048_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c2048_i32 c0_i32_4
  let v14 : BitVec 32 := Scalar.extui v13
  let c0_i32_5 : BitVec 32 := 0#32
  let v15 : BitVec 1 := Scalar.cmpi .slt c2048_i32 c0_i32_5
  let v16 : BitVec 32 := Scalar.extui v15
  let v17 : BitVec 32 := Scalar.subi v14 v16
  let v18 : BitVec 1 := Scalar.cmpi .ne v12 v17
  let v19 : BitVec 32 := Scalar.remsi v6 c2048_i32
  let c0_i32_6 : BitVec 32 := 0#32
  let v20 : BitVec 1 := Scalar.cmpi .ne v19 c0_i32_6
  let v21 : BitVec 1 := Scalar.andi v18 v20
  let c1_i32_7 : BitVec 32 := 1#32
  let v22 : BitVec 32 := Scalar.subi v7 c1_i32_7
  let v23 : BitVec 32 := Scalar.select v21 v22 v7
  let c0_i32_8 : BitVec 32 := 0#32
  let c0_i32_9 : BitVec 32 := 0#32
  let c0_i32_10 : BitVec 32 := 0#32
  ![v23.toNat, c0_i32_8.toNat, c0_i32_9.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .eq arg1 c0_i32_0
  let v2 : BitVec 1 := Scalar.andi v0 v1
  let c1_i32 : BitVec 32 := 1#32
  let v3 : BitVec 32 := Scalar.addi arg0 c1_i32
  let c15_i32 : BitVec 32 := 15#32
  let v4 : BitVec 32 := Scalar.minsi v3 c15_i32
  let c0_i32_1 : BitVec 32 := 0#32
  let v5 : BitVec 32 := Scalar.select v2 c0_i32_1 v4
  let c1024_i32 : BitVec 32 := 1024#32
  let v6 : BitVec 32 := Scalar.muli v5 c1024_i32
  let c2048_i32 : BitVec 32 := 2048#32
  let v7 : BitVec 32 := Scalar.divsi v6 c2048_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c2048_i32 c0_i32_4
  let v14 : BitVec 32 := Scalar.extui v13
  let c0_i32_5 : BitVec 32 := 0#32
  let v15 : BitVec 1 := Scalar.cmpi .slt c2048_i32 c0_i32_5
  let v16 : BitVec 32 := Scalar.extui v15
  let v17 : BitVec 32 := Scalar.subi v14 v16
  let v18 : BitVec 1 := Scalar.cmpi .ne v12 v17
  let v19 : BitVec 32 := Scalar.remsi v6 c2048_i32
  let c0_i32_6 : BitVec 32 := 0#32
  let v20 : BitVec 1 := Scalar.cmpi .ne v19 c0_i32_6
  let v21 : BitVec 1 := Scalar.andi v18 v20
  let c1_i32_7 : BitVec 32 := 1#32
  let v22 : BitVec 32 := Scalar.subi v7 c1_i32_7
  let v23 : BitVec 32 := Scalar.select v21 v22 v7
  let c0_i32_8 : BitVec 32 := 0#32
  let c0_i32_9 : BitVec 32 := 0#32
  let c0_i32_10 : BitVec 32 := 0#32
  ![v23.toNat, c0_i32_8.toNat, c0_i32_9.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S8x2048x2048 : Shape := ⟨3, ![8, 2048, 2048]⟩
abbrev S2048 : Shape := ⟨1, ![2048]⟩
abbrev S8x2048 : Shape := ⟨2, ![8, 2048]⟩
abbrev S2x2048x12288 : Shape := ⟨3, ![2, 2048, 12288]⟩
abbrev S3x6144 : Shape := ⟨2, ![3, 6144]⟩
abbrev S6144 : Shape := ⟨1, ![6144]⟩
abbrev S_ : Shape := ⟨0, ![]⟩
abbrev S8x2048x1 : Shape := ⟨3, ![8, 2048, 1]⟩
abbrev S1x1x2048 : Shape := ⟨3, ![1, 1, 2048]⟩
abbrev S8x1x2048 : Shape := ⟨3, ![8, 1, 2048]⟩
abbrev S1x2048x12288 : Shape := ⟨3, ![1, 2048, 12288]⟩
abbrev S2048x12288 : Shape := ⟨2, ![2048, 12288]⟩
abbrev S8x2048x12288 : Shape := ⟨3, ![8, 2048, 12288]⟩
abbrev S8x2048x6144 : Shape := ⟨3, ![8, 2048, 6144]⟩
abbrev S8x2050x6144 : Shape := ⟨3, ![8, 2050, 6144]⟩
abbrev S1x6144 : Shape := ⟨2, ![1, 6144]⟩
abbrev S1x1x6144 : Shape := ⟨3, ![1, 1, 6144]⟩
abbrev S16384x6144 : Shape := ⟨2, ![16384, 6144]⟩

abbrev nBuf : Space → Nat
  | .hbm => 83
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2x2048x12288, .f32⟩
  | .hbm, ⟨5, _⟩ => ⟨S3x6144, .f32⟩
  | .hbm, ⟨6, _⟩ => ⟨S6144, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S8x1x2048, .f32⟩
  | .hbm, ⟨24, _⟩ => ⟨S_, .f32⟩
  | .hbm, ⟨25, _⟩ => ⟨S8x1x2048, .f32⟩
  | .hbm, ⟨26, _⟩ => ⟨S8x1x2048, .f32⟩
  | .hbm, ⟨27, _⟩ => ⟨S8x2048x2048, .f32⟩
  | .hbm, ⟨28, _⟩ => ⟨S8x2048x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S1x2048x12288, .f32⟩
  | .hbm, ⟨33, _⟩ => ⟨S2048x12288, .f32⟩
  | .hbm, ⟨34, _⟩ => ⟨S8x2048x12288, .f32⟩
  | .hbm, ⟨35, _⟩ => ⟨S8x2048x6144, .f32⟩
  | .hbm, ⟨36, _⟩ => ⟨S8x2048x6144, .f32⟩
  | .hbm, ⟨37, _⟩ => ⟨S_, .i32⟩
  | .hbm, ⟨38, _⟩ => ⟨S_, .f32⟩
  | .hbm, ⟨39, _⟩ => ⟨S8x2050x6144, .f32⟩
  | .hbm, ⟨40, _⟩ => ⟨S8x2048x6144, .f32⟩
  | .hbm, ⟨41, _⟩ => ⟨S1x6144, .f32⟩
  | .hbm, ⟨42, _⟩ => ⟨S6144, .f32⟩
  | .hbm, ⟨43, _⟩ => ⟨S1x1x6144, .f32⟩
  | .hbm, ⟨44, _⟩ => ⟨S8x2048x6144, .f32⟩
  | .hbm, ⟨45, _⟩ => ⟨S8x2048x6144, .f32⟩
  | .hbm, ⟨46, _⟩ => ⟨S1x1x6144, .f32⟩
  | .hbm, ⟨47, _⟩ => ⟨S8x2048x6144, .f32⟩
  | .hbm, ⟨48, _⟩ => ⟨S8x2048x6144, .f32⟩
  | .hbm, ⟨49, _⟩ => ⟨S8x2048x6144, .f32⟩
  | .hbm, ⟨50, _⟩ => ⟨S1x6144, .f32⟩
  | .hbm, ⟨51, _⟩ => ⟨S6144, .f32⟩
  | .hbm, ⟨52, _⟩ => ⟨S1x1x6144, .f32⟩
  | .hbm, ⟨53, _⟩ => ⟨S8x2048x6144, .f32⟩
  | .hbm, ⟨54, _⟩ => ⟨S8x2048x6144, .f32⟩
  | .hbm, ⟨55, _⟩ => ⟨S8x2048x6144, .f32⟩
  | .hbm, ⟨56, _⟩ => ⟨S8x2048x6144, .f32⟩
  | .hbm, ⟨57, _⟩ => ⟨S1x6144, .f32⟩
  | .hbm, ⟨58, _⟩ => ⟨S6144, .f32⟩
  | .hbm, ⟨59, _⟩ => ⟨S1x1x6144, .f32⟩
  | .hbm, ⟨60, _⟩ => ⟨S8x2048x6144, .f32⟩
  | .hbm, ⟨61, _⟩ => ⟨S8x2048x6144, .f32⟩
  | .hbm, ⟨62, _⟩ => ⟨S8x2048x6144, .f32⟩
  | .hbm, ⟨63, _⟩ => ⟨S8x2048x6144, .f32⟩
  | .hbm, ⟨64, _⟩ => ⟨S8x2048x6144, .f32⟩
  | .hbm, ⟨65, _⟩ => ⟨S_, .f32⟩
  | .hbm, ⟨66, _⟩ => ⟨S8x2048x6144, .f32⟩
  | .hbm, ⟨67, _⟩ => ⟨S8x2048x6144, .f32⟩
  | .hbm, ⟨68, _⟩ => ⟨S8x2048x6144, .f32⟩
  | .hbm, ⟨69, _⟩ => ⟨S_, .f32⟩
  | .hbm, ⟨70, _⟩ => ⟨S8x2048x6144, .f32⟩
  | .hbm, ⟨71, _⟩ => ⟨S8x2048x6144, .f32⟩
  | .hbm, ⟨72, _⟩ => ⟨S8x2048x6144, .f32⟩
  | .hbm, ⟨73, _⟩ => ⟨S_, .f32⟩
  | .hbm, ⟨74, _⟩ => ⟨S8x2048x6144, .f32⟩
  | .hbm, ⟨75, _⟩ => ⟨S8x2048x6144, .f32⟩
  | .hbm, ⟨76, _⟩ => ⟨S_, .f32⟩
  | .hbm, ⟨77, _⟩ => ⟨S8x2048x6144, .f32⟩
  | .hbm, ⟨78, _⟩ => ⟨S8x2048x6144, .f32⟩
  | .hbm, ⟨79, _⟩ => ⟨S8x2048x6144, .f32⟩
  | .hbm, ⟨80, _⟩ => ⟨S8x2048x6144, .f32⟩
  | .hbm, ⟨81, _⟩ => ⟨S16384x6144, .f32⟩
  | .hbm, ⟨82, _⟩ => ⟨S16384x6144, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_3 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== Proof.LruLoop.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Tactic

@[expose] public section

noncomputable section

namespace Cert.Proof.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (arg13 : Memref sig .tc .vmem S2112x128 .f32) (arg14 : Memref sig .tc .vmem S2112x128 .f32)

/-- What the time loop works on: the decay buffer, the state buffer, and the two carried registers
(the running state of each segment and the running product of decays of each segment). -/
structure Scan where
  fa : Buf (Elt F) (arg13.view.loc (c : Thread nD τ))
  fh : Buf (Elt F) (arg14.view.loc (c : Thread nD τ))
  acc : FVec F S8x128 .f32 × FVec F S8x128 .f32

/-- The rows that step `j` of trip `k` touches: one row in each of the eight segments. -/
abbrev rows (k : Fin k0_t1_loop.trips) (j : Fin 8) : LoadRect S2112x128 :=
  ⟨k0_off1 k (BitVec.ofNat 32 j.val), S8x128.size, ![264, 1], k0_off1_inb k j⟩

/-- What the steps of one trip have done so far: the rows written to either buffer, newest first, and the registers. -/
structure Steps where
  la : List (View.Piece (Elt F) S2112x128 (.f32))
  lh : List (View.Piece (Elt F) S2112x128 (.f32))
  acc : FVec F S8x128 .f32 × FVec F S8x128 .f32

variable (fa : Buf (Elt F) (arg13.view.loc (c : Thread nD τ))) (fh : Buf (Elt F) (arg14.view.loc (c : Thread nD τ)))

/-- One time step: the decay row `a` and the input row `b` are read, the state becomes `a * h + b` and the
product `a * p`, and both take the place of the rows read. -/
def micro (k : Fin k0_t1_loop.trips) (j : Fin 8) (s : Steps (F := F)) : Steps (F := F) where
  la := ⟨⟨rows k j, spos_264_1⟩,
    shapeCast S8x128 (mulf (arg13.view.readAt (Elt F) (rows k j) (arg13.view.writes (Elt F) fa s.la)) s.acc.2) shapeCasts_S8x128_S8x128⟩ :: s.la
  lh := ⟨⟨rows k j, spos_264_1⟩,
    shapeCast S8x128 (addf (mulf (arg13.view.readAt (Elt F) (rows k j) (arg13.view.writes (Elt F) fa s.la)) s.acc.1) (arg14.view.readAt (Elt F) (rows k j) (arg14.view.writes (Elt F) fh s.lh))) shapeCasts_S8x128_S8x128⟩ :: s.lh
  acc := (addf (mulf (arg13.view.readAt (Elt F) (rows k j) (arg13.view.writes (Elt F) fa s.la)) s.acc.1) (arg14.view.readAt (Elt F) (rows k j) (arg14.view.writes (Elt F) fh s.lh)),
    mulf (arg13.view.readAt (Elt F) (rows k j) (arg13.view.writes (Elt F) fa s.la)) s.acc.2)

/-- The eight time steps of one trip. -/
def steps8 (k : Fin k0_t1_loop.trips) (acc : FVec F S8x128 .f32 × FVec F S8x128 .f32) : Steps (F := F) :=
  micro c arg13 arg14 fa fh k 7 <| micro c arg13 arg14 fa fh k 6 <| micro c arg13 arg14 fa fh k 5 <| micro c arg13 arg14 fa fh k 4 <|
  micro c arg13 arg14 fa fh k 3 <| micro c arg13 arg14 fa fh k 2 <| micro c arg13 arg14 fa fh k 1 <| micro c arg13 arg14 fa fh k 0 ⟨[], [], acc⟩

/-- One trip of the loop: eight time steps. -/
def macro8 (k : Fin k0_t1_loop.trips) (s : Scan (F := F) c arg13 arg14) : Scan (F := F) c arg13 arg14 where
  fa := arg13.view.writes (Elt F) s.fa (steps8 c arg13 arg14 s.fa s.fh k s.acc).la
  fh := arg14.view.writes (Elt F) s.fh (steps8 c arg13 arg14 s.fa s.fh k s.acc).lh
  acc := (steps8 c arg13 arg14 s.fa s.fh k s.acc).acc

/-- What the loop works on before trip `k`, from what it is entered with. -/
def scanAt (s : Scan (F := F) c arg13 arg14) : ℕ → Scan (F := F) c arg13 arg14
  | 0 => s
  | k + 1 => if h : k < k0_t1_loop.trips then macro8 c arg13 arg14 ⟨k, h⟩ (scanAt s k) else scanAt s k

/-- The loop's entry: the buffers as they are found, the state at zero, the product at one. -/
def entry :
    Scan (F := F) c arg13 arg14 := ⟨fa, fh, (k0_pay59, k0_pay60)⟩

/-- The two buffers, held at what the scan says. -/
abbrev held (s : Scan (F := F) c arg13 arg14) : sProp 𝕄 :=
  iprop((arg13.view.loc (c : Thread nD τ) ↦[arg13.view.set]{fullShare} s.fa) ∗ (arg14.view.loc (c : Thread nD τ) ↦[arg14.view.set]{fullShare} s.fh))

set_option maxHeartbeats 400000 in
/-- One trip of the loop's region, on whatever the buffers hold, is eight time steps. -/
theorem trip_run (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x128 .bf16) (harg6 : arg6.IsWhole) (arg7 : Memref sig .tc .vmem S1x128 .f32) (harg7 : arg7.IsWhole) (arg8 : Memref sig .tc .vmem S1x128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S2048x128 .bf16) (harg11 : arg11.IsWhole) (arg12 : Memref sig .tc .vmem S2056x128 .f32) (harg12 : arg12.IsWhole) (arg13 : Memref sig .tc .vmem S2112x128 .f32) (harg13 : arg13.IsWhole) (arg14 : Memref sig .tc .vmem S2112x128 .f32) (harg14 : arg14.IsWhole) (v84 : FVec F S2048x128 .f32) (v144 : FVec F S256x128 .f32)
    (k : Fin k0_t1_loop.trips) (s : Scan (F := F) c arg13 arg14) :
    held c arg13 arg14 s
      ⊢ wp (M := 𝕄) frame (wpE (defs₀ (F := F)) Variants.none (c : Thread nD τ) none) Set.univ
        (k0_t1_body i arg2 harg2 arg3 harg3 arg4 harg4 arg5 harg5 arg6 harg6 arg7 harg7 arg8 harg8 arg9 harg9 arg10 harg10 arg11 harg11 arg12 harg12 arg13 harg13 arg14 harg14 v84 v144 k s.acc)
        (fun acc' => iprop((arg13.view.loc (c : Thread nD τ) ↦[arg13.view.set]{fullShare} (macro8 c arg13 arg14 k s).fa) ∗ (arg14.view.loc (c : Thread nD τ) ↦[arg14.view.set]{fullShare} (macro8 c arg13 arg14 k s).fh) ∗ ⌜acc' = (macro8 c arg13 arg14 k s).acc⌝)) := by
  obtain ⟨fa, fh, acc⟩ := s
  unfold k0_t1_body
  simp only [k0_part1_eq_skeleton, k0_part2_eq_skeleton, k0_part3_eq_skeleton]
  iintro ⟨H13, H14⟩
  sl_exec
  sl_step
  isplitl [H13]
  · iexact H13
  isplitl [H14]
  · iexact H14
  ipureintro
  rfl

/-- The time loop's invariant: before trip `k` the buffers and the registers are those of `scanAt … k`. -/
def invAt (k : ℕ) (acc : FVec F S8x128 .f32 × FVec F S8x128 .f32) : sProp 𝕄 :=
  iprop((arg13.view.loc (c : Thread nD τ) ↦[arg13.view.set]{fullShare} (scanAt c arg13 arg14 (entry c arg13 arg14 fa fh) k).fa)
    ∗ (arg14.view.loc (c : Thread nD τ) ↦[arg14.view.set]{fullShare} (scanAt c arg13 arg14 (entry c arg13 arg14 fa fh) k).fh)
    ∗ ⌜acc = (scanAt c arg13 arg14 (entry c arg13 arg14 fa fh) k).acc⌝)

/-- One trip takes the invariant to the invariant at the next trip. -/
theorem inv_step (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x128 .bf16) (harg6 : arg6.IsWhole) (arg7 : Memref sig .tc .vmem S1x128 .f32) (harg7 : arg7.IsWhole) (arg8 : Memref sig .tc .vmem S1x128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S2048x128 .bf16) (harg11 : arg11.IsWhole) (arg12 : Memref sig .tc .vmem S2056x128 .f32) (harg12 : arg12.IsWhole) (arg13 : Memref sig .tc .vmem S2112x128 .f32) (harg13 : arg13.IsWhole) (arg14 : Memref sig .tc .vmem S2112x128 .f32) (harg14 : arg14.IsWhole) (v84 : FVec F S2048x128 .f32) (v144 : FVec F S256x128 .f32)
    (fa : Buf (Elt F) (arg13.view.loc (c : Thread nD τ))) (fh : Buf (Elt F) (arg14.view.loc (c : Thread nD τ)))
    (k : Fin k0_t1_loop.trips) (acc : FVec F S8x128 .f32 × FVec F S8x128 .f32) :
    invAt c arg13 arg14 fa fh k acc ⊢ wp frame (wpE (defs₀ (F := F)) Variants.none (c : Thread nD τ) none) Set.univ
      (k0_t1_body i arg2 harg2 arg3 harg3 arg4 harg4 arg5 harg5 arg6 harg6 arg7 harg7 arg8 harg8 arg9 harg9 arg10 harg10 arg11 harg11 arg12 harg12 arg13 harg13 arg14 harg14 v84 v144 k acc) (invAt c arg13 arg14 fa fh (k.val + 1)) := by
  have e : scanAt c arg13 arg14 (entry c arg13 arg14 fa fh) (k.val + 1) = macro8 c arg13 arg14 k (scanAt c arg13 arg14 (entry c arg13 arg14 fa fh) k.val) := by
    rw [scanAt, dif_pos k.isLt]
  unfold invAt
  rw [e]
  iintro ⟨H13, H14, %h⟩
  subst h
  iapply (trip_run c i arg2 harg2 arg3 harg3 arg4 harg4 arg5 harg5 arg6 harg6 arg7 harg7 arg8 harg8 arg9 harg9 arg10 harg10 arg11 harg11 arg12 harg12 arg13 harg13 arg14 harg14 v84 v144 k (scanAt c arg13 arg14 (entry c arg13 arg14 fa fh) k.val))
  isplitl [H13]
  · iexact H13
  iexact H14

/-- The time loop at the head of a program: from the two buffers at any contents, the program goes on from the
buffers and the registers as the thirty-two trips leave them. -/
theorem wp_time_loop (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x128 .bf16) (harg6 : arg6.IsWhole) (arg7 : Memref sig .tc .vmem S1x128 .f32) (harg7 : arg7.IsWhole) (arg8 : Memref sig .tc .vmem S1x128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S2048x128 .bf16) (harg11 : arg11.IsWhole) (arg12 : Memref sig .tc .vmem S2056x128 .f32) (harg12 : arg12.IsWhole) (arg13 : Memref sig .tc .vmem S2112x128 .f32) (harg13 : arg13.IsWhole) (arg14 : Memref sig .tc .vmem S2112x128 .f32) (harg14 : arg14.IsWhole) (v84 : FVec F S2048x128 .f32) (v144 : FVec F S256x128 .f32)
    (fa : Buf (Elt F) (arg13.view.loc (c : Thread nD τ))) (fh : Buf (Elt F) (arg14.view.loc (c : Thread nD τ)))
    {β : Type} {kk : FVec F S8x128 .f32 × FVec F S8x128 .f32 → Prog (TpuEff nD τ sig (Elt F) Λ₀ .tc) β} {Q : β → sProp 𝕄} :
    iprop((arg13.view.loc (c : Thread nD τ) ↦[arg13.view.set]{fullShare} fa) ∗ (arg14.view.loc (c : Thread nD τ) ↦[arg14.view.set]{fullShare} fh)
      ∗ (∀ s : Scan (F := F) c arg13 arg14, ⌜s = scanAt c arg13 arg14 (entry c arg13 arg14 fa fh) k0_t1_loop.trips⌝
          -∗ (arg13.view.loc (c : Thread nD τ) ↦[arg13.view.set]{fullShare} s.fa) -∗ (arg14.view.loc (c : Thread nD τ) ↦[arg14.view.set]{fullShare} s.fh)
          -∗ wp frame (wpE (defs₀ (F := F)) Variants.none (c : Thread nD τ) none) Set.univ (kk s.acc) Q))
      ⊢ wp frame (wpE (defs₀ (F := F)) Variants.none (c : Thread nD τ) none) Set.univ
        (Scf.Loop.for k0_t1_loop k0_t1_ok (k0_pay59 (F := F), k0_pay60 (F := F)) (k0_t1_body i arg2 harg2 arg3 harg3 arg4 harg4 arg5 harg5 arg6 harg6 arg7 harg7 arg8 harg8 arg9 harg9 arg10 harg10 arg11 harg11 arg12 harg12 arg13 harg13 arg14 harg14 v84 v144) >>= kk) Q := by
  iintro ⟨H13, H14, Hk⟩
  iapply (Scf.wp_for_bind (M := 𝕄) frame (wpE (defs₀ (F := F)) Variants.none (c : Thread nD τ) none) Set.univ
    k0_t1_loop.lb k0_t1_loop.ub k0_t1_loop.st k0_t1_ok (k0_pay59 (F := F), k0_pay60 (F := F)) _
    (invAt c arg13 arg14 fa fh) (inv_step c i arg2 harg2 arg3 harg3 arg4 harg4 arg5 harg5 arg6 harg6 arg7 harg7 arg8 harg8 arg9 harg9 arg10 harg10 arg11 harg11 arg12 harg12 arg13 harg13 arg14 harg14 v84 v144 fa fh)) $$ [H13 H14]
  · unfold invAt
    isplitl [H13]
    · iexact H13
    isplitl [H14]
    · iexact H14
    ipureintro; rfl
  unfold invAt
  iintro %acc ⟨H13, H14, %h⟩
  subst h
  ispecialize Hk $$ %(scanAt c arg13 arg14 (entry c arg13 arg14 fa fh) k0_t1_loop.trips)
  iapply Hk $$ [] [H13] [H14]
  · ipureintro; rfl
  · iexact H13
  iexact H14

end Cert.Proof.Lru

end
-- ==== Proof.LruScan.lean ====
module

public import proofs.«01_k».proof.Proof.LruLoop
public import Idealize.ShloMosaic.Lib.WritesUnit
public import Idealize.ShloMosaic.Lib.Pointwise.Index
public import Idealize.ShloMosaic.Lib.Pointwise.Reshape

@[expose] public section

noncomputable section

namespace Cert.Proof.Lru

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]

/-- The state of one segment in one channel after `n` steps from zero: `h ↦ a * h + b`. -/
def hrun (a b : ℕ → F .f32) : ℕ → F .f32
  | 0 => Scalar.ofBits .f32 0x00000000#32
  | n + 1 => FloatOps.addf (FloatOps.mulf (a n) (hrun a b n)) (b n)

/-- The product of the first `n` decays of one segment in one channel. -/
def prun (a : ℕ → F .f32) : ℕ → F .f32
  | 0 => Scalar.ofBits .f32 0x3F800000#32
  | n + 1 => FloatOps.mulf (a n) (prun a n)

/-- Step `n` of segment `g` in channel `c`, read from a buffer laid out in segments of 264 rows. -/
def cell (x : S2112x128.Idx → F .f32) (g : ℕ) (c : Fin 128) (n : ℕ) : F .f32 :=
  x (ix2 ⟨(264 * g + n) % 2112, Nat.mod_lt _ (by decide)⟩ c)

/-- What the buffers and registers hold once the first `n` steps of every segment are done, told from what the
buffers held before the first: the rows done hold the running products and states, the others what they held. -/
structure Upto (n : ℕ) (xa xh ya yh : S2112x128.Idx → F .f32) (acc : FVec F S8x128 .f32 × FVec F S8x128 .f32) : Prop where
  a : ∀ y : S2112x128.Idx, ya y = if (y 0).val % 264 < n then prun (cell xa ((y 0).val / 264) (y 1)) ((y 0).val % 264 + 1) else xa y
  h : ∀ y : S2112x128.Idx, yh y = if (y 0).val % 264 < n then hrun (cell xa ((y 0).val / 264) (y 1)) (cell xh ((y 0).val / 264) (y 1)) ((y 0).val % 264 + 1) else xh y
  state : ∀ x : S8x128.Idx, acc.1 x = hrun (cell xa (x 0).val (x 1)) (cell xh (x 0).val (x 1)) n
  prod : ∀ x : S8x128.Idx, acc.2 x = prun (cell xa (x 0).val (x 1)) n

variable (c : Dev nD) (arg13 : Memref sig .tc .vmem S2112x128 .f32) (arg14 : Memref sig .tc .vmem S2112x128 .f32)
  (fa : Buf (Elt F) (arg13.view.loc (c : Thread nD τ))) (fh : Buf (Elt F) (arg14.view.loc (c : Thread nD τ)))

/-- The place in the buffer that lane `x` of step `j` of trip `k` touches. -/
theorem rows_idx (k : Fin k0_t1_loop.trips) (j : Fin 8) (x : S8x128.Idx) :
    ((rows k j).idx x 0).val = 264 * (x 0).val + (8 * k.val + j.val) ∧ ((rows k j).idx x 1).val = (x 1).val := by
  constructor
  · show (k0_off1 k (BitVec.ofNat 32 j.val)) 0 + 264 * (x 0).val = _
    rw [k0_off1_eq]
    simp
    omega
  · show (k0_off1 k (BitVec.ofNat 32 j.val)) 1 + 1 * (x 1).val = _
    rw [k0_off1_eq]
    simp

/-- The rows of a step, as a place to write to. -/
abbrev rectOf (k : Fin k0_t1_loop.trips) (j : Fin 8) : Rect S2112x128 := ⟨rows k j, spos_264_1⟩

/-- A place of the buffer not on the rows of a step is not touched by it. -/
theorem rows_not_mem (k : Fin k0_t1_loop.trips) (j : Fin 8) (y : S2112x128.Idx) (hy : (y 0).val % 264 ≠ 8 * k.val + j.val) :
    y ∉ (rectOf k j).set := by
  intro hm
  obtain ⟨x, hx, e⟩ := (rectOf k j).mem_set.mp hm 0
  have hk : k.val < 32 := k.isLt
  have hj := j.isLt
  have e' : (y 0).val = (k0_off1 k (BitVec.ofNat 32 j.val)) 0 + 264 * x := e
  rw [k0_off1_eq] at e'
  simp at e'
  omega

/-- Each place on the rows of a step is one of the step's lanes. -/
theorem rows_place (k : Fin k0_t1_loop.trips) (j : Fin 8) (y : S2112x128.Idx) (hy : (y 0).val % 264 = 8 * k.val + j.val) :
    ∃ x : S8x128.Idx, (x 0).val = (y 0).val / 264 ∧ x 1 = y 1 ∧ (rectOf k j).emb x = y := by
  have hy0 : (y 0).val < 2112 := (y 0).isLt
  refine ⟨ix2 (n0 := 8) (n1 := 128) ⟨(y 0).val / 264, by omega⟩ (y 1), rfl, rfl, ?_⟩
  have hr := rows_idx k j (ix2 (n0 := 8) (n1 := 128) ⟨(y 0).val / 264, by omega⟩ (y 1))
  funext d
  apply Fin.ext
  match d with
  | ⟨0, _⟩ =>
    refine hr.1.trans ?_
    show 264 * ((y 0).val / 264) + _ = (y 0).val
    omega
  | ⟨1, _⟩ => exact hr.2

/-- Writing a step's rows: the buffer then holds the rows written there, and elsewhere what it held. -/
theorem write_rows {sp : Space} (v : View sig .tc sp S2112x128 .f32) (f : v.ty.Contents (Elt F)) (L : List (View.Piece (Elt F) S2112x128 .f32))
    (k : Fin k0_t1_loop.trips) (j : Fin 8) (w : FVec F S8x128 .f32) (n : ℕ) (hn : n = 8 * k.val + j.val) (x0 : S2112x128.Idx → F .f32)
    (R : ℕ → Fin 128 → ℕ → F .f32)
    (H : ∀ y : S2112x128.Idx, v.read (Elt F) (v.writes (Elt F) f L) y = if (y 0).val % 264 < n then R ((y 0).val / 264) (y 1) ((y 0).val % 264 + 1) else x0 y)
    (hw : ∀ x : S8x128.Idx, w x = R (x 0).val (x 1) (n + 1)) (y : S2112x128.Idx) :
    v.read (Elt F) (v.writes (Elt F) f (⟨rectOf k j, w⟩ :: L)) y
      = if (y 0).val % 264 < n + 1 then R ((y 0).val / 264) (y 1) ((y 0).val % 264 + 1) else x0 y := by
  by_cases hy : (y 0).val % 264 = n
  · obtain ⟨x, h0, h1, e⟩ := rows_place k j y (hy.trans hn)
    rw [if_pos (by omega), hy, ← h0, ← h1, ← hw]
    exact View.read_writes_cons_hit v f (rectOf k j) w L x y e
  · rw [View.read_writes_cons_miss v f ⟨rectOf k j, w⟩ L y (rows_not_mem k j y (by omega)), H]
    by_cases hlt : (y 0).val % 264 < n
    · rw [if_pos hlt, if_pos (by omega)]
    · rw [if_neg hlt, if_neg (by omega)]

/-- A step of a trip, done on buffers and registers at `n` steps, leaves them at `n + 1`. -/
theorem micro_upto (xa xh : S2112x128.Idx → F .f32) (k : Fin k0_t1_loop.trips) (j : Fin 8) (s : Steps (F := F)) (n : ℕ) (hn : n = 8 * k.val + j.val)
    (H : Upto n xa xh (arg13.view.read (Elt F) (arg13.view.writes (Elt F) fa s.la)) (arg14.view.read (Elt F) (arg14.view.writes (Elt F) fh s.lh)) s.acc) :
    Upto (n + 1) xa xh (arg13.view.read (Elt F) (arg13.view.writes (Elt F) fa (micro c arg13 arg14 fa fh k j s).la))
      (arg14.view.read (Elt F) (arg14.view.writes (Elt F) fh (micro c arg13 arg14 fa fh k j s).lh)) (micro c arg13 arg14 fa fh k j s).acc := by
  have hk : k.val < 32 := k.isLt
  have hj := j.isLt
  have hidx (x : S8x128.Idx) : ((rows k j).idx x 0).val % 264 = n ∧ ((rows k j).idx x 0).val / 264 = (x 0).val := by
    have := (rows_idx k j x).1
    omega
  have hcell (x : S8x128.Idx) (z : S2112x128.Idx → F .f32) : z ((rows k j).idx x) = cell z (x 0).val (x 1) n := by
    unfold cell
    congr 1
    refine (eq_ix2 _).trans ?_
    have h0 := (rows_idx k j x).1
    have h1 := (rows_idx k j x).2
    have hx : (x 0).val < 8 := (x 0).isLt
    congr 1
    · apply Fin.ext
      show ((rows k j).idx x 0).val = _
      rw [h0]
      show _ = (264 * (x 0).val + n) % 2112
      omega
    · exact Fin.ext h1
  have ra (x : S8x128.Idx) : arg13.view.readAt (Elt F) (rows k j) (arg13.view.writes (Elt F) fa s.la) x = cell xa (x 0).val (x 1) n := by
    rw [View.readAt_apply, H.a, if_neg (by have := (hidx x).1; omega), hcell x xa]
  have rh (x : S8x128.Idx) : arg14.view.readAt (Elt F) (rows k j) (arg14.view.writes (Elt F) fh s.lh) x = cell xh (x 0).val (x 1) n := by
    rw [View.readAt_apply, H.h, if_neg (by have := (hidx x).1; omega), hcell x xh]
  have st (x : S8x128.Idx) : (micro c arg13 arg14 fa fh k j s).acc.1 x = hrun (cell xa (x 0).val (x 1)) (cell xh (x 0).val (x 1)) (n + 1) := by
    show FloatOps.addf (FloatOps.mulf (arg13.view.readAt (Elt F) (rows k j) (arg13.view.writes (Elt F) fa s.la) x) (s.acc.1 x)) (arg14.view.readAt (Elt F) (rows k j) (arg14.view.writes (Elt F) fh s.lh) x) = _
    rw [ra, rh, H.state]
    rfl
  have pr (x : S8x128.Idx) : (micro c arg13 arg14 fa fh k j s).acc.2 x = prun (cell xa (x 0).val (x 1)) (n + 1) := by
    show FloatOps.mulf (arg13.view.readAt (Elt F) (rows k j) (arg13.view.writes (Elt F) fa s.la) x) (s.acc.2 x) = _
    rw [ra, H.prod]
    rfl
  constructor
  · exact write_rows arg13.view fa s.la k j _ n hn xa (fun g d m => prun (cell xa g d) m) H.a (fun x => (congrFun (shapeCast_id _ _) x).trans (pr x))
  · exact write_rows arg14.view fh s.lh k j _ n hn xh (fun g d m => hrun (cell xa g d) (cell xh g d) m) H.h (fun x => (congrFun (shapeCast_id _ _) x).trans (st x))
  · exact st
  · exact pr

/-- One trip advances every segment by eight steps. -/
theorem macro8_upto (xa xh : S2112x128.Idx → F .f32) (k : Fin k0_t1_loop.trips) (s : Scan (F := F) c arg13 arg14)
    (H : Upto (8 * k.val) xa xh (arg13.view.read (Elt F) s.fa) (arg14.view.read (Elt F) s.fh) s.acc) :
    Upto (8 * (k.val + 1)) xa xh (arg13.view.read (Elt F) (macro8 c arg13 arg14 k s).fa)
      (arg14.view.read (Elt F) (macro8 c arg13 arg14 k s).fh) (macro8 c arg13 arg14 k s).acc := by
  have h0 := micro_upto c arg13 arg14 s.fa s.fh xa xh k 0 ⟨[], [], s.acc⟩ (8 * k.val) rfl H
  have h1 := micro_upto c arg13 arg14 s.fa s.fh xa xh k 1 _ (8 * k.val + 1) rfl h0
  have h2 := micro_upto c arg13 arg14 s.fa s.fh xa xh k 2 _ (8 * k.val + 2) rfl h1
  have h3 := micro_upto c arg13 arg14 s.fa s.fh xa xh k 3 _ (8 * k.val + 3) rfl h2
  have h4 := micro_upto c arg13 arg14 s.fa s.fh xa xh k 4 _ (8 * k.val + 4) rfl h3
  have h5 := micro_upto c arg13 arg14 s.fa s.fh xa xh k 5 _ (8 * k.val + 5) rfl h4
  have h6 := micro_upto c arg13 arg14 s.fa s.fh xa xh k 6 _ (8 * k.val + 6) rfl h5
  exact micro_upto c arg13 arg14 s.fa s.fh xa xh k 7 _ (8 * k.val + 7) rfl h6

/-- Before trip `k` every segment has advanced by `8 k` steps. -/
theorem scanAt_upto (k : ℕ) (hk : k ≤ 32) :
    Upto (8 * k) (arg13.view.read (Elt F) fa) (arg14.view.read (Elt F) fh)
      (arg13.view.read (Elt F) (scanAt c arg13 arg14 (entry c arg13 arg14 fa fh) k).fa)
      (arg14.view.read (Elt F) (scanAt c arg13 arg14 (entry c arg13 arg14 fa fh) k).fh)
      (scanAt c arg13 arg14 (entry c arg13 arg14 fa fh) k).acc := by
  induction k with
  | zero =>
    refine ⟨fun y => ?_, fun y => ?_, fun x => rfl, fun x => rfl⟩
    · rw [if_neg (by omega)]; rfl
    · rw [if_neg (by omega)]; rfl
  | succ k ih =>
    have e : scanAt c arg13 arg14 (entry c arg13 arg14 fa fh) (k + 1)
        = macro8 c arg13 arg14 ⟨k, by show k < 32; omega⟩ (scanAt c arg13 arg14 (entry c arg13 arg14 fa fh) k) := by
      rw [scanAt, dif_pos]
    rw [e]
    exact macro8_upto c arg13 arg14 _ _ ⟨k, by show k < 32; omega⟩ _ (ih (by omega))

/-- After the thirty-two trips every segment has advanced by its 256 steps. -/
theorem scan_upto :
    Upto 256 (arg13.view.read (Elt F) fa) (arg14.view.read (Elt F) fh)
      (arg13.view.read (Elt F) (scanAt c arg13 arg14 (entry c arg13 arg14 fa fh) k0_t1_loop.trips).fa)
      (arg14.view.read (Elt F) (scanAt c arg13 arg14 (entry c arg13 arg14 fa fh) k0_t1_loop.trips).fh)
      (scanAt c arg13 arg14 (entry c arg13 arg14 fa fh) k0_t1_loop.trips).acc :=
  scanAt_upto c arg13 arg14 fa fh 32 (le_refl _)

end Cert.Proof.Lru
-- ==== Proof.LruOut.lean ====
module

public import proofs.«01_k».proof.Proof.LruScan
public import Idealize.ShloMosaic.Lib.WholeRead

@[expose] public section

noncomputable section

namespace Cert.Proof.Lru

open Cert.KernelIdeal Cert.KernelIdeal.Gen
open Idealize.ShloMosaic Idealize.ShloMosaic.TcCoe Idealize.ShloMosaic.Tactic

variable {F : FTy → Type} [FloatOps F]

section Block

variable (x0 x1 : FVec F S2048x128 .bf16) (x2 : FVec F S4x128 .f32) (x3 : FVec F S1x128 .f32) (x4 : FVec F S1x128x128 .bf16)
  (x5 : FVec F S1x128 .f32) (x6 : FVec F S1x128x128 .bf16) (x7 x8 : FVec F S1x128 .f32)

/-- The block shifted down by `3 - j` rows, zeros moving in at the top: what tap `j` of the causal convolution reads. -/
def tap (j : ℕ) : FVec F S2048x128 .f32 := fun y =>
  if (y 0).val + j < 3 then Scalar.ofBits .f32 0x00000000#32
  else extf .f32 x0 bitsLt_bf16_f32 (ix2 ⟨((y 0).val + j - 3) % 2048, Nat.mod_lt _ (by decide)⟩ (y 1))

/-- Row `j` of the convolution's weights. -/
def wrow (j : Fin 4) : FVec F S1x128 .f32 := fun y => x2 (ix2 j (y 1))

/-- The convolution's bias and first three taps. -/
def convA : FVec F S2048x128 .f32 := k0_pay33 x3 (tap x0 0) (wrow x2 0) (tap x0 1) (wrow x2 1) (tap x0 2) (wrow x2 2)

/-- The convolution's last tap. -/
def convB : FVec F S2048x128 .f32 := k0_pay34 (tap x0 3) (wrow x2 3)

/-- The decays of the block's rows. -/
def decay : FVec F S2048x128 .f32 := k0_pay40 (k0_pay37 (convA x0 x2 x3) (convB x0 x2) x4 x5) (k0_pay39 x8)

/-- What the recurrence adds on the block's rows. -/
def drive : FVec F S2048x128 .f32 :=
  k0_pay41 (k0_pay35 (convA x0 x2 x3) (convB x0 x2)) (k0_pay37 (convA x0 x2 x3) (convB x0 x2) x4 x5)
    (k0_pay38 (convA x0 x2 x3) (convB x0 x2) x6 x7) (k0_pay39 x8)

end Block

/-- Row `256 g + n` of a block: step `n` of its segment `g`. -/
def seg (x : FVec F S2048x128 .f32) (g : ℕ) (c : Fin 128) (n : ℕ) : F .f32 :=
  x (ix2 ⟨(256 * g + n) % 2048, Nat.mod_lt _ (by decide)⟩ c)

/-- The state a segment is entered with, from the segments before it. -/
def carry (A B : FVec F S2048x128 .f32) (c : Fin 128) : ℕ → F .f32
  | 0 => Scalar.ofBits .f32 0x00000000#32
  | g + 1 => FloatOps.addf (hrun (seg A g c) (seg B g c) 256) (FloatOps.mulf (prun (seg A g c) 256) (carry A B c g))

/-- The output block: per row the segment's own state, the share of the carried state, and the gate. -/
def outOf (A B : FVec F S2048x128 .f32) (x1 : FVec F S2048x128 .bf16) : FVec F S2048x128 .bf16 := fun y =>
  k0_pay68 (fun z => carry A B (z 1) ((y 0).val / 256))
    (fun z => hrun (seg A ((y 0).val / 256) (z 1)) (seg B ((y 0).val / 256) (z 1)) ((z 0).val + 1))
    (fun z => prun (seg A ((y 0).val / 256) (z 1)) ((z 0).val + 1))
    (fun z => x1 (ix2 ⟨(256 * ((y 0).val / 256) + (z 0).val) % 2048, Nat.mod_lt _ (by decide)⟩ (z 1)))
    (ix2 ⟨(y 0).val % 256, Nat.mod_lt _ (by decide)⟩ (y 1))

/-- The recurrence up to a step depends on the earlier terms alone. -/
theorem hrun_congr (a b a' b' : ℕ → F .f32) (n : ℕ) (ha : ∀ i < n, a i = a' i) (hb : ∀ i < n, b i = b' i) : hrun a b n = hrun a' b' n := by
  induction n with
  | zero => rfl
  | succ n ih =>
    rw [hrun, hrun, ih (fun i hi => ha i (by omega)) (fun i hi => hb i (by omega)), ha n (by omega), hb n (by omega)]

/-- The running product up to a step depends on the earlier factors alone. -/
theorem prun_congr (a a' : ℕ → F .f32) (n : ℕ) (ha : ∀ i < n, a i = a' i) : prun a n = prun a' n := by
  induction n with
  | zero => rfl
  | succ n ih => rw [prun, prun, ih (fun i hi => ha i (by omega)), ha n (by omega)]

/-- The contents laid out in segments of 264 rows that a block's rows go to. -/
def laid (X : FVec F S2048x128 .f32) : S2112x128.Idx → F .f32 := fun y => seg X ((y 0).val / 264) (y 1) ((y 0).val % 264)

/-- Segment `g` of a block, cut out of it, is what the laid-out contents hold on the rows it is stored at. -/
theorem laid_piece (X : FVec F S2048x128 .f32) (g : ℕ) (hg : g < 8) (off : Fin 2 → ℕ) (ho : off = ![256 * g, 0]) (h : S2048x128.Slices off S256x128)
    (x : S256x128.Idx) (y : S2112x128.Idx) (h0 : (y 0).val = 264 * g + (x 0).val) (h1 : (y 1).val = (x 1).val) :
    shapeCast S256x128 (extractStridedSlice S256x128 off X h) shapeCasts_S256x128_S256x128 x = laid X y := by
  subst ho
  rw [shapeCast_id]
  have hx : (x 0).val < 256 := (x 0).isLt
  refine congrArg X ((eq_ix2 _).trans ?_)
  congr 1
  · apply Fin.ext
    show 256 * g + (x 0).val = (256 * ((y 0).val / 264) + (y 0).val % 264) % 2048
    omega
  · apply Fin.ext
    show 0 + (x 1).val = (y 1).val
    omega

/-- On the rows of a segment the laid-out contents are the block's. -/
theorem cell_laid (X : FVec F S2048x128 .f32) (x : S2112x128.Idx → F .f32) (hx : ∀ y : S2112x128.Idx, (y 0).val % 264 < 256 → x y = laid X y)
    (g : ℕ) (hg : g < 8) (c : Fin 128) (n : ℕ) (hn : n < 256) : cell x g c n = seg X g c n := by
  unfold cell
  have e : (264 * g + n) % 2112 = 264 * g + n := Nat.mod_eq_of_lt (by omega)
  rw [hx _ (by show ((264 * g + n) % 2112) % 264 < 256; omega)]
  unfold laid
  show seg X (((264 * g + n) % 2112) / 264) c (((264 * g + n) % 2112) % 264) = _
  rw [e]
  congr 1 <;> omega

section Pieces

variable (A B : FVec F S2048x128 .f32) (xa xh ya yh : S2112x128.Idx → F .f32) (acc : FVec F S8x128 .f32 × FVec F S8x128 .f32)
  (U : Upto 256 xa xh ya yh acc) (ha : ∀ y : S2112x128.Idx, (y 0).val % 264 < 256 → xa y = laid A y)
  (hb : ∀ y : S2112x128.Idx, (y 0).val % 264 < 256 → xh y = laid B y)

include U ha hb

/-- The carried state's next value, from the registers the time loop ends with. -/
theorem carry_step (g : ℕ) (hg : g < 8) (off : Fin 2 → ℕ) (ho : off = ![g, 0]) (h : S8x128.Slices off S1x128) (E : FVec F S1x128 .f32)
    (hE : ∀ z : S1x128.Idx, E z = carry A B (z 1) g) (z : S1x128.Idx) :
    addf (extractStridedSlice S1x128 off acc.1 h) (mulf (extractStridedSlice S1x128 off acc.2 h) E) z = carry A B (z 1) (g + 1) := by
  subst ho
  have hz : (z 0).val < 1 := (z 0).isLt
  have e (w : FVec F S8x128 .f32) : extractStridedSlice S1x128 ![g, 0] w h z = w (ix2 ⟨g, hg⟩ (z 1)) := by
    refine congrArg w ((eq_ix2 _).trans ?_)
    congr 1
    · apply Fin.ext
      show g + (z 0).val = g
      omega
    · apply Fin.ext
      show 0 + (z 1).val = (z 1).val
      omega
  show FloatOps.addf (extractStridedSlice S1x128 ![g, 0] acc.1 h z) (FloatOps.mulf (extractStridedSlice S1x128 ![g, 0] acc.2 h z) (E z)) = _
  rw [e, e, U.state, U.prod, hE]
  show FloatOps.addf (hrun (cell xa g (z 1)) (cell xh g (z 1)) 256) (FloatOps.mulf (prun (cell xa g (z 1)) 256) (carry A B (z 1) g))
    = FloatOps.addf (hrun (seg A g (z 1)) (seg B g (z 1)) 256) (FloatOps.mulf (prun (seg A g (z 1)) 256) (carry A B (z 1) g))
  rw [hrun_congr _ _ (seg A g (z 1)) (seg B g (z 1)) 256 (fun n hn => cell_laid A xa ha g hg _ n hn) (fun n hn => cell_laid B xh hb g hg _ n hn),
    prun_congr _ (seg A g (z 1)) 256 (fun n hn => cell_laid A xa ha g hg _ n hn)]

/-- Segment `g` of the output block, from the rows of either buffer and the carried state. -/
theorem out_piece (x1 : FVec F S2048x128 .bf16) (g : ℕ) (hg : g < 8) (E : FVec F S1x128 .f32) (hE : ∀ z : S1x128.Idx, E z = carry A B (z 1) g)
    (hv pv : FVec F S256x128 .f32) (gv : FVec F S256x128 .bf16)
    (hhv : ∀ x : S256x128.Idx, ∃ y : S2112x128.Idx, hv x = yh y ∧ (y 0).val = 264 * g + (x 0).val ∧ y 1 = x 1)
    (hpv : ∀ x : S256x128.Idx, ∃ y : S2112x128.Idx, pv x = ya y ∧ (y 0).val = 264 * g + (x 0).val ∧ y 1 = x 1)
    (hgv : ∀ x : S256x128.Idx, ∃ y : S2048x128.Idx, gv x = x1 y ∧ (y 0).val = 256 * g + (x 0).val ∧ y 1 = x 1)
    (x : S256x128.Idx) (y : S2048x128.Idx) (h0 : (y 0).val = 256 * g + (x 0).val) (h1 : (y 1).val = (x 1).val) :
    k0_pay68 E hv pv gv x = outOf A B x1 y := by
  have hx : (x 0).val < 256 := (x 0).isLt
  obtain rfl : (y 0).val / 256 = g := by omega
  have eE : E = fun z => carry A B (z 1) ((y 0).val / 256) := funext hE
  have eh : hv = fun z => hrun (seg A ((y 0).val / 256) (z 1)) (seg B ((y 0).val / 256) (z 1)) ((z 0).val + 1) := by
    funext z
    have hz : (z 0).val < 256 := (z 0).isLt
    obtain ⟨w, e, w0, w1⟩ := hhv z
    rw [e, U.h, if_pos (by omega), show (w 0).val / 264 = (y 0).val / 256 by omega, show (w 0).val % 264 = (z 0).val by omega, w1]
    exact hrun_congr _ _ _ _ _ (fun n hn => cell_laid A xa ha ((y 0).val / 256) hg _ n (by omega)) (fun n hn => cell_laid B xh hb ((y 0).val / 256) hg _ n (by omega))
  have ep : pv = fun z => prun (seg A ((y 0).val / 256) (z 1)) ((z 0).val + 1) := by
    funext z
    have hz : (z 0).val < 256 := (z 0).isLt
    obtain ⟨w, e, w0, w1⟩ := hpv z
    rw [e, U.a, if_pos (by omega), show (w 0).val / 264 = (y 0).val / 256 by omega, show (w 0).val % 264 = (z 0).val by omega, w1]
    exact prun_congr _ _ _ (fun n hn => cell_laid A xa ha ((y 0).val / 256) hg _ n (by omega))
  have eg : gv = fun z => x1 (ix2 ⟨(256 * ((y 0).val / 256) + (z 0).val) % 2048, Nat.mod_lt _ (by decide)⟩ (z 1)) := by
    funext z
    have hz : (z 0).val < 256 := (z 0).isLt
    obtain ⟨w, e, w0, w1⟩ := hgv z
    rw [e]
    refine congrArg x1 ((eq_ix2 _).trans ?_)
    congr 1
    apply Fin.ext
    show (w 0).val = (256 * ((y 0).val / 256) + (z 0).val) % 2048
    omega
  have exy : x = ix2 ⟨(y 0).val % 256, Nat.mod_lt _ (by decide)⟩ (y 1) := by
    refine (eq_ix2 _).trans ?_
    congr 1
    · apply Fin.ext
      show (x 0).val = (y 0).val % 256
      omega
    · exact Fin.ext h1.symm
  unfold outOf
  rw [eE, eh, ep, eg, exy]
  rfl

end Pieces

/-- A load of a whole window, at offset zero, is what the window holds. -/
theorem load_whole {s : Shape} {e : EltTy} (m : Memref sig .tc .vmem s e) (h : m.IsWhole) (X : s.Idx → Elt F e) (off : Fin s.rank → ℕ)
    (ho : ∀ a, off a = 0) (inb : ∀ a, off a + s.size a ≤ s.size a) :
    View.readAt (Elt F) m.view (Rect.unit off s.size inb).toLoadRect (h.unread X) = X := by
  funext x
  rw [h.readAt_unread]
  refine congrArg X (funext fun a => Fin.ext ?_)
  show off a + 1 * (x a).val = (x a).val
  rw [ho]
  omega

/-- A load of a whole buffer reads its contents. -/
theorem load_whole2 {m n : ℕ} {e : EltTy} (v : Memref sig .tc .vmem ⟨2, ![m, n]⟩ e) (h : v.IsWhole) (X : (⟨2, ![m, n]⟩ : Shape).Idx → Elt F e)
    (inb : ∀ a, (![0, 0] : Fin 2 → ℕ) a + (![m, n] : Fin 2 → ℕ) a ≤ (![m, n] : Fin 2 → ℕ) a) :
    View.readAt (Elt F) v.view (Rect.unit (s := ⟨2, ![m, n]⟩) ![0, 0] ![m, n] inb).toLoadRect (h.unread X) = X :=
  load_whole v h X ![0, 0] (fun a => match a with | ⟨0, _⟩ => rfl | ⟨1, _⟩ => rfl) inb

/-- The load of one row of the convolution's weights. -/
theorem load_wrow (m : Memref sig .tc .vmem S4x128 .f32) (h : m.IsWhole) (X : FVec F S4x128 .f32) (j : Fin 4) (off : Fin 2 → ℕ) (ho : off = ![j.val, 0])
    (inb : ∀ a, off a + S1x128.size a ≤ S4x128.size a) :
    View.readAt (Elt F) m.view (Rect.unit (s := S4x128) off S1x128.size inb).toLoadRect (h.unread X) = wrow X j := by
  subst ho
  funext x
  rw [h.readAt_unread]
  refine congrArg X ((eq_ix2 _).trans ?_)
  have hx : (x 0).val < 1 := (x 0).isLt
  congr 1
  · apply Fin.ext
    show j.val + 1 * (x 0).val = j.val
    omega
  · apply Fin.ext
    show 0 + 1 * (x 1).val = (x 1).val
    omega

/-- The load of one tap: the block below eight rows of zeros, read from row `5 + j`. -/
theorem load_tap (v : View sig .tc .vmem S2056x128 .f32) {X Y : FVec F S2048x128 .bf16} (hY : Y = X) (j : ℕ) (hj : j < 4) (off : Fin 2 → ℕ) (ho : off = ![5 + j, 0])
    (inb : ∀ a, off a + S2048x128.size a ≤ S2056x128.size a) (inb8 inb0) :
    v.readCov (Val := Elt F) [⟨Rect.unit (s := S2056x128) ![8, 0] S2048x128.size inb8, k0_pay32 Y⟩, ⟨Rect.unit (s := S2056x128) ![0, 0] S8x128.size inb0, k0_pay31⟩]
      (Rect.unit (s := S2056x128) off S2048x128.size inb).toLoadRect = tap X j := by
  subst ho hY
  funext x
  have hx : (x 0).val < 2048 := (x 0).isLt
  unfold View.readCov tap
  rw [View.readAt_apply]
  have y0 : ((Rect.unit (s := S2056x128) ![5 + j, 0] S2048x128.size inb).toLoadRect.idx x 0).val = 5 + j + (x 0).val := by
    show 5 + j + 1 * (x 0).val = _
    omega
  have y1 : ((Rect.unit (s := S2056x128) ![5 + j, 0] S2048x128.size inb).toLoadRect.idx x 1).val = (x 1).val := by
    show 0 + 1 * (x 1).val = _
    omega
  by_cases h : (x 0).val + j < 3
  · rw [if_pos h, View.read_writes_cons_miss_of_axis v _ _ _ _ 0 8 2048 rfl rfl rfl (by omega)]
    refine (View.read_writes_cons_hit_of_coords v _ _ _ _ (ix2 (n0 := 8) (n1 := 128) ⟨5 + j + (x 0).val, by omega⟩ (x 1)) _ fun a => ?_).trans ?_
    · match a with
      | ⟨0, _⟩ =>
        refine y0.trans ?_
        show _ = 0 + 1 * (5 + j + (x 0).val)
        omega
      | ⟨1, _⟩ =>
        refine y1.trans ?_
        show _ = 0 + 1 * (x 1).val
        omega
    · unfold k0_pay31
      rw [shapeCast_id]
      rfl
  · rw [if_neg h]
    refine (View.read_writes_cons_hit_of_coords v _ _ _ _ (ix2 (n0 := 2048) (n1 := 128) ⟨(x 0).val + j - 3, by omega⟩ (x 1)) _ fun a => ?_).trans ?_
    · match a with
      | ⟨0, _⟩ =>
        refine y0.trans ?_
        show _ = 8 + 1 * ((x 0).val + j - 3)
        omega
      | ⟨1, _⟩ =>
        refine y1.trans ?_
        show _ = 0 + 1 * (x 1).val
        omega
    · unfold k0_pay32
      rw [shapeCast_id]
      refine congrArg (extf .f32 Y bitsLt_bf16_f32) ?_
      congr 1
      apply Fin.ext
      show (x 0).val + j - 3 = ((x 0).val + j - 3) % 2048
      omega

/-- The convolution's bias and first three taps, from what is loaded for them. -/
theorem conv_first {x0 : FVec F S2048x128 .bf16} {x2 : FVec F S4x128 .f32} {x3 b w0 w1 w2 : FVec F S1x128 .f32} {t0 t1 t2 : FVec F S2048x128 .f32}
    (hb : b = x3) (h0 : t0 = tap x0 0) (g0 : w0 = wrow x2 0) (h1 : t1 = tap x0 1) (g1 : w1 = wrow x2 1) (h2 : t2 = tap x0 2) (g2 : w2 = wrow x2 2) :
    k0_pay33 b t0 w0 t1 w1 t2 w2 = convA x0 x2 x3 := by
  subst hb h0 g0 h1 g1 h2 g2
  rfl

/-- A place inside the row block that a rectangle of 256 rows covers. -/
theorem mem_rows {m : ℕ} (o : ℕ) (inb : ∀ a, (![o, 0] : Fin 2 → ℕ) a + S256x128.size a ≤ (⟨2, ![m, 128]⟩ : Shape).size a) (y : (⟨2, ![m, 128]⟩ : Shape).Idx)
    (h0 : o ≤ (y 0).val) (h1 : (y 0).val < o + 256) : y ∈ (Rect.unit (s := ⟨2, ![m, 128]⟩) ![o, 0] S256x128.size inb).set := by
  refine (Rect.unit (s := ⟨2, ![m, 128]⟩) ![o, 0] S256x128.size inb).mem_set.mpr fun a => ?_
  match a with
  | ⟨0, _⟩ =>
    refine ⟨(y 0).val - o, by show _ < 256; omega, ?_⟩
    show (y 0).val = o + 1 * ((y 0).val - o)
    omega
  | ⟨1, _⟩ =>
    refine ⟨(y 1).val, (y 1).isLt, ?_⟩
    show (y 1).val = 0 + 1 * (y 1).val
    omega

/-- A block's eight segments, stored 264 rows apart, are the laid-out contents on the rows of the segments. -/
theorem laid_read (v : View sig .tc .vmem S2112x128 .f32) (f : v.ty.Contents (Elt F)) (X : FVec F S2048x128 .f32) (q0 q1 q2 q3 q4 q5 q6 q7 : FVec F S256x128 .f32)
    (i0 i1 i2 i3 i4 i5 i6 i7)
    (h0 : q0 = shapeCast S256x128 (extractStridedSlice S256x128 ![0, 0] X slices_S2048x128_o0_0_S256x128) shapeCasts_S256x128_S256x128)
    (h1 : q1 = shapeCast S256x128 (extractStridedSlice S256x128 ![256, 0] X slices_S2048x128_o256_0_S256x128) shapeCasts_S256x128_S256x128)
    (h2 : q2 = shapeCast S256x128 (extractStridedSlice S256x128 ![512, 0] X slices_S2048x128_o512_0_S256x128) shapeCasts_S256x128_S256x128)
    (h3 : q3 = shapeCast S256x128 (extractStridedSlice S256x128 ![768, 0] X slices_S2048x128_o768_0_S256x128) shapeCasts_S256x128_S256x128)
    (h4 : q4 = shapeCast S256x128 (extractStridedSlice S256x128 ![1024, 0] X slices_S2048x128_o1024_0_S256x128) shapeCasts_S256x128_S256x128)
    (h5 : q5 = shapeCast S256x128 (extractStridedSlice S256x128 ![1280, 0] X slices_S2048x128_o1280_0_S256x128) shapeCasts_S256x128_S256x128)
    (h6 : q6 = shapeCast S256x128 (extractStridedSlice S256x128 ![1536, 0] X slices_S2048x128_o1536_0_S256x128) shapeCasts_S256x128_S256x128)
    (h7 : q7 = shapeCast S256x128 (extractStridedSlice S256x128 ![1792, 0] X slices_S2048x128_o1792_0_S256x128) shapeCasts_S256x128_S256x128)
    (y : S2112x128.Idx) (hy : (y 0).val % 264 < 256) :
    v.read (Elt F) (v.writes (Elt F) f [⟨Rect.unit (s := S2112x128) ![1848, 0] S256x128.size i7, q7⟩, ⟨Rect.unit (s := S2112x128) ![1584, 0] S256x128.size i6, q6⟩, ⟨Rect.unit (s := S2112x128) ![1320, 0] S256x128.size i5, q5⟩, ⟨Rect.unit (s := S2112x128) ![1056, 0] S256x128.size i4, q4⟩, ⟨Rect.unit (s := S2112x128) ![792, 0] S256x128.size i3, q3⟩, ⟨Rect.unit (s := S2112x128) ![528, 0] S256x128.size i2, q2⟩, ⟨Rect.unit (s := S2112x128) ![264, 0] S256x128.size i1, q1⟩, ⟨Rect.unit (s := S2112x128) ![0, 0] S256x128.size i0, q0⟩]) y = laid X y := by
  have hy0 : (y 0).val < 2112 := (y 0).isLt
  refine View.read_writes_apply_of_pieces v f (laid X) _ ?_ y ?_
  · intro p hp x
    simp only [List.mem_cons, List.not_mem_nil, or_false] at hp
    rcases hp with rfl | rfl | rfl | rfl | rfl | rfl | rfl | rfl
    · rw [h7]
      exact laid_piece X 7 (by decide) _ rfl slices_S2048x128_o1792_0_S256x128 x _ (by show 1848 + 1 * (x 0).val = 1848 + (x 0).val; omega) (by show 0 + 1 * (x 1).val = (x 1).val; omega)
    · rw [h6]
      exact laid_piece X 6 (by decide) _ rfl slices_S2048x128_o1536_0_S256x128 x _ (by show 1584 + 1 * (x 0).val = 1584 + (x 0).val; omega) (by show 0 + 1 * (x 1).val = (x 1).val; omega)
    · rw [h5]
      exact laid_piece X 5 (by decide) _ rfl slices_S2048x128_o1280_0_S256x128 x _ (by show 1320 + 1 * (x 0).val = 1320 + (x 0).val; omega) (by show 0 + 1 * (x 1).val = (x 1).val; omega)
    · rw [h4]
      exact laid_piece X 4 (by decide) _ rfl slices_S2048x128_o1024_0_S256x128 x _ (by show 1056 + 1 * (x 0).val = 1056 + (x 0).val; omega) (by show 0 + 1 * (x 1).val = (x 1).val; omega)
    · rw [h3]
      exact laid_piece X 3 (by decide) _ rfl slices_S2048x128_o768_0_S256x128 x _ (by show 792 + 1 * (x 0).val = 792 + (x 0).val; omega) (by show 0 + 1 * (x 1).val = (x 1).val; omega)
    · rw [h2]
      exact laid_piece X 2 (by decide) _ rfl slices_S2048x128_o512_0_S256x128 x _ (by show 528 + 1 * (x 0).val = 528 + (x 0).val; omega) (by show 0 + 1 * (x 1).val = (x 1).val; omega)
    · rw [h1]
      exact laid_piece X 1 (by decide) _ rfl slices_S2048x128_o256_0_S256x128 x _ (by show 264 + 1 * (x 0).val = 264 + (x 0).val; omega) (by show 0 + 1 * (x 1).val = (x 1).val; omega)
    · rw [h0]
      exact laid_piece X 0 (by decide) _ rfl slices_S2048x128_o0_0_S256x128 x _ (by show 0 + 1 * (x 0).val = 0 + (x 0).val; omega) (by show 0 + 1 * (x 1).val = (x 1).val; omega)
  · have hq : (1848 ≤ (y 0).val ∧ (y 0).val < 1848 + 256) ∨ (1584 ≤ (y 0).val ∧ (y 0).val < 1584 + 256) ∨ (1320 ≤ (y 0).val ∧ (y 0).val < 1320 + 256) ∨ (1056 ≤ (y 0).val ∧ (y 0).val < 1056 + 256) ∨ (792 ≤ (y 0).val ∧ (y 0).val < 792 + 256) ∨ (528 ≤ (y 0).val ∧ (y 0).val < 528 + 256) ∨ (264 ≤ (y 0).val ∧ (y 0).val < 264 + 256) ∨ (0 ≤ (y 0).val ∧ (y 0).val < 0 + 256) := by omega
    rcases hq with ⟨l, u⟩ | ⟨l, u⟩ | ⟨l, u⟩ | ⟨l, u⟩ | ⟨l, u⟩ | ⟨l, u⟩ | ⟨l, u⟩ | ⟨l, u⟩
    · exact ⟨_, List.Mem.head _, mem_rows 1848 i7 y l u⟩
    · exact ⟨_, List.Mem.tail _ (List.Mem.head _), mem_rows 1584 i6 y l u⟩
    · exact ⟨_, List.Mem.tail _ (List.Mem.tail _ (List.Mem.head _)), mem_rows 1320 i5 y l u⟩
    · exact ⟨_, List.Mem.tail _ (List.Mem.tail _ (List.Mem.tail _ (List.Mem.head _))), mem_rows 1056 i4 y l u⟩
    · exact ⟨_, List.Mem.tail _ (List.Mem.tail _ (List.Mem.tail _ (List.Mem.tail _ (List.Mem.head _)))), mem_rows 792 i3 y l u⟩
    · exact ⟨_, List.Mem.tail _ (List.Mem.tail _ (List.Mem.tail _ (List.Mem.tail _ (List.Mem.tail _ (List.Mem.head _))))), mem_rows 528 i2 y l u⟩
    · exact ⟨_, List.Mem.tail _ (List.Mem.tail _ (List.Mem.tail _ (List.Mem.tail _ (List.Mem.tail _ (List.Mem.tail _ (List.Mem.head _)))))), mem_rows 264 i1 y l u⟩
    · exact ⟨_, List.Mem.tail _ (List.Mem.tail _ (List.Mem.tail _ (List.Mem.tail _ (List.Mem.tail _ (List.Mem.tail _ (List.Mem.tail _ (List.Mem.head _))))))), mem_rows 0 i0 y l u⟩

/-- The output block, from what the time loop leaves behind and the eight stores after it. -/
theorem out_read (c : Dev nD) (arg3 : Memref sig .tc .vmem S2048x128 .bf16) (harg3 : arg3.IsWhole) (arg13 arg14 : Memref sig .tc .vmem S2112x128 .f32)
    (fa : Buf (Elt F) (arg13.view.loc (c : Thread nD τ))) (fh : Buf (Elt F) (arg14.view.loc (c : Thread nD τ)))
    (s : Scan (F := F) c arg13 arg14) (hs : s = scanAt c arg13 arg14 (entry c arg13 arg14 fa fh) k0_t1_loop.trips)
    (A B : FVec F S2048x128 .f32) (x1 : FVec F S2048x128 .bf16)
    (ha : ∀ y : S2112x128.Idx, (y 0).val % 264 < 256 → arg13.view.read (Elt F) fa y = laid A y)
    (hb : ∀ y : S2112x128.Idx, (y 0).val % 264 < 256 → arg14.view.read (Elt F) fh y = laid B y)
    (v : View sig .tc .vmem S2048x128 .bf16) (f : v.ty.Contents (Elt F)) (q0 q1 q2 q3 q4 q5 q6 q7 : FVec F S256x128 .bf16)
    (o0 o1 o2 o3 o4 o5 o6 o7) (j0 j1 j2 j3 j4 j5 j6 j7)
    (h0 : q0 = k0_pay68 k0_pay65 (View.readAt (Elt F) arg14.view (Rect.unit (s := S2112x128) ![0, 0] S256x128.size j0).toLoadRect s.fh) (View.readAt (Elt F) arg13.view (Rect.unit (s := S2112x128) ![0, 0] S256x128.size j0).toLoadRect s.fa)
      (View.readAt (Elt F) arg3.view (Rect.unit (s := S2048x128) ![0, 0] S256x128.size o0).toLoadRect (harg3.unread x1)))
    (h1 : q1 = k0_pay68 (k0_pay67 s.acc.1 s.acc.2) (View.readAt (Elt F) arg14.view (Rect.unit (s := S2112x128) ![264, 0] S256x128.size j1).toLoadRect s.fh) (View.readAt (Elt F) arg13.view (Rect.unit (s := S2112x128) ![264, 0] S256x128.size j1).toLoadRect s.fa)
      (View.readAt (Elt F) arg3.view (Rect.unit (s := S2048x128) ![256, 0] S256x128.size o1).toLoadRect (harg3.unread x1)))
    (h2 : q2 = k0_pay68 (k0_pay69 s.acc.1 s.acc.2 (k0_pay67 s.acc.1 s.acc.2)) (View.readAt (Elt F) arg14.view (Rect.unit (s := S2112x128) ![528, 0] S256x128.size j2).toLoadRect s.fh) (View.readAt (Elt F) arg13.view (Rect.unit (s := S2112x128) ![528, 0] S256x128.size j2).toLoadRect s.fa)
      (View.readAt (Elt F) arg3.view (Rect.unit (s := S2048x128) ![512, 0] S256x128.size o2).toLoadRect (harg3.unread x1)))
    (h3 : q3 = k0_pay68 (k0_pay74 s.acc.1 s.acc.2 (k0_pay69 s.acc.1 s.acc.2 (k0_pay67 s.acc.1 s.acc.2))) (View.readAt (Elt F) arg14.view (Rect.unit (s := S2112x128) ![792, 0] S256x128.size j3).toLoadRect s.fh) (View.readAt (Elt F) arg13.view (Rect.unit (s := S2112x128) ![792, 0] S256x128.size j3).toLoadRect s.fa)
      (View.readAt (Elt F) arg3.view (Rect.unit (s := S2048x128) ![768, 0] S256x128.size o3).toLoadRect (harg3.unread x1)))
    (h4 : q4 = k0_pay68 (k0_pay76 s.acc.1 s.acc.2 (k0_pay69 s.acc.1 s.acc.2 (k0_pay67 s.acc.1 s.acc.2))) (View.readAt (Elt F) arg14.view (Rect.unit (s := S2112x128) ![1056, 0] S256x128.size j4).toLoadRect s.fh) (View.readAt (Elt F) arg13.view (Rect.unit (s := S2112x128) ![1056, 0] S256x128.size j4).toLoadRect s.fa)
      (View.readAt (Elt F) arg3.view (Rect.unit (s := S2048x128) ![1024, 0] S256x128.size o4).toLoadRect (harg3.unread x1)))
    (h5 : q5 = k0_pay68 (k0_pay78 s.acc.1 s.acc.2 (k0_pay76 s.acc.1 s.acc.2 (k0_pay69 s.acc.1 s.acc.2 (k0_pay67 s.acc.1 s.acc.2)))) (View.readAt (Elt F) arg14.view (Rect.unit (s := S2112x128) ![1320, 0] S256x128.size j5).toLoadRect s.fh) (View.readAt (Elt F) arg13.view (Rect.unit (s := S2112x128) ![1320, 0] S256x128.size j5).toLoadRect s.fa)
      (View.readAt (Elt F) arg3.view (Rect.unit (s := S2048x128) ![1280, 0] S256x128.size o5).toLoadRect (harg3.unread x1)))
    (h6 : q6 = k0_pay68 (k0_pay83 s.acc.1 s.acc.2 (k0_pay78 s.acc.1 s.acc.2 (k0_pay76 s.acc.1 s.acc.2 (k0_pay69 s.acc.1 s.acc.2 (k0_pay67 s.acc.1 s.acc.2))))) (View.readAt (Elt F) arg14.view (Rect.unit (s := S2112x128) ![1584, 0] S256x128.size j6).toLoadRect s.fh) (View.readAt (Elt F) arg13.view (Rect.unit (s := S2112x128) ![1584, 0] S256x128.size j6).toLoadRect s.fa)
      (View.readAt (Elt F) arg3.view (Rect.unit (s := S2048x128) ![1536, 0] S256x128.size o6).toLoadRect (harg3.unread x1)))
    (h7 : q7 = k0_pay68 (k0_pay85 s.acc.1 s.acc.2 (k0_pay78 s.acc.1 s.acc.2 (k0_pay76 s.acc.1 s.acc.2 (k0_pay69 s.acc.1 s.acc.2 (k0_pay67 s.acc.1 s.acc.2))))) (View.readAt (Elt F) arg14.view (Rect.unit (s := S2112x128) ![1848, 0] S256x128.size j7).toLoadRect s.fh) (View.readAt (Elt F) arg13.view (Rect.unit (s := S2112x128) ![1848, 0] S256x128.size j7).toLoadRect s.fa)
      (View.readAt (Elt F) arg3.view (Rect.unit (s := S2048x128) ![1792, 0] S256x128.size o7).toLoadRect (harg3.unread x1))) :
    v.read (Elt F) (v.writes (Elt F) f [⟨Rect.unit (s := S2048x128) ![1792, 0] S256x128.size o7, q7⟩, ⟨Rect.unit (s := S2048x128) ![1536, 0] S256x128.size o6, q6⟩, ⟨Rect.unit (s := S2048x128) ![1280, 0] S256x128.size o5, q5⟩, ⟨Rect.unit (s := S2048x128) ![1024, 0] S256x128.size o4, q4⟩, ⟨Rect.unit (s := S2048x128) ![768, 0] S256x128.size o3, q3⟩, ⟨Rect.unit (s := S2048x128) ![512, 0] S256x128.size o2, q2⟩, ⟨Rect.unit (s := S2048x128) ![256, 0] S256x128.size o1, q1⟩, ⟨Rect.unit (s := S2048x128) ![0, 0] S256x128.size o0, q0⟩]) = outOf A B x1 := by
  have U := scan_upto c arg13 arg14 fa fh
  rw [← hs] at U
  have E0 : ∀ z : S1x128.Idx, (k0_pay65 (F := F)) z = carry A B (z 1) 0 := fun z => rfl
  have E1 : ∀ z : S1x128.Idx, (k0_pay67 s.acc.1 s.acc.2) z = carry A B (z 1) 1 := carry_step A B _ _ _ _ s.acc U ha hb 0 (by decide) _ rfl slices_S8x128_o0_0_S1x128 _ E0
  have E2 : ∀ z : S1x128.Idx, (k0_pay69 s.acc.1 s.acc.2 (k0_pay67 s.acc.1 s.acc.2)) z = carry A B (z 1) 2 := carry_step A B _ _ _ _ s.acc U ha hb 1 (by decide) _ rfl slices_S8x128_o1_0_S1x128 _ E1
  have E3 : ∀ z : S1x128.Idx, (k0_pay74 s.acc.1 s.acc.2 (k0_pay69 s.acc.1 s.acc.2 (k0_pay67 s.acc.1 s.acc.2))) z = carry A B (z 1) 3 := carry_step A B _ _ _ _ s.acc U ha hb 2 (by decide) _ rfl slices_S8x128_o2_0_S1x128 _ E2
  have E4 : ∀ z : S1x128.Idx, (k0_pay76 s.acc.1 s.acc.2 (k0_pay69 s.acc.1 s.acc.2 (k0_pay67 s.acc.1 s.acc.2))) z = carry A B (z 1) 4 := carry_step A B _ _ _ _ s.acc U ha hb 3 (by decide) _ rfl slices_S8x128_o3_0_S1x128 _ E3
  have E5 : ∀ z : S1x128.Idx, (k0_pay78 s.acc.1 s.acc.2 (k0_pay76 s.acc.1 s.acc.2 (k0_pay69 s.acc.1 s.acc.2 (k0_pay67 s.acc.1 s.acc.2)))) z = carry A B (z 1) 5 := carry_step A B _ _ _ _ s.acc U ha hb 4 (by decide) _ rfl slices_S8x128_o4_0_S1x128 _ E4
  have E6 : ∀ z : S1x128.Idx, (k0_pay83 s.acc.1 s.acc.2 (k0_pay78 s.acc.1 s.acc.2 (k0_pay76 s.acc.1 s.acc.2 (k0_pay69 s.acc.1 s.acc.2 (k0_pay67 s.acc.1 s.acc.2))))) z = carry A B (z 1) 6 := carry_step A B _ _ _ _ s.acc U ha hb 5 (by decide) _ rfl slices_S8x128_o5_0_S1x128 _ E5
  have E7 : ∀ z : S1x128.Idx, (k0_pay85 s.acc.1 s.acc.2 (k0_pay78 s.acc.1 s.acc.2 (k0_pay76 s.acc.1 s.acc.2 (k0_pay69 s.acc.1 s.acc.2 (k0_pay67 s.acc.1 s.acc.2))))) z = carry A B (z 1) 7 := carry_step A B _ _ _ _ s.acc U ha hb 6 (by decide) _ rfl slices_S8x128_o6_0_S1x128 _ E6
  have rd {sp : Space} {n : ℕ} {e : EltTy} (w : View sig .tc sp ⟨2, ![n, 128]⟩ e) (b : w.ty.Contents (Elt F)) (o : ℕ)
      (inb : ∀ a, (![o, 0] : Fin 2 → ℕ) a + S256x128.size a ≤ (⟨2, ![n, 128]⟩ : Shape).size a) (x : S256x128.Idx) :
      ∃ y : (⟨2, ![n, 128]⟩ : Shape).Idx, View.readAt (Elt F) w (Rect.unit (s := ⟨2, ![n, 128]⟩) ![o, 0] S256x128.size inb).toLoadRect b x = w.read (Elt F) b y
        ∧ (y 0).val = o + (x 0).val ∧ y 1 = x 1 :=
    ⟨_, rfl, by show o + 1 * (x 0).val = _; omega, Fin.ext (by show 0 + 1 * (x 1).val = _; omega)⟩
  have e1 : arg3.view.read (Elt F) (harg3.unread x1) = x1 := harg3.read_unread _
  funext y
  have hy0 : (y 0).val < 2048 := (y 0).isLt
  refine View.read_writes_apply_of_pieces v f (outOf A B x1) _ ?_ y ?_
  · intro p hp x
    simp only [List.mem_cons, List.not_mem_nil, or_false] at hp
    rcases hp with rfl | rfl | rfl | rfl | rfl | rfl | rfl | rfl
    · rw [h7]
      exact out_piece A B _ _ _ _ s.acc U ha hb x1 7 (by decide) _ E7 _ _ _ (rd arg14.view s.fh 1848 _) (rd arg13.view s.fa 1848 _)
        (fun x => (rd arg3.view (harg3.unread x1) 1792 _ x).imp fun y h => ⟨h.1.trans (congrFun e1 y), h.2⟩) x _ (by show 1792 + 1 * (x 0).val = 1792 + (x 0).val; omega) (by show 0 + 1 * (x 1).val = (x 1).val; omega)
    · rw [h6]
      exact out_piece A B _ _ _ _ s.acc U ha hb x1 6 (by decide) _ E6 _ _ _ (rd arg14.view s.fh 1584 _) (rd arg13.view s.fa 1584 _)
        (fun x => (rd arg3.view (harg3.unread x1) 1536 _ x).imp fun y h => ⟨h.1.trans (congrFun e1 y), h.2⟩) x _ (by show 1536 + 1 * (x 0).val = 1536 + (x 0).val; omega) (by show 0 + 1 * (x 1).val = (x 1).val; omega)
    · rw [h5]
      exact out_piece A B _ _ _ _ s.acc U ha hb x1 5 (by decide) _ E5 _ _ _ (rd arg14.view s.fh 1320 _) (rd arg13.view s.fa 1320 _)
        (fun x => (rd arg3.view (harg3.unread x1) 1280 _ x).imp fun y h => ⟨h.1.trans (congrFun e1 y), h.2⟩) x _ (by show 1280 + 1 * (x 0).val = 1280 + (x 0).val; omega) (by show 0 + 1 * (x 1).val = (x 1).val; omega)
    · rw [h4]
      exact out_piece A B _ _ _ _ s.acc U ha hb x1 4 (by decide) _ E4 _ _ _ (rd arg14.view s.fh 1056 _) (rd arg13.view s.fa 1056 _)
        (fun x => (rd arg3.view (harg3.unread x1) 1024 _ x).imp fun y h => ⟨h.1.trans (congrFun e1 y), h.2⟩) x _ (by show 1024 + 1 * (x 0).val = 1024 + (x 0).val; omega) (by show 0 + 1 * (x 1).val = (x 1).val; omega)
    · rw [h3]
      exact out_piece A B _ _ _ _ s.acc U ha hb x1 3 (by decide) _ E3 _ _ _ (rd arg14.view s.fh 792 _) (rd arg13.view s.fa 792 _)
        (fun x => (rd arg3.view (harg3.unread x1) 768 _ x).imp fun y h => ⟨h.1.trans (congrFun e1 y), h.2⟩) x _ (by show 768 + 1 * (x 0).val = 768 + (x 0).val; omega) (by show 0 + 1 * (x 1).val = (x 1).val; omega)
    · rw [h2]
      exact out_piece A B _ _ _ _ s.acc U ha hb x1 2 (by decide) _ E2 _ _ _ (rd arg14.view s.fh 528 _) (rd arg13.view s.fa 528 _)
        (fun x => (rd arg3.view (harg3.unread x1) 512 _ x).imp fun y h => ⟨h.1.trans (congrFun e1 y), h.2⟩) x _ (by show 512 + 1 * (x 0).val = 512 + (x 0).val; omega) (by show 0 + 1 * (x 1).val = (x 1).val; omega)
    · rw [h1]
      exact out_piece A B _ _ _ _ s.acc U ha hb x1 1 (by decide) _ E1 _ _ _ (rd arg14.view s.fh 264 _) (rd arg13.view s.fa 264 _)
        (fun x => (rd arg3.view (harg3.unread x1) 256 _ x).imp fun y h => ⟨h.1.trans (congrFun e1 y), h.2⟩) x _ (by show 256 + 1 * (x 0).val = 256 + (x 0).val; omega) (by show 0 + 1 * (x 1).val = (x 1).val; omega)
    · rw [h0]
      exact out_piece A B _ _ _ _ s.acc U ha hb x1 0 (by decide) _ E0 _ _ _ (rd arg14.view s.fh 0 _) (rd arg13.view s.fa 0 _)
        (fun x => (rd arg3.view (harg3.unread x1) 0 _ x).imp fun y h => ⟨h.1.trans (congrFun e1 y), h.2⟩) x _ (by show 0 + 1 * (x 0).val = 0 + (x 0).val; omega) (by show 0 + 1 * (x 1).val = (x 1).val; omega)
  · have hq : (1792 ≤ (y 0).val ∧ (y 0).val < 1792 + 256) ∨ (1536 ≤ (y 0).val ∧ (y 0).val < 1536 + 256) ∨ (1280 ≤ (y 0).val ∧ (y 0).val < 1280 + 256) ∨ (1024 ≤ (y 0).val ∧ (y 0).val < 1024 + 256) ∨ (768 ≤ (y 0).val ∧ (y 0).val < 768 + 256) ∨ (512 ≤ (y 0).val ∧ (y 0).val < 512 + 256) ∨ (256 ≤ (y 0).val ∧ (y 0).val < 256 + 256) ∨ (0 ≤ (y 0).val ∧ (y 0).val < 0 + 256) := by omega
    rcases hq with ⟨l, u⟩ | ⟨l, u⟩ | ⟨l, u⟩ | ⟨l, u⟩ | ⟨l, u⟩ | ⟨l, u⟩ | ⟨l, u⟩ | ⟨l, u⟩
    · exact ⟨_, List.Mem.head _, mem_rows 1792 o7 y l u⟩
    · exact ⟨_, List.Mem.tail _ (List.Mem.head _), mem_rows 1536 o6 y l u⟩
    · exact ⟨_, List.Mem.tail _ (List.Mem.tail _ (List.Mem.head _)), mem_rows 1280 o5 y l u⟩
    · exact ⟨_, List.Mem.tail _ (List.Mem.tail _ (List.Mem.tail _ (List.Mem.head _))), mem_rows 1024 o4 y l u⟩
    · exact ⟨_, List.Mem.tail _ (List.Mem.tail _ (List.Mem.tail _ (List.Mem.tail _ (List.Mem.head _)))), mem_rows 768 o3 y l u⟩
    · exact ⟨_, List.Mem.tail _ (List.Mem.tail _ (List.Mem.tail _ (List.Mem.tail _ (List.Mem.tail _ (List.Mem.head _))))), mem_rows 512 o2 y l u⟩
    · exact ⟨_, List.Mem.tail _ (List.Mem.tail _ (List.Mem.tail _ (List.Mem.tail _ (List.Mem.tail _ (List.Mem.tail _ (List.Mem.head _)))))), mem_rows 256 o1 y l u⟩
    · exact ⟨_, List.Mem.tail _ (List.Mem.tail _ (List.Mem.tail _ (List.Mem.tail _ (List.Mem.tail _ (List.Mem.tail _ (List.Mem.tail _ (List.Mem.head _))))))), mem_rows 0 o0 y l u⟩

end Cert.Proof.Lru
-- ==== Proof.LruRun.lean ====
module

public import proofs.«01_k».proof.Proof.LruOut

@[expose] public section

noncomputable section

namespace Cert.Proof.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 800000 in
/-- The body at one grid point: from the blocks it reads, it leaves them as they were and its output block at `outOf` of the
    decay and drive that those blocks give; the three scratch buffers end at some contents. -/
theorem body_run (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x128 .bf16) (harg6 : arg6.IsWhole) (arg7 : Memref sig .tc .vmem S1x128 .f32) (harg7 : arg7.IsWhole) (arg8 : Memref sig .tc .vmem S1x128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S2048x128 .bf16) (harg11 : arg11.IsWhole) (arg12 : Memref sig .tc .vmem S2056x128 .f32) (harg12 : arg12.IsWhole) (arg13 : Memref sig .tc .vmem S2112x128 .f32) (harg13 : arg13.IsWhole) (arg14 : Memref sig .tc .vmem S2112x128 .f32) (harg14 : arg14.IsWhole) (x0 : Vec F S2048x128 .bf16) (x1 : Vec F S2048x128 .bf16) (x2 : Vec F S4x128 .f32) (x3 : Vec F S1x128 .f32) (x4 : Vec F S1x128x128 .bf16) (x5 : Vec F S1x128 .f32) (x6 : Vec F S1x128x128 .bf16) (x7 : Vec F S1x128 .f32) (x8 : Vec F S1x128 .f32) :
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outOf (decay x0 x2 x3 x4 x5 x8) (drive x0 x2 x3 x4 x5 x6 x7 x8) x1) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) Set.univ (cc0_lru i arg2 harg2 arg3 harg3 arg4 harg4 arg5 harg5 arg6 harg6 arg7 harg7 arg8 harg8 arg9 harg9 arg10 harg10 arg11 harg11 arg12 harg12 arg13 harg13 arg14 harg14) K := by
    intro K
    simp only [cc0_lru_eq_skeleton]; unfold cc0_lru_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec
    iapply (wp_time_loop c i arg2 harg2 arg3 harg3 arg4 harg4 arg5 harg5 arg6 harg6 arg7 harg7 arg8 harg8 arg9 harg9 arg10 harg10 arg11 harg11 arg12 harg12 arg13 harg13 arg14 harg14 _ _ _ _)
    isplitl [H11]
    · iexact H11
    isplitl [H12]
    · iexact H12
    iintro %s %hs H11 H12
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro
      have hx : View.readAt (Elt F) arg2.view (Rect.unit ![0, 0] S2048x128.size inb_S2048x128_S2048x128_0_0).toLoadRect (harg2.unread x0) = x0 := load_whole2 arg2 harg2 x0 _
      have t0 : body_run.sl.v11 c arg2 harg2 arg12 x0 = tap x0 0 := load_tap arg12.view hx 0 (by decide) _ rfl _ _ _
      have t1 : body_run.sl.v17 c arg2 harg2 arg12 x0 = tap x0 1 := load_tap arg12.view hx 1 (by decide) _ rfl _ _ _
      have t2 : body_run.sl.v22 c arg2 harg2 arg12 x0 = tap x0 2 := load_tap arg12.view hx 2 (by decide) _ rfl _ _ _
      have t3 : body_run.sl.v27 c arg2 harg2 arg12 x0 = tap x0 3 := load_tap arg12.view hx 3 (by decide) _ rfl _ _ _
      have e0 : body_run.sl.r c arg2 harg2 arg4 harg4 arg5 harg5 arg12 x0 x2 x3 = convA x0 x2 x3 :=
        conv_first (load_whole2 arg5 harg5 x3 _) t0 (load_wrow arg4 harg4 x2 0 _ rfl _) t1 (load_wrow arg4 harg4 x2 1 _ rfl _) t2 (load_wrow arg4 harg4 x2 2 _ rfl _)
      have e1 : body_run.sl.r_1 c arg2 harg2 arg4 harg4 arg12 x0 x2 = convB x0 x2 := by
        show k0_pay34 (body_run.sl.v27 c arg2 harg2 arg12 x0) _ = k0_pay34 (tap x0 3) (wrow x2 3)
        exact congr (congrArg k0_pay34 t3) (load_wrow arg4 harg4 x2 3 _ rfl _)
      have e2 : body_run.sl.r_2 c arg2 harg2 arg4 harg4 arg5 harg5 arg12 x0 x2 x3 = k0_pay35 (convA x0 x2 x3) (convB x0 x2) := by
        rw [← e0, ← e1]; rfl
      have e3 : body_run.sl.r_3 c arg2 harg2 arg4 harg4 arg5 harg5 arg6 harg6 arg7 harg7 arg12 x0 x2 x3 x4 x5
          = k0_pay37 (convA x0 x2 x3) (convB x0 x2) x4 x5 := by
        rw [← e0, ← e1]
        show k0_pay37 _ _ _ _ = _
        rw [load_whole arg6 harg6 x4 _ (by decide), load_whole2 arg7 harg7 x5]
      have e4 : body_run.sl.r_4 c arg2 harg2 arg4 harg4 arg5 harg5 arg8 harg8 arg9 harg9 arg12 x0 x2 x3 x6 x7
          = k0_pay38 (convA x0 x2 x3) (convB x0 x2) x6 x7 := by
        rw [← e0, ← e1]
        show k0_pay38 _ _ _ _ = _
        rw [load_whole arg8 harg8 x6 _ (by decide), load_whole2 arg9 harg9 x7]
      have e5 : body_run.sl.r_5 c arg10 harg10 x8 = k0_pay39 x8 := by
        show k0_pay39 _ = _
        rw [load_whole2 arg10 harg10 x8]
      have eA : k0_pay40 (body_run.sl.r_3 c arg2 harg2 arg4 harg4 arg5 harg5 arg6 harg6 arg7 harg7 arg12 x0 x2 x3 x4 x5) (body_run.sl.r_5 c arg10 harg10 x8)
          = decay x0 x2 x3 x4 x5 x8 := by
        rw [e3, e5]; rfl
      have eB : k0_pay41 (body_run.sl.r_2 c arg2 harg2 arg4 harg4 arg5 harg5 arg12 x0 x2 x3)
          (body_run.sl.r_3 c arg2 harg2 arg4 harg4 arg5 harg5 arg6 harg6 arg7 harg7 arg12 x0 x2 x3 x4 x5)
          (body_run.sl.r_4 c arg2 harg2 arg4 harg4 arg5 harg5 arg8 harg8 arg9 harg9 arg12 x0 x2 x3 x6 x7) (body_run.sl.r_5 c arg10 harg10 x8)
          = drive x0 x2 x3 x4 x5 x6 x7 x8 := by
        rw [e2, e3, e4, e5]; rfl
      rw [← eA, ← eB]
      exact out_read c arg3 harg3 arg13 arg14 _ _ s hs _ _ x1
        (fun y hy => laid_read arg13.view f11 _ _ _ _ _ _ _ _ _ _ _ _ _ _ _ _ _ rfl rfl rfl rfl rfl rfl rfl rfl y hy)
        (fun y hy => laid_read arg14.view f12 _ _ _ _ _ _ _ _ _ _ _ _ _ _ _ _ _ rfl rfl rfl rfl rfl rfl rfl rfl y hy)
        arg11.view f9 _ _ _ _ _ _ _ _ _ _ _ _ _ _ _ _ _ _ _ _ _ _ _ _ rfl rfl rfl rfl rfl rfl rfl rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

end Cert.Proof.Lru

end
-- ==== Proof.LruFrame.lean ====
module

public import proofs.«01_k».proof.Proof.LruRun
public import proofs.«01_k».proof.Proof.Gen.KernelIdeal.Launch
public import proofs.«01_k».proof.Proof.Gen.KernelIdeal.Points
public import proofs.«01_k».proof.Proof.Gen.KernelIdeal.Frame
public import Idealize.ShloMosaic.Lib.Claim

@[expose] public section

noncomputable section

namespace Cert.Proof.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block of one grid point, from the blocks of the arrays it reads. -/
def blockOut (x0 x1 : FVec F S2048x128 .bf16) (x2 : FVec F S4x128 .f32) (x3 : FVec F S1x128 .f32) (x4 : FVec F S1x128x128 .bf16)
    (x5 : FVec F S1x128 .f32) (x6 : FVec F S1x128x128 .bf16) (x7 x8 : FVec F S1x128 .f32) : FVec F S2048x128 .bf16 :=
  outOf (decay x0 x2 x3 x4 x5 x8) (drive x0 x2 x3 x4 x5 x6 x7 x8) x1

/-- What each window's buffer holds after the body at each grid point: an input its block, the output the block computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => blockOut (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q w := Pipeline.shareOf spec0 w
  owed _ := 0

/-- The arrays before the run are those the host prepares. -/
theorem A_eq (c : Dev nD) (w : Fin cfg0.W) : (dats m 0 c).A w = V m c (Pipeline.arrRef spec0 w) := by
  dsimp only [dats]

/-- What window 0 holds after a grid point. -/
theorem after_0 (c : Dev nD) (t : Fin cfg0.N) : (dats m 0 c).after 0 t = iblk m c 0 t := by dsimp only [dats]
/-- What window 1 holds after a grid point. -/
theorem after_1 (c : Dev nD) (t : Fin cfg0.N) : (dats m 0 c).after 1 t = iblk m c 1 t := by dsimp only [dats]
/-- What window 2 holds after a grid point. -/
theorem after_2 (c : Dev nD) (t : Fin cfg0.N) : (dats m 0 c).after 2 t = iblk m c 2 t := by dsimp only [dats]
/-- What window 3 holds after a grid point. -/
theorem after_3 (c : Dev nD) (t : Fin cfg0.N) : (dats m 0 c).after 3 t = iblk m c 3 t := by dsimp only [dats]
/-- What window 4 holds after a grid point. -/
theorem after_4 (c : Dev nD) (t : Fin cfg0.N) : (dats m 0 c).after 4 t = iblk m c 4 t := by dsimp only [dats]
/-- What window 5 holds after a grid point. -/
theorem after_5 (c : Dev nD) (t : Fin cfg0.N) : (dats m 0 c).after 5 t = iblk m c 5 t := by dsimp only [dats]
/-- What window 6 holds after a grid point. -/
theorem after_6 (c : Dev nD) (t : Fin cfg0.N) : (dats m 0 c).after 6 t = iblk m c 6 t := by dsimp only [dats]
/-- What window 7 holds after a grid point. -/
theorem after_7 (c : Dev nD) (t : Fin cfg0.N) : (dats m 0 c).after 7 t = iblk m c 7 t := by dsimp only [dats]
/-- What window 8 holds after a grid point. -/
theorem after_8 (c : Dev nD) (t : Fin cfg0.N) : (dats m 0 c).after 8 t = iblk m c 8 t := by dsimp only [dats]
/-- What window 9 holds after a grid point. -/
theorem after_9 (c : Dev nD) (t : Fin cfg0.N) : (dats m 0 c).after 9 t = blockOut (iblk m c 0 t) (iblk m c 1 t) (iblk m c 2 t) (iblk m c 3 t) (iblk m c 4 t) (iblk m c 5 t) (iblk m c 6 t) (iblk m c 7 t) (iblk m c 8 t) := by dsimp only [dats]

/-- What window 0 holds before a grid point. -/
theorem before_0 (c : Dev nD) (t : Fin cfg0.N) (d) : (dats m 0 c).before 0 t d = iblk m c 0 t :=
  before0_0_of m (dats m 0 c) (A_eq m c 0) (after_0 m c) t d
/-- What window 1 holds before a grid point. -/
theorem before_1 (c : Dev nD) (t : Fin cfg0.N) (d) : (dats m 0 c).before 1 t d = iblk m c 1 t :=
  before0_1_of m (dats m 0 c) (A_eq m c 1) (after_1 m c) t d
/-- What window 2 holds before a grid point. -/
theorem before_2 (c : Dev nD) (t : Fin cfg0.N) (d) : (dats m 0 c).before 2 t d = iblk m c 2 t :=
  before0_2_of m (dats m 0 c) (A_eq m c 2) (after_2 m c) t d
/-- What window 3 holds before a grid point. -/
theorem before_3 (c : Dev nD) (t : Fin cfg0.N) (d) : (dats m 0 c).before 3 t d = iblk m c 3 t :=
  before0_3_of m (dats m 0 c) (A_eq m c 3) (after_3 m c) t d
/-- What window 4 holds before a grid point. -/
theorem before_4 (c : Dev nD) (t : Fin cfg0.N) (d) : (dats m 0 c).before 4 t d = iblk m c 4 t :=
  before0_4_of m (dats m 0 c) (A_eq m c 4) (after_4 m c) t d
/-- What window 5 holds before a grid point. -/
theorem before_5 (c : Dev nD) (t : Fin cfg0.N) (d) : (dats m 0 c).before 5 t d = iblk m c 5 t :=
  before0_5_of m (dats m 0 c) (A_eq m c 5) (after_5 m c) t d
/-- What window 6 holds before a grid point. -/
theorem before_6 (c : Dev nD) (t : Fin cfg0.N) (d) : (dats m 0 c).before 6 t d = iblk m c 6 t :=
  before0_6_of m (dats m 0 c) (A_eq m c 6) (after_6 m c) t d
/-- What window 7 holds before a grid point. -/
theorem before_7 (c : Dev nD) (t : Fin cfg0.N) (d) : (dats m 0 c).before 7 t d = iblk m c 7 t :=
  before0_7_of m (dats m 0 c) (A_eq m c 7) (after_7 m c) t d
/-- What window 8 holds before a grid point. -/
theorem before_8 (c : Dev nD) (t : Fin cfg0.N) (d) : (dats m 0 c).before 8 t d = iblk m c 8 t :=
  before0_8_of m (dats m 0 c) (A_eq m c 8) (after_8 m c) t d

/-- The three scratch buffers and the generator's register are what the region keeps for itself. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body returns at a grid point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 800000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl, scratch_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's entry at a grid point. -/
theorem defs₀_row (t : Fin cfg0.N) :
    defs₀ (F := F) .tc cfg0.body (cfg0.bodyArgs t (cfg0.slots t)) = bodyAt0 t := by
  unfold defs₀; rw [Defs.onTc_tc]

/-- The body's obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run ends with every array at what the windows leave in it, and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every run ends with every array at what the windows leave in it. -/
theorem run_main : θ_run defs (onTc (τ := τ) (main (F := F))) (s₀ m ρ) (Pipeline.FramePost cfgs (dats m) 0 (V m)) :=
  (θ_run defs _ _).mono (fun _ h => h.1) (run_quiescent m ρ)

/-- Every run ends, with the argument arrays unchanged and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiescent m ρ))

end Cert.Proof.Lru

end
-- ==== Proof.RefLoop.lean ====
module

public import proofs.«01_k».proof.Proof.Gen.ReferenceIdeal.Run
public import proofs.«01_k».proof.Proof.LruScan
public import Idealize.ShloMosaic.Lib.Pointwise
public import Idealize.ShloMosaic.Lib.WordCmp

@[expose] public section

noncomputable section

namespace Cert.Proof.Ref

open Cert.ReferenceIdeal Cert.ReferenceIdeal.Gen Cert.ReferenceIdeal.Value
open Idealize.ShloMosaic Idealize.ShloMosaic.TcCoe Idealize.ShloMosaic.WordCmp
open Cert.Proof.Lru (hrun)

variable {F : FTy → Type} [FloatOps F]

/-- The recurrence of one batch entry and one channel, over the whole sequence. -/
def line (A B : S2048x8x2048.Idx → F .f32) (b : Fin 8) (d : Fin 2048) : ℕ → F .f32 :=
  hrun (fun t => A (ix3 ⟨t % 2048, Nat.mod_lt _ (by decide)⟩ b d)) (fun t => B (ix3 ⟨t % 2048, Nat.mod_lt _ (by decide)⟩ b d))

/-- A step of the loop slices inside the array. -/
theorem starts_slices (k : ℕ) (hk : k < 2048) : S2048x8x2048.Slices ![k, 0, 0] S1x8x2048 :=
  ⟨rfl, fun a => by fin_cases a <;> simp [S2048x8x2048, S1x8x2048] <;> omega⟩

/-- A step's slice starts at its time. -/
theorem starts_eq (k : ℕ) (hk : k < 2048) (a : Fin 3) :
    ((![fun _ => BitVec.ofNat 32 k, constantI S_ 32 0#32, constantI S_ 32 0#32] : Fin 3 → (⟨S_, .i32⟩ : BufTy).Contents (Elt F)) a (Shape.Idx.first h_S_)).toInt
      = ((![k, 0, 0] : Fin 3 → ℕ) a : Int) := by
  fin_cases a
  · exact toInt_ofNat_of_lt (by omega)
  · rfl
  · rfl

/-- The slice of one time step, read at an entry. -/
theorem slice_read (x : S2048x8x2048.Idx → F .f32) (st : Fin 3 → Int) (k : ℕ) (hk : k < 2048)
    (e : ∀ a, st a = ((![k, 0, 0] : Fin 3 → ℕ) a : Int)) (b : Fin 8) (d : Fin 2048) :
    shapeCast S8x2048 (Host.dynamicSlice S1x8x2048 x st sliceFits_S2048x8x2048_S1x8x2048) shapeCasts_S1x8x2048_S8x2048 (ix2 b d)
      = x (ix3 ⟨k, hk⟩ b d) := by
  rw [dynamicSlice_eq_extract S1x8x2048 x st _ ![k, 0, 0] (starts_slices k hk) e]
  pointwise

/-- The write of one time step, read at an entry. -/
theorem update_read (x : S2048x8x2048.Idx → F .f32) (u : S8x2048.Idx → F .f32) (st : Fin 3 → Int) (k : ℕ) (hk : k < 2048)
    (e : ∀ a, st a = ((![k, 0, 0] : Fin 3 → ℕ) a : Int)) (t : Fin 2048) (b : Fin 8) (d : Fin 2048) :
    Host.dynamicUpdateSlice x (broadcastInDim S1x8x2048 ![1, 2] bcast_S8x2048_S1x8x2048_1_2 u) st
        updateFits_S2048x8x2048_S1x8x2048 (ix3 t b d)
      = if t.val = k then u (ix2 b d) else x (ix3 t b d) := by
  rw [dynamicUpdateSlice_eq_update x _ st _ ![k, 0, 0] (starts_slices k hk) e]
  pointwise
  have := b.isLt
  have := d.isLt
  by_cases h : t.val = k
  · rw [dif_pos (by omega), if_pos h]
  · rw [dif_neg (by omega), if_neg h]

/-- One step of the recurrence, read at an entry. -/
theorem next_apply (V : Valuation τ sig (Elt F)) (k : ℕ) (hk : k < 2048)
    (hc : V (Proc.devRef .tc main_v77_2) = fun _ => BitVec.ofNat 32 k) (b : Fin 8) (d : Fin 2048) :
    (res_main_while0b_v101 V : S8x2048.Idx → F .f32) (ix2 b d)
      = FloatOps.addf (FloatOps.mulf ((V (Proc.devRef .tc main_v77_0) : S2048x8x2048.Idx → F .f32) (ix3 ⟨k, hk⟩ b d))
          ((V (Proc.devRef .tc main_v77_3) : S8x2048.Idx → F .f32) (ix2 b d)))
        ((V (Proc.devRef .tc main_v77_1) : S2048x8x2048.Idx → F .f32) (ix3 ⟨k, hk⟩ b d)) := by
  unfold res_main_while0b_v101
  rw [hc]
  exact congrArg₂ FloatOps.addf (congrArg₂ FloatOps.mulf (slice_read _ _ k hk (starts_eq k hk) b d) rfl)
    (slice_read _ _ k hk (starts_eq k hk) b d)

/-- The carried arrays after `k` steps of the scan. -/
theorem loop_state (V : Valuation τ sig (Elt F))
    (hc : V (Proc.devRef .tc main_v77_2) = fun _ => (0#32 : BitVec 32))
    (h3 : ∀ b d, (V (Proc.devRef .tc main_v77_3) : S8x2048.Idx → F .f32) (ix2 b d) = Scalar.ofBits .f32 0x00000000#32) :
    ∀ k, k ≤ 2048 → (STEP^[k] V) (Proc.devRef .tc main_v77_0) = V (Proc.devRef .tc main_v77_0)
      ∧ (STEP^[k] V) (Proc.devRef .tc main_v77_1) = V (Proc.devRef .tc main_v77_1)
      ∧ ((STEP^[k] V) (Proc.devRef .tc main_v77_2) = fun _ => BitVec.ofNat 32 k)
      ∧ (∀ b d, ((STEP^[k] V) (Proc.devRef .tc main_v77_3) : S8x2048.Idx → F .f32) (ix2 b d)
          = line (V (Proc.devRef .tc main_v77_0)) (V (Proc.devRef .tc main_v77_1)) b d k)
      ∧ (∀ (t : Fin 2048) b d, t.val < k → ((STEP^[k] V) (Proc.devRef .tc main_v77_4) : S2048x8x2048.Idx → F .f32) (ix3 t b d)
          = line (V (Proc.devRef .tc main_v77_0)) (V (Proc.devRef .tc main_v77_1)) b d (t.val + 1))
  | 0 => fun _ => ⟨rfl, rfl, hc, h3, fun t _ _ h => absurd h (by omega)⟩
  | k + 1 => fun hk => by
    obtain ⟨h0, h1, h2, hs, ho⟩ := loop_state V hc h3 k (by omega)
    have hn : ∀ b d, (res_main_while0b_v101 (STEP^[k] V) : S8x2048.Idx → F .f32) (ix2 b d)
        = line (V (Proc.devRef .tc main_v77_0)) (V (Proc.devRef .tc main_v77_1)) b d (k + 1) := fun b d => by
      rw [next_apply _ k (by omega) h2 b d, h0, h1, hs b d]
      show _ = FloatOps.addf (FloatOps.mulf _ _) _
      have e : (⟨k % 2048, Nat.mod_lt _ (by decide)⟩ : Fin 2048) = ⟨k, by omega⟩ := Fin.ext (Nat.mod_eq_of_lt (by omega))
      simp only [e]
      rfl
    rw [Function.iterate_succ_apply']
    refine ⟨(STEP_main_v77_0 _).trans h0, (STEP_main_v77_1 _).trans h1, ?_, ?_, ?_⟩
    · rw [STEP_main_v77_2]; unfold step_main_v77_2; rw [h2]
      funext _
      show BitVec.ofNat 32 k + 1#32 = BitVec.ofNat 32 (k + 1)
      rw [BitVec.ofNat_add]
    · intro b d
      rw [STEP_main_v77_3]
      exact hn b d
    · intro t b d ht
      rw [STEP_main_v77_4]
      unfold step_main_v77_4
      rw [h2]
      refine (update_read _ _ _ k (by omega) (starts_eq k (by omega)) t b d).trans ?_
      split
      · rename_i h
        rw [h]
        exact hn b d
      · exact ho t b d (by omega)

end Cert.Proof.Ref

end
-- ==== Proof.RefEntry.lean ====
module

public import proofs.«01_k».proof.Proof.RefLoop

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.WordCmp Idealize.ShloMosaic.StableHlo

/-- A vector of 2048 channels laid along every row. -/
def along (v : S2048.Idx → Ideal .f32) : S8x2048x2048.Idx → Ideal .f32 :=
  broadcastInDim S8x2048x2048 ![0, 1, 2] bcast_S1x1x2048_S8x2048x2048_0_1_2 (broadcastInDim S1x1x2048 ![2] bcast_S2048_S1x1x2048_2 v)

/-- The recurrent input columns, with three rows of zeros before each sequence. -/
def padded (a0 : S16384x13824.Idx → Ideal .bf16) : S8x2051x2048.Idx → Ideal .f32 :=
  pad S8x2051x2048 ![0, 3, 0] ![0, 0, 0] ![0, 0, 0]
    (shapeCast S8x2048x2048 (extf .f32 (extractStridedSlice S16384x2048 ![0, 5120] a0 slices_S16384x13824_S16384x2048_0_5120)
      bitsLt_bf16_f32) shapeCasts_S16384x2048_S8x2048x2048)
    (sitofp .f32 (constantI S_ 32 0#32)) pads_S8x2048x2048_S8x2051x2048_000_300_000

/-- The causal convolution over four taps. -/
def conv (x : S8x2051x2048.Idx → Ideal .f32) (w : S4x2048.Idx → Ideal .f32) (v : S2048.Idx → Ideal .f32) : S8x2048x2048.Idx → Ideal .f32 :=
  addf (addf (addf (addf (along v)
    (mulf (extractStridedSlice S8x2048x2048 ![0, 0, 0] x slices_S8x2051x2048_S8x2048x2048_0_0_0)
      (along (shapeCast S2048 (extractStridedSlice S1x2048 ![0, 0] w slices_S4x2048_S1x2048_0_0) shapeCasts_S1x2048_S2048))))
    (mulf (extractStridedSlice S8x2048x2048 ![0, 1, 0] x slices_S8x2051x2048_S8x2048x2048_0_1_0)
      (along (shapeCast S2048 (extractStridedSlice S1x2048 ![1, 0] w slices_S4x2048_S1x2048_1_0) shapeCasts_S1x2048_S2048))))
    (mulf (extractStridedSlice S8x2048x2048 ![0, 2, 0] x slices_S8x2051x2048_S8x2048x2048_0_2_0)
      (along (shapeCast S2048 (extractStridedSlice S1x2048 ![2, 0] w slices_S4x2048_S1x2048_2_0) shapeCasts_S1x2048_S2048))))
    (mulf (extractStridedSlice S8x2048x2048 ![0, 3, 0] x slices_S8x2051x2048_S8x2048x2048_0_3_0)
      (along (shapeCast S2048 (extractStridedSlice S1x2048 ![3, 0] w slices_S4x2048_S1x2048_3_0) shapeCasts_S1x2048_S2048)))

/-- A gate: the block-diagonal product with its bias, through the logistic function. -/
def gate (u : S8x2048x2048.Idx → Ideal .f32) (w : S16x128x128.Idx → Ideal .f32) (v : S2048.Idx → Ideal .f32) : S8x2048x2048.Idx → Ideal .f32 :=
  Host.divf (broadcastInDim S8x2048x2048 ![] bcast_S_S8x2048x2048 (constant S_ .f32 0x3F800000#32))
    (addf (broadcastInDim S8x2048x2048 ![] bcast_S_S8x2048x2048 (constant S_ .f32 0x3F800000#32))
      (Host.exp (Host.negf (addf (shapeCast S8x2048x2048 (transpose S8x2048x16x128 [2, 3, 0, 1]
        (Host.dotGeneral dot_S16x128x128_S8x2048x16x128_S16x128x8x2048_1_3_2_01_0_2 none w
          (shapeCast S8x2048x16x128 u shapeCasts_S8x2048x2048_S8x2048x16x128)) transposes_S16x128x8x2048_S8x2048x16x128_2_3_0_1)
        shapeCasts_S8x2048x16x128_S8x2048x2048) (along v)))))

/-- The logarithm of the logistic function of the decay parameter. -/
def logsig (x : S2048.Idx → Ideal .f32) : S2048.Idx → Ideal .f32 :=
  Host.negf (select (cmpf .une (subf (Host.negf x) (broadcastInDim S2048 ![] bcast_S_S2048 (constant S_ .f32 0x00000000#32)))
      (subf (Host.negf x) (broadcastInDim S2048 ![] bcast_S_S2048 (constant S_ .f32 0x00000000#32))))
    (addf (Host.negf x) (broadcastInDim S2048 ![] bcast_S_S2048 (constant S_ .f32 0x00000000#32)))
    (addf (maximumf (Host.negf x) (broadcastInDim S2048 ![] bcast_S_S2048 (constant S_ .f32 0x00000000#32)))
      (Host.log1p (Host.exp (Host.negf (Host.absf (subf (Host.negf x)
        (broadcastInDim S2048 ![] bcast_S_S2048 (constant S_ .f32 0x00000000#32)))))))))

/-- The exponent of the decay. -/
def expo (g : S8x2048x2048.Idx → Ideal .f32) (l : S2048.Idx → Ideal .f32) : S8x2048x2048.Idx → Ideal .f32 :=
  mulf (mulf (broadcastInDim S8x2048x2048 ![] bcast_S_S8x2048x2048 (constant S_ .f32 0x41000000#32)) g) (along l)

/-- The decays of the recurrence, time first. -/
def decays (g : S8x2048x2048.Idx → Ideal .f32) (l : S2048.Idx → Ideal .f32) : S2048x8x2048.Idx → Ideal .f32 :=
  transpose S2048x8x2048 [1, 0, 2] (Host.exp (expo g l)) transposes_S8x2048x2048_S2048x8x2048_1_0_2

/-- The inputs of the recurrence, time first. -/
def drives (g : S8x2048x2048.Idx → Ideal .f32) (l : S2048.Idx → Ideal .f32) (i u : S8x2048x2048.Idx → Ideal .f32) : S2048x8x2048.Idx → Ideal .f32 :=
  transpose S2048x8x2048 [1, 0, 2] (mulf (Host.sqrt (Host.negf (Host.expm1 (mulf
    (broadcastInDim S8x2048x2048 ![] bcast_S_S8x2048x2048 (constant S_ .f32 0x40000000#32)) (expo g l))))) (mulf i u))
    transposes_S8x2048x2048_S2048x8x2048_1_0_2

/-- The padded input the reference computes. -/
theorem padded_read (V : Valuation τ sig (Elt Ideal)) :
    after hostOps0_1 (after hostOps0 V) (Proc.devRef .tc main_v3) = padded (V (Proc.devRef .tc main_arg0)) := by
  after_reads_simp
  rfl

/-- The convolution the reference computes. -/
theorem conv_read (V : Valuation τ sig (Elt Ideal)) :
    after hostOps0_2 V (Proc.devRef .tc main_v33)
      = conv (V (Proc.devRef .tc main_v3)) (V (Proc.devRef .tc main_arg1)) (V (Proc.devRef .tc main_arg2)) := by
  after_reads_simp
  rfl

/-- The decay gate the reference computes. -/
theorem gate_read (V : Valuation τ sig (Elt Ideal)) :
    after hostOps0_2 V (Proc.devRef .tc main_v60)
      = mulf (broadcastInDim S8x2048x2048 ![] bcast_S_S8x2048x2048 (constant S_ .f32 0x41000000#32))
        (gate (conv (V (Proc.devRef .tc main_v3)) (V (Proc.devRef .tc main_arg1)) (V (Proc.devRef .tc main_arg2)))
          (V (Proc.devRef .tc main_arg3)) (V (Proc.devRef .tc main_arg4))) := by
  after_reads_simp
  rfl

/-- The input gate the reference computes. -/
theorem igate_read (V : Valuation τ sig (Elt Ideal)) :
    after hostOps0_2 V (Proc.devRef .tc main_v58)
      = gate (conv (V (Proc.devRef .tc main_v3)) (V (Proc.devRef .tc main_arg1)) (V (Proc.devRef .tc main_arg2)))
          (V (Proc.devRef .tc main_arg5)) (V (Proc.devRef .tc main_arg6)) := by
  after_reads_simp
  rfl

/-- The log-sigmoid the reference computes. -/
theorem logsig_read (V : Valuation τ sig (Elt Ideal)) :
    after hostOps0_3 V (Proc.devRef .tc main_v61) = logsig (V (Proc.devRef .tc main_arg7)) := by
  after_reads_simp
  rfl

/-- The decays the reference computes. -/
theorem decays_read (V : Valuation τ sig (Elt Ideal)) :
    after hostOps0_4 V (Proc.devRef .tc main_v77_0)
      = transpose S2048x8x2048 [1, 0, 2] (Host.exp (mulf (V (Proc.devRef .tc main_v60)) (along (V (Proc.devRef .tc main_v61)))))
        transposes_S8x2048x2048_S2048x8x2048_1_0_2 := by
  after_reads_simp
  rfl

/-- The driving terms the reference computes. -/
theorem drives_read (V : Valuation τ sig (Elt Ideal)) :
    after hostOps0_4 V (Proc.devRef .tc main_v77_1)
      = transpose S2048x8x2048 [1, 0, 2] (mulf (Host.sqrt (Host.negf (Host.expm1 (mulf
          (broadcastInDim S8x2048x2048 ![] bcast_S_S8x2048x2048 (constant S_ .f32 0x40000000#32))
          (mulf (V (Proc.devRef .tc main_v60)) (along (V (Proc.devRef .tc main_v61))))))))
          (mulf (V (Proc.devRef .tc main_v58)) (V (Proc.devRef .tc main_v33))))
        transposes_S8x2048x2048_S2048x8x2048_1_0_2 := by
  after_reads_simp
  rfl

/-- The zero state the reference starts from. -/
theorem zero_read (V : Valuation τ sig (Elt Ideal)) :
    after hostOps0_4 V (Proc.devRef .tc main_v77_3)
      = broadcastInDim S8x2048 ![] bcast_S_S8x2048 (constant (F := Ideal) S_ .f32 0x00000000#32) := by
  after_reads_simp
  rfl

/-- The convolved input of the recurrence, of the program's arguments. -/
def inputs (V : Valuation τ sig (Elt Ideal)) : S8x2048x2048.Idx → Ideal .f32 :=
  conv (padded (V (Proc.devRef .tc main_arg0))) (V (Proc.devRef .tc main_arg1)) (V (Proc.devRef .tc main_arg2))

/-- The host code leaves an array it does not write. -/
theorem keep_v3 (V : Valuation τ sig (Elt Ideal)) (r : Ref sig .tc) (h : r ∉ hostOps0_W) (h1 : r ∉ hostOps0_1_W) :
    after hostOps0_1 (after hostOps0 V) (Proc.devRef .tc r) = V (Proc.devRef .tc r) :=
  (after_of_writes_sub hostOps0_1 _ hostOps0_1_writes h1).trans (after_of_writes_sub hostOps0 _ hostOps0_writes h)

variable (m : (ℓ : Loc nD τ sig) → Buf (Elt Ideal) ℓ)

/-- The decays the scan reads. -/
theorem entry_decays (c : Dev nD) (V : Valuation τ sig (Elt Ideal)) (hV : V = fun r => m ⟨c, r⟩) :
    entryContents preI m c (Proc.devRef .tc main_v77_0)
      = decays (gate (inputs V) (V (Proc.devRef .tc main_arg3)) (V (Proc.devRef .tc main_arg4))) (logsig (V (Proc.devRef .tc main_arg7))) := by
  subst hV
  simp only [entryContents, afterL_cons, afterL_nil]
  rw [decays_read, logsig_read, after_of_writes_sub hostOps0_3 _ hostOps0_3_writes (by decide : main_v60 ∉ hostOps0_3_W),
    after_of_writes_sub hostOps0_2 _ hostOps0_2_writes (by decide : main_arg7 ∉ hostOps0_2_W), gate_read, padded_read,
    keep_v3 _ main_arg1 (by decide) (by decide), keep_v3 _ main_arg2 (by decide) (by decide), keep_v3 _ main_arg3 (by decide) (by decide),
    keep_v3 _ main_arg4 (by decide) (by decide), keep_v3 _ main_arg7 (by decide) (by decide)]
  rfl

/-- The inputs the scan reads. -/
theorem entry_drives (c : Dev nD) (V : Valuation τ sig (Elt Ideal)) (hV : V = fun r => m ⟨c, r⟩) :
    entryContents preI m c (Proc.devRef .tc main_v77_1)
      = drives (gate (inputs V) (V (Proc.devRef .tc main_arg3)) (V (Proc.devRef .tc main_arg4))) (logsig (V (Proc.devRef .tc main_arg7)))
        (gate (inputs V) (V (Proc.devRef .tc main_arg5)) (V (Proc.devRef .tc main_arg6))) (inputs V) := by
  subst hV
  simp only [entryContents, afterL_cons, afterL_nil]
  rw [drives_read, logsig_read, after_of_writes_sub hostOps0_3 _ hostOps0_3_writes (by decide : main_v60 ∉ hostOps0_3_W),
    after_of_writes_sub hostOps0_3 _ hostOps0_3_writes (by decide : main_v58 ∉ hostOps0_3_W),
    after_of_writes_sub hostOps0_3 _ hostOps0_3_writes (by decide : main_v33 ∉ hostOps0_3_W),
    after_of_writes_sub hostOps0_2 _ hostOps0_2_writes (by decide : main_arg7 ∉ hostOps0_2_W), gate_read, igate_read, conv_read, padded_read,
    keep_v3 _ main_arg1 (by decide) (by decide), keep_v3 _ main_arg2 (by decide) (by decide), keep_v3 _ main_arg3 (by decide) (by decide),
    keep_v3 _ main_arg4 (by decide) (by decide), keep_v3 _ main_arg5 (by decide) (by decide), keep_v3 _ main_arg6 (by decide) (by decide),
    keep_v3 _ main_arg7 (by decide) (by decide)]
  rfl

/-- The scan starts from zero. -/
theorem entry_zero (c : Dev nD) (b : Fin 8) (d : Fin 2048) :
    (entryContents preI m c (Proc.devRef .tc main_v77_3) : S8x2048.Idx → Ideal .f32) (ix2 b d) = Scalar.ofBits (F := Ideal) .f32 0x00000000#32 := by
  simp only [entryContents, afterL_cons, afterL_nil]
  rw [zero_read]
  rfl

end Cert.Proof.Ref

end
-- ==== Proof.LruMath.lean ====
module

public import proofs.«01_k».proof.Proof.LruScan
public import Idealize.ShloMosaic.Lib.Pointwise

@[expose] public section

noncomputable section

namespace Cert.Proof.Lru

open Idealize.ShloMosaic

/-- The exponential is never negative. -/
theorem exp_nonneg (x : EReal) : 0 ≤ Ideal.exp x := by
  induction x with
  | bot => exact le_refl _
  | top => exact le_top
  | coe r => exact EReal.coe_nonneg.mpr (Real.exp_pos r).le

/-- The logarithm of one plus something nonnegative is nonnegative. -/
theorem log1p_nonneg (x : EReal) (h : 0 ≤ x) : 0 ≤ Ideal.log1p x := by
  induction x with
  | bot => exact absurd h (by simp)
  | top =>
    unfold Ideal.log1p
    rw [show (1 : EReal) + ⊤ = ⊤ from EReal.add_top_of_ne_bot (EReal.coe_ne_bot 1)]
    exact le_top
  | coe r =>
    have hr : 0 ≤ r := EReal.coe_nonneg.mp h
    have e : (1 : EReal) + (r : EReal) = ((1 + r : ℝ) : EReal) := by push_cast; rfl
    unfold Ideal.log1p
    rw [e]
    show 0 ≤ (if 1 + r ≤ 0 then ⊥ else ((Real.log (1 + r) : ℝ) : EReal))
    rw [if_neg (by linarith)]
    exact EReal.coe_nonneg.mpr (Real.log_nonneg (by linarith))

/-- The logistic function is never negative. -/
theorem logistic_nonneg (x : EReal) : 0 ≤ Ideal.logistic x := by
  induction x with
  | bot => simp
  | top => simp
  | coe r =>
    rw [Ideal.logistic_coe]
    exact EReal.coe_nonneg.mpr (inv_nonneg.mpr (by positivity))

/-- The logarithm of the logistic function, as both programs write it, is at most zero. -/
theorem softplus_neg (x y : EReal) : -(max x 0 + Ideal.log1p (Ideal.exp y)) ≤ 0 := by
  have h : 0 ≤ max x 0 + Ideal.log1p (Ideal.exp y) := add_nonneg (le_max_right _ _) (log1p_nonneg _ (exp_nonneg _))
  simpa using EReal.neg_le_neg_iff.mpr h

/-- The pattern of the number two. -/
theorem two_bits : Ideal.ofBits .f32 0x40000000#32 = ((2 : ℝ) : EReal) := by
  simp [Ideal.ofBits, Ideal.ieee, -EReal.coe_mul]; norm_num

/-- The pattern of the number eight. -/
theorem eight_bits : Ideal.ofBits .f32 0x41000000#32 = ((8 : ℝ) : EReal) := by
  simp [Ideal.ofBits, Ideal.ieee, -EReal.coe_mul]; norm_num

/-- At an exponent that is not positive the decay is a real between zero and one, and doubling the exponent squares it. -/
theorem decay_real (E : EReal) (h : E ≤ 0) :
    ∃ r : ℝ, 0 ≤ r ∧ r ≤ 1 ∧ Ideal.exp E = (r : EReal) ∧ Ideal.exp (((2 : ℝ) : EReal) * E) = ((r * r : ℝ) : EReal) := by
  induction E with
  | bot =>
    refine ⟨0, le_refl _, zero_le_one, rfl, ?_⟩
    rw [EReal.coe_mul_bot_of_pos two_pos]
    simp
  | top => exact absurd h (by simp)
  | coe e =>
    have he : e ≤ 0 := EReal.coe_nonpos.mp h
    refine ⟨Real.exp e, (Real.exp_pos e).le, Real.exp_le_one_iff.mpr he, rfl, ?_⟩
    rw [← EReal.coe_mul, Ideal.exp_coe, ← Real.exp_add, two_mul]

/-- A decay at an exponent that is not positive is nonnegative and finite. -/
theorem decay_bounds (E : EReal) (h : E ≤ 0) : 0 ≤ Ideal.exp E ∧ Ideal.exp E ≠ ⊤ := by
  obtain ⟨r, h0, -, e, -⟩ := decay_real E h
  rw [e]
  exact ⟨EReal.coe_nonneg.mpr h0, EReal.coe_ne_top r⟩

/-- The factor of the input: the root of one minus the squared decay is that number times its inverse root, and zero
where it is zero. -/
theorem root_eq (E : EReal) (h : E ≤ 0) :
    Ideal.sqrt (-(Ideal.exp (((2 : ℝ) : EReal) * E) - 1))
      = if 0 < 1 - Ideal.exp E * Ideal.exp E then (1 - Ideal.exp E * Ideal.exp E) * Ideal.rsqrt (1 - Ideal.exp E * Ideal.exp E) else 0 := by
  obtain ⟨r, h0, h1, e, e2⟩ := decay_real E h
  have ey : (1 : EReal) - Ideal.exp E * Ideal.exp E = ((1 - r * r : ℝ) : EReal) := by rw [e]; push_cast; rfl
  have ez : -(Ideal.exp (((2 : ℝ) : EReal) * E) - 1) = ((1 - r * r : ℝ) : EReal) := by
    rw [e2, ← EReal.coe_one, ← EReal.coe_sub, ← EReal.coe_neg]
    congr 1
    ring
  rw [ey, ez]
  have hy : 0 ≤ 1 - r * r := by nlinarith
  generalize 1 - r * r = y at hy
  show (if y < 0 then ⊥ else ((Real.sqrt y : ℝ) : EReal)) = _
  rw [if_neg (not_lt.mpr hy)]
  by_cases hp : 0 < y
  · rw [if_pos (EReal.coe_pos.mpr hp), Ideal.rsqrt_coe, if_neg (not_lt.mpr hy), if_neg hp.ne', ← EReal.coe_mul]
    congr 1
    have hs : 0 < Real.sqrt y := Real.sqrt_pos.mpr hp
    field_simp
    rw [Real.sq_sqrt hy]
  · have : y = 0 := le_antisymm (not_lt.mp hp) hy
    subst this
    simp

/-- The recurrence after `s + n` steps is the recurrence of the later `n` steps from zero, with what the first `s` steps
left carried through the product of the later decays. -/
theorem hrun_split (A B : ℕ → Ideal .f32) (hA : ∀ n, (0 : EReal) ≤ A n ∧ A n ≠ (⊤ : EReal)) (s : ℕ) : ∀ n,
    (hrun A B (s + n) : EReal) = hrun (fun i => A (s + i)) (fun i => B (s + i)) n + prun (fun i => A (s + i)) n * hrun A B s
  | 0 => by
    show (hrun A B s : EReal) = Ideal.ofBits .f32 0x00000000#32 + Ideal.ofBits .f32 0x3F800000#32 * hrun A B s
    rw [Ideal.ofBits_zero_f32, Ideal.ofBits_one_f32, one_mul, zero_add]
  | n + 1 => by
    have ih := hrun_split A B hA s n
    show (A (s + n) : EReal) * hrun A B (s + n) + B (s + n)
      = (A (s + n) * hrun (fun i => A (s + i)) (fun i => B (s + i)) n + B (s + n)) + (A (s + n) * prun (fun i => A (s + i)) n) * hrun A B s
    rw [ih, EReal.left_distrib_of_nonneg_of_ne_top (hA _).1 (hA _).2, mul_assoc, add_right_comm]

end Cert.Proof.Lru

end
-- ==== Proof.LruBlock.lean ====
module

public import proofs.«01_k».proof.Proof.LruFrame
public import proofs.«01_k».proof.Proof.LruMath

@[expose] public section

set_option maxRecDepth 16384

noncomputable section

namespace Cert.Proof.Lru

open Cert.KernelIdeal Cert.KernelIdeal.Gen
open Idealize.ShloMosaic Idealize.ShloMosaic.TcCoe

/-- The gated linear unit's curve: half of `g` times one plus the hyperbolic tangent of the usual cubic. -/
def curve (g : EReal) : EReal :=
  g * (Ideal.ofBits .f32 0x3F000000#32 * (1 + Ideal.tanh (Ideal.ofBits .f32 0x3F4C422A#32 *
    (g + Ideal.ofBits .f32 0x3D372713#32 * (g * (g * g))))))

/-- A channel of a block, row after row. -/
def chan (A : S2048x128.Idx → Ideal .f32) (e : Fin 128) (n : ℕ) : Ideal .f32 := A (ix2 ⟨n % 2048, Nat.mod_lt _ (by decide)⟩ e)

/-- The state a segment is entered with is the state of the whole recurrence at the segment's start. -/
theorem carry_eq (A B : FVec Ideal S2048x128 .f32) (e : Fin 128) (hA : ∀ n, (0 : EReal) ≤ chan A e n ∧ chan A e n ≠ (⊤ : EReal)) :
    ∀ g, carry A B e g = hrun (chan A e) (chan B e) (256 * g)
  | 0 => rfl
  | g + 1 => by
    show (hrun (seg A g e) (seg B g e) 256 + prun (seg A g e) 256 * carry A B e g : EReal) = _
    rw [carry_eq A B e hA g]
    exact (hrun_split (chan A e) (chan B e) hA (256 * g) 256).symm

/-- The output block read at an entry: the curve of the gate's input times the state of the whole recurrence. -/
theorem outOf_apply (A B : FVec Ideal S2048x128 .f32) (x1 : FVec Ideal S2048x128 .bf16) (t : Fin 2048) (e : Fin 128)
    (hA : ∀ n, (0 : EReal) ≤ chan A e n ∧ chan A e n ≠ (⊤ : EReal)) :
    (outOf A B x1 (ix2 t e) : EReal) = curve (x1 (ix2 t e)) * hrun (chan A e) (chan B e) (t.val + 1) := by
  have h := hrun_split (chan A e) (chan B e) hA (256 * (t.val / 256)) (t.val % 256 + 1)
  rw [show 256 * (t.val / 256) + (t.val % 256 + 1) = t.val + 1 by omega, ← carry_eq A B e hA] at h
  have et : (⟨(256 * (t.val / 256) + t.val % 256) % 2048, Nat.mod_lt _ (by decide)⟩ : Fin 2048) = t :=
    Fin.ext (by show (256 * (t.val / 256) + t.val % 256) % 2048 = t.val; have := t.isLt; omega)
  unfold outOf
  pointwise [k0_pay68, et]
  rw [h]
  rfl

/-- The convolved input of a block at an entry. -/
def uAt (x0 : FVec Ideal S2048x128 .bf16) (x2 : FVec Ideal S4x128 .f32) (x3 : FVec Ideal S1x128 .f32) (t : Fin 2048) (e : Fin 128) : EReal :=
  x3 (ix2 0 e) + tap x0 0 (ix2 t e) * x2 (ix2 0 e) + tap x0 1 (ix2 t e) * x2 (ix2 1 e)
    + tap x0 2 (ix2 t e) * x2 (ix2 2 e) + tap x0 3 (ix2 t e) * x2 (ix2 3 e)

/-- A gate of a block at an entry. -/
def gAt (x0 : FVec Ideal S2048x128 .bf16) (x2 : FVec Ideal S4x128 .f32) (x3 : FVec Ideal S1x128 .f32)
    (w : FVec Ideal S1x128x128 .bf16) (v : FVec Ideal S1x128 .f32) (t : Fin 2048) (e : Fin 128) : EReal :=
  Ideal.logistic (∑ k : Fin 128, uAt x0 x2 x3 t k * w (ix3 0 k e) + v (ix2 0 e))

/-- The logarithm of the logistic function at `y`. -/
def lsAt (y : EReal) : EReal := -(max (-y) 0 + Ideal.log1p (Ideal.exp (-(FloatOps.absf (F := Ideal) (φ := .f32) (-y) : EReal))))

/-- The exponent of the decay of a block at an entry. -/
def eAt (x0 : FVec Ideal S2048x128 .bf16) (x2 : FVec Ideal S4x128 .f32) (x3 : FVec Ideal S1x128 .f32)
    (w : FVec Ideal S1x128x128 .bf16) (v x8 : FVec Ideal S1x128 .f32) (t : Fin 2048) (e : Fin 128) : EReal :=
  gAt x0 x2 x3 w v t e * (Ideal.ofBits .f32 0x41000000#32 * lsAt (x8 (ix2 0 e)))

/-- The decay's exponent is never positive. -/
theorem eAt_nonpos (x0 : FVec Ideal S2048x128 .bf16) (x2 : FVec Ideal S4x128 .f32) (x3 : FVec Ideal S1x128 .f32)
    (w : FVec Ideal S1x128x128 .bf16) (v x8 : FVec Ideal S1x128 .f32) (t : Fin 2048) (e : Fin 128) : eAt x0 x2 x3 w v x8 t e ≤ 0 := by
  unfold eAt
  rw [eight_bits]
  exact EReal.mul_nonpos_iff.mpr (Or.inl ⟨logistic_nonneg _, EReal.mul_nonpos_iff.mpr (Or.inl ⟨EReal.coe_nonneg.mpr (by norm_num), softplus_neg _ _⟩)⟩)

/-- The scale of the exponent at an entry. -/
theorem scale_apply (x8 : FVec Ideal S1x128 .f32) (t : Fin 2048) (e : Fin 128) :
    (k0_pay39 (F := Ideal) x8 (ix2 t e) : EReal) = Ideal.ofBits .f32 0x41000000#32 * lsAt (x8 (ix2 0 e)) := by
  have z : ∀ y : EReal, 0 - y = -y := fun y => by rw [sub_eq_add_neg, zero_add]
  pointwise [k0_pay39]
  simp only [z, ne_eq, not_true_eq_false, if_false]
  rfl

/-- The decay gate at an entry. -/
theorem gateA_apply (x0 : FVec Ideal S2048x128 .bf16) (x2 : FVec Ideal S4x128 .f32) (x3 : FVec Ideal S1x128 .f32)
    (w : FVec Ideal S1x128x128 .bf16) (v : FVec Ideal S1x128 .f32) (t : Fin 2048) (e : Fin 128) :
    (k0_pay37 (F := Ideal) (convA x0 x2 x3) (convB x0 x2) w v (ix2 t e) : EReal) = gAt x0 x2 x3 w v t e := by
  pointwise [k0_pay37, k0_pay36, k0_pay35, convA, convB, k0_pay33, k0_pay34, wrow]
  rfl

/-- The input gate at an entry. -/
theorem gateI_apply (x0 : FVec Ideal S2048x128 .bf16) (x2 : FVec Ideal S4x128 .f32) (x3 : FVec Ideal S1x128 .f32)
    (w : FVec Ideal S1x128x128 .bf16) (v : FVec Ideal S1x128 .f32) (t : Fin 2048) (e : Fin 128) :
    (k0_pay38 (F := Ideal) (convA x0 x2 x3) (convB x0 x2) w v (ix2 t e) : EReal) = gAt x0 x2 x3 w v t e := by
  pointwise [k0_pay38, k0_pay36, k0_pay35, convA, convB, k0_pay33, k0_pay34, wrow]
  rfl

/-- The convolution at an entry. -/
theorem u_apply (x0 : FVec Ideal S2048x128 .bf16) (x2 : FVec Ideal S4x128 .f32) (x3 : FVec Ideal S1x128 .f32) (t : Fin 2048) (e : Fin 128) :
    (k0_pay35 (F := Ideal) (convA x0 x2 x3) (convB x0 x2) (ix2 t e) : EReal) = uAt x0 x2 x3 t e := by
  pointwise [k0_pay35, convA, convB, k0_pay33, k0_pay34, wrow]
  rfl

/-- The decay of a block at an entry. -/
theorem decay_apply (x0 : FVec Ideal S2048x128 .bf16) (x2 : FVec Ideal S4x128 .f32) (x3 : FVec Ideal S1x128 .f32)
    (w : FVec Ideal S1x128x128 .bf16) (v x8 : FVec Ideal S1x128 .f32) (t : Fin 2048) (e : Fin 128) :
    (decay x0 x2 x3 w v x8 (ix2 t e) : EReal) = Ideal.exp (eAt x0 x2 x3 w v x8 t e) := by
  unfold decay
  pointwise [k0_pay40]
  rw [gateA_apply, scale_apply]
  rfl

/-- What the recurrence adds, at an entry of a block. -/
theorem drive_apply (x0 : FVec Ideal S2048x128 .bf16) (x2 : FVec Ideal S4x128 .f32) (x3 : FVec Ideal S1x128 .f32)
    (w : FVec Ideal S1x128x128 .bf16) (v : FVec Ideal S1x128 .f32) (wi : FVec Ideal S1x128x128 .bf16) (vi x8 : FVec Ideal S1x128 .f32)
    (t : Fin 2048) (e : Fin 128) :
    (drive x0 x2 x3 w v wi vi x8 (ix2 t e) : EReal)
      = Ideal.sqrt (-(Ideal.exp (((2 : ℝ) : EReal) * eAt x0 x2 x3 w v x8 t e) - 1)) * (gAt x0 x2 x3 wi vi t e * uAt x0 x2 x3 t e) := by
  rw [root_eq _ (eAt_nonpos x0 x2 x3 w v x8 t e)]
  unfold drive
  pointwise [k0_pay41, k0_pay40]
  rw [gateA_apply, gateI_apply, scale_apply, u_apply]
  rfl

/-- The decay is a real number between nought and one. -/
theorem decay_ok (x0 : FVec Ideal S2048x128 .bf16) (x2 : FVec Ideal S4x128 .f32) (x3 : FVec Ideal S1x128 .f32)
    (w : FVec Ideal S1x128x128 .bf16) (v x8 : FVec Ideal S1x128 .f32) (e : Fin 128) (n : ℕ) :
    (0 : EReal) ≤ chan (decay x0 x2 x3 w v x8) e n ∧ chan (decay x0 x2 x3 w v x8) e n ≠ (⊤ : EReal) := by
  unfold chan
  rw [decay_apply]
  exact decay_bounds _ (eAt_nonpos x0 x2 x3 w v x8 _ e)

/-- The output block of a grid point, at an entry. -/
theorem blockOut_apply (x0 x1 : FVec Ideal S2048x128 .bf16) (x2 : FVec Ideal S4x128 .f32) (x3 : FVec Ideal S1x128 .f32)
    (w : FVec Ideal S1x128x128 .bf16) (v : FVec Ideal S1x128 .f32) (wi : FVec Ideal S1x128x128 .bf16) (vi x8 : FVec Ideal S1x128 .f32)
    (t : Fin 2048) (e : Fin 128) :
    (blockOut x0 x1 x2 x3 w v wi vi x8 (ix2 t e) : EReal)
      = curve (x1 (ix2 t e)) * hrun (chan (decay x0 x2 x3 w v x8) e) (chan (drive x0 x2 x3 w v wi vi x8) e) (t.val + 1) :=
  outOf_apply _ _ _ t e (decay_ok x0 x2 x3 w v x8 e)

end Cert.Proof.Lru

end
-- ==== Proof.RefValue.lean ====
module

public import proofs.«01_k».proof.Proof.RefEntry
public import proofs.«01_k».proof.Proof.LruBlock

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo
open Cert.Proof.Lru

/-- Channel `e` of the block of channels `j`. -/
def col (j : Fin 16) (e : Fin 128) : Fin 2048 := ⟨128 * j.val + e.val, by omega⟩

/-- A column's block. -/
theorem col_block (j : Fin 16) (e : Fin 128) (h : (col j e).val / 128 < 16) : (⟨(col j e).val / 128, h⟩ : Fin 16) = j :=
  Fin.ext (by show (128 * j.val + e.val) / 128 = j.val; omega)

/-- A column's place in its block. -/
theorem col_lane (j : Fin 16) (e : Fin 128) (h : (col j e).val % 128 < 128) : (⟨(col j e).val % 128, h⟩ : Fin 128) = e :=
  Fin.ext (by show (128 * j.val + e.val) % 128 = e.val; omega)

/-- Another column of the same block. -/
theorem col_other (j : Fin 16) (e k : Fin 128) (h : (col j e).val / 128 * 128 + k.val < 2048) :
    (⟨(col j e).val / 128 * 128 + k.val, h⟩ : Fin 2048) = col j k :=
  Fin.ext (by show (128 * j.val + e.val) / 128 * 128 + k.val = 128 * j.val + k.val; omega)

/-- The blocks of one grid point, told from the whole arrays: the recurrent columns, the convolution, the gates, the
decay parameter. -/
structure Blocks (b : Fin 8) (j : Fin 16) (a0 : S16384x13824.Idx → Ideal .bf16) (a1 : S4x2048.Idx → Ideal .f32)
    (a2 : S2048.Idx → Ideal .f32) (a3 : S16x128x128.Idx → Ideal .f32) (a4 : S2048.Idx → Ideal .f32) (a5 : S16x128x128.Idx → Ideal .f32)
    (a6 a7 : S2048.Idx → Ideal .f32) (x0 x1 : FVec Ideal Cert.KernelIdeal.S2048x128 .bf16) (x2 : FVec Ideal Cert.KernelIdeal.S4x128 .f32)
    (x3 : FVec Ideal Cert.KernelIdeal.S1x128 .f32) (x4 : FVec Ideal Cert.KernelIdeal.S1x128x128 .bf16) (x5 : FVec Ideal Cert.KernelIdeal.S1x128 .f32)
    (x6 : FVec Ideal Cert.KernelIdeal.S1x128x128 .bf16) (x7 x8 : FVec Ideal Cert.KernelIdeal.S1x128 .f32) : Prop where
  h0 : ∀ (t : Fin 2048) (e : Fin 128), (x0 (ix2 t e) : EReal) = a0 (ix2 ⟨2048 * b.val + t.val, by omega⟩ ⟨5120 + (col j e).val, by omega⟩)
  h1 : ∀ (t : Fin 2048) (e : Fin 128), (x1 (ix2 t e) : EReal) = a0 (ix2 ⟨2048 * b.val + t.val, by omega⟩ ⟨7168 + (col j e).val, by omega⟩)
  h2 : ∀ (k : Fin 4) (e : Fin 128), (x2 (ix2 k e) : EReal) = a1 (ix2 k (col j e))
  h3 : ∀ e : Fin 128, (x3 (ix2 0 e) : EReal) = a2 (ix1 (col j e))
  h4 : ∀ k e : Fin 128, (x4 (ix3 0 k e) : EReal) = a3 (ix3 j k e)
  h5 : ∀ e : Fin 128, (x5 (ix2 0 e) : EReal) = a4 (ix1 (col j e))
  h6 : ∀ k e : Fin 128, (x6 (ix3 0 k e) : EReal) = a5 (ix3 j k e)
  h7 : ∀ e : Fin 128, (x7 (ix2 0 e) : EReal) = a6 (ix1 (col j e))
  h8 : ∀ e : Fin 128, (x8 (ix2 0 e) : EReal) = a7 (ix1 (col j e))

section Match

variable {b : Fin 8} {j : Fin 16} {a0 : S16384x13824.Idx → Ideal .bf16} {a1 : S4x2048.Idx → Ideal .f32}
  {a2 : S2048.Idx → Ideal .f32} {a3 : S16x128x128.Idx → Ideal .f32} {a4 : S2048.Idx → Ideal .f32} {a5 : S16x128x128.Idx → Ideal .f32}
  {a6 a7 : S2048.Idx → Ideal .f32} {x0 x1 : FVec Ideal Cert.KernelIdeal.S2048x128 .bf16} {x2 : FVec Ideal Cert.KernelIdeal.S4x128 .f32}
  {x3 : FVec Ideal Cert.KernelIdeal.S1x128 .f32} {x4 : FVec Ideal Cert.KernelIdeal.S1x128x128 .bf16} {x5 : FVec Ideal Cert.KernelIdeal.S1x128 .f32}
  {x6 : FVec Ideal Cert.KernelIdeal.S1x128x128 .bf16} {x7 x8 : FVec Ideal Cert.KernelIdeal.S1x128 .f32}
  (H : Blocks b j a0 a1 a2 a3 a4 a5 a6 a7 x0 x1 x2 x3 x4 x5 x6 x7 x8)

include H

/-- One tap of the convolution: the reference's padded rows are the kernel's shifted rows. -/
theorem tap_eq (k : ℕ) (hk : k ≤ 3) (t : Fin 2048) (e : Fin 128) (n : Fin 2051) (hn : n.val = k + t.val) :
    (padded a0 (ix3 b n (col j e)) : EReal) = tap x0 k (ix2 t e) := by
  pointwise [padded, tap]
  by_cases h : t.val + k < 3
  · rw [dif_neg (by omega), if_pos h]
    show (((0#32 : BitVec 32).toInt : ℝ) : EReal) = 0
    simp
  · rw [dif_pos (by omega), if_neg h, H.h0]
    congr 2
    exact Fin.ext (by show b.val * 2048 + (n.val - 3) = 2048 * b.val + (t.val + k - 3) % 2048; omega)

/-- The kernel's convolution is the reference's. -/
theorem conv_eq (t : Fin 2048) (e : Fin 128) :
    (conv (padded a0) a1 a2 (ix3 b t (col j e)) : EReal) = uAt x0 x2 x3 t e := by
  pointwise [conv, along]
  rw [tap_eq H 0 (by omega) t e _ (by simp), tap_eq H 1 (by omega) t e _ rfl, tap_eq H 2 (by omega) t e _ rfl,
    tap_eq H 3 (by omega) t e _ rfl, ← H.h3, ← H.h2, ← H.h2, ← H.h2, ← H.h2]
  rfl

/-- The kernel's decay gate is the reference's. -/
theorem gateA_eq (t : Fin 2048) (e : Fin 128) :
    (gate (conv (padded a0) a1 a2) a3 a4 (ix3 b t (col j e)) : EReal) = gAt x0 x2 x3 x4 x5 t e := by
  pointwise [gate, along]
  unfold gAt Ideal.logistic
  refine congrArg (fun s => Ideal.div 1 (1 + Ideal.exp (-s))) (congrArg₂ (· + ·) (Finset.sum_congr rfl fun k _ => ?_) (H.h5 e).symm)
  simp only [col_block, col_lane, col_other]
  rw [conv_eq H, H.h4, mul_comm]

/-- The kernel's input gate is the reference's. -/
theorem gateI_eq (t : Fin 2048) (e : Fin 128) :
    (gate (conv (padded a0) a1 a2) a5 a6 (ix3 b t (col j e)) : EReal) = gAt x0 x2 x3 x6 x7 t e := by
  pointwise [gate, along]
  unfold gAt Ideal.logistic
  refine congrArg (fun s => Ideal.div 1 (1 + Ideal.exp (-s))) (congrArg₂ (· + ·) (Finset.sum_congr rfl fun k _ => ?_) (H.h7 e).symm)
  simp only [col_block, col_lane, col_other]
  rw [conv_eq H, H.h6, mul_comm]

/-- The kernel's log-sigmoid is the reference's. -/
theorem logsig_eq (e : Fin 128) : (logsig a7 (ix1 (col j e)) : EReal) = lsAt (x8 (ix2 0 e)) := by
  rw [H.h8]
  pointwise [logsig]
  simp only [ne_eq, not_true_eq_false, if_false]
  rfl

/-- The kernel's exponent is the reference's. -/
theorem expo_eq (t : Fin 2048) (e : Fin 128) :
    (expo (gate (conv (padded a0) a1 a2) a3 a4) (logsig a7) (ix3 b t (col j e)) : EReal) = eAt x0 x2 x3 x4 x5 x8 t e := by
  have hg := gateA_eq H t e
  have hl := logsig_eq H e
  pointwise [expo, along]
  unfold eAt
  rw [hg, hl, mul_comm (Ideal.ofBits .f32 0x41000000#32) (gAt x0 x2 x3 x4 x5 t e), mul_assoc]

/-- The kernel's decay is the reference's. -/
theorem decays_eq (t : Fin 2048) (e : Fin 128) :
    (decays (gate (conv (padded a0) a1 a2) a3 a4) (logsig a7) (ix3 t b (col j e)) : EReal) = decay x0 x2 x3 x4 x5 x8 (ix2 t e) := by
  rw [decay_apply]
  have he := expo_eq H t e
  pointwise [decays]
  rw [he]

/-- The kernel's driving term is the reference's. -/
theorem drives_eq (t : Fin 2048) (e : Fin 128) :
    (drives (gate (conv (padded a0) a1 a2) a3 a4) (logsig a7) (gate (conv (padded a0) a1 a2) a5 a6) (conv (padded a0) a1 a2)
      (ix3 t b (col j e)) : EReal) = drive x0 x2 x3 x4 x5 x6 x7 x8 (ix2 t e) := by
  rw [drive_apply]
  have he := expo_eq H t e
  have hi := gateI_eq H t e
  have hu := conv_eq H t e
  pointwise [drives]
  rw [he, hi, hu, two_bits]

/-- The recurrence of the reference, in a channel of the block, is the recurrence of the block. -/
theorem line_eq (t : Fin 2048) (e : Fin 128) :
    line (decays (gate (conv (padded a0) a1 a2) a3 a4) (logsig a7))
      (drives (gate (conv (padded a0) a1 a2) a3 a4) (logsig a7) (gate (conv (padded a0) a1 a2) a5 a6) (conv (padded a0) a1 a2))
      b (col j e) (t.val + 1)
      = hrun (chan (decay x0 x2 x3 x4 x5 x8) e) (chan (drive x0 x2 x3 x4 x5 x6 x7 x8) e) (t.val + 1) :=
  hrun_congr _ _ _ _ _ (fun n _ => decays_eq H ⟨n % 2048, _⟩ e) (fun n _ => drives_eq H ⟨n % 2048, _⟩ e)

end Match

variable (m : (ℓ : Loc nD τ sig) → Buf (Elt Ideal) ℓ)

/-- The operations after the scan, read at an entry. -/
theorem tail_apply (V : Valuation τ sig (Elt Ideal)) (a0 : S16384x13824.Idx → Ideal .bf16) (y : S2048x8x2048.Idx → Ideal .f32)
    (h0 : V (Proc.devRef .tc main_arg0) = a0) (h4 : V (Proc.devRef .tc main_v77_4) = y)
    (i : Fin 16384) (d : Fin 2048) :
    (out_main_v97 V : S16384x2048.Idx → Ideal .bf16) (ix2 i d)
      = (curve (a0 (ix2 i ⟨7168 + d.val, by omega⟩)) * y (ix3 ⟨i.val % 2048, Nat.mod_lt _ (by decide)⟩ ⟨i.val / 2048, by omega⟩ d) : EReal) := by
  unfold out_main_v97 curve
  rw [h0, h4]
  pointwise
  rw [mul_assoc (a0 (ix2 i ⟨7168 + d.val, by omega⟩) : EReal) (a0 (ix2 i ⟨7168 + d.val, by omega⟩)) (a0 (ix2 i ⟨7168 + d.val, by omega⟩))]

/-- The reference's result at an entry of a block is the kernel's block at that entry. -/
theorem result_eq (c : Dev nD) (V : Valuation τ sig (Elt Ideal)) (hV : V = fun r => m ⟨c, r⟩) {b : Fin 8} {j : Fin 16}
    {x0 x1 : FVec Ideal Cert.KernelIdeal.S2048x128 .bf16} {x2 : FVec Ideal Cert.KernelIdeal.S4x128 .f32}
    {x3 : FVec Ideal Cert.KernelIdeal.S1x128 .f32} {x4 : FVec Ideal Cert.KernelIdeal.S1x128x128 .bf16} {x5 : FVec Ideal Cert.KernelIdeal.S1x128 .f32}
    {x6 : FVec Ideal Cert.KernelIdeal.S1x128x128 .bf16} {x7 x8 : FVec Ideal Cert.KernelIdeal.S1x128 .f32}
    (H : Blocks b j (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) (V (Proc.devRef .tc main_arg7))
      x0 x1 x2 x3 x4 x5 x6 x7 x8) (t : Fin 2048) (e : Fin 128) :
    (out_main_v97 (STEP^[2048] (entryContents preI m c)) : S16384x2048.Idx → Ideal .bf16)
        (ix2 ⟨2048 * b.val + t.val, by omega⟩ (col j e))
      = blockOut x0 x1 x2 x3 x4 x5 x6 x7 x8 (ix2 t e) := by
  obtain ⟨-, -, -, -, ho⟩ := loop_state (entryContents preI m c) (ctr_entry m c) (entry_zero m c) 2048 le_rfl
  have h4 := ho t b (col j e) t.isLt
  rw [entry_decays m c V hV, entry_drives m c V hV] at h4
  have h4' := h4.trans (line_eq H t e)
  have h0 : (STEP^[2048] (entryContents preI m c)) (Proc.devRef .tc main_arg0) = V (Proc.devRef .tc main_arg0) := by
    rw [iter_main_arg0 m c 2048, hV]
  refine Eq.trans ?_ (blockOut_apply x0 x1 x2 x3 x4 x5 x6 x7 x8 t e).symm
  generalize STEP^[2048] (entryContents preI m c) = W at *
  have ei : ∀ h, (⟨(2048 * b.val + t.val) % 2048, h⟩ : Fin 2048) = t := fun h => Fin.ext (by show (2048 * b.val + t.val) % 2048 = t.val; omega)
  have eb : ∀ h, (⟨(2048 * b.val + t.val) / 2048, h⟩ : Fin 8) = b := fun h => Fin.ext (by show (2048 * b.val + t.val) / 2048 = b.val; omega)
  refine (tail_apply W _ _ h0 rfl _ _).trans (congrArg₂ (fun x y : EReal => curve x * y) (H.h1 t e).symm ?_)
  simp only [ei, eb]
  exact h4'

end Cert.Proof.Ref

end
-- ==== Proof.LruValue.lean ====
module

public import proofs.«01_k».proof.Proof.LruFrame
public import proofs.«01_k».proof.Proof.RefValue
public import Idealize.ShloMosaic.Lib.Pipeline.ValueKit
public import Idealize.ShloMosaic.Lib.Pointwise

@[expose] public section

noncomputable section

namespace Cert.Proof.Lru

open Cert.KernelIdeal Cert.KernelIdeal.Gen
open Idealize.ShloMosaic Idealize.ShloMosaic.TcCoe Idealize.ShloMosaic.Tactic
open Idealize.SL Idealize.SL.Sem
open Cert.Proof.Ref (col Blocks)
open Cert.ReferenceIdeal.Value (STEP preI out_main_v97)
open Idealize.ShloMosaic.StableHlo (entryContents)

/-- The batch of a grid point. -/
def bOf (t : Fin cfg0.N) : Fin 8 := ⟨t.val / 16, by have := t.isLt; simp only [show cfg0.N = 128 from rfl] at this; omega⟩
/-- The block of columns of a grid point. -/
def jOf (t : Fin cfg0.N) : Fin 16 := ⟨t.val % 16, by omega⟩

/-! Which block of its array each window is at, at each grid point. -/

/-- The block window 0 is at. -/
theorem ind0 : ∀ t : Fin cfg0.N, win0_0.index t = ![(bOf t).val, 40 + (jOf t).val] := (by decide +kernel : ∀ t : Fin grid0.N, _)
/-- The block window 1 is at. -/
theorem ind1 : ∀ t : Fin cfg0.N, win0_1.index t = ![(bOf t).val, 56 + (jOf t).val] := (by decide +kernel : ∀ t : Fin grid0.N, _)
/-- The block window 2 is at. -/
theorem ind2 : ∀ t : Fin cfg0.N, win0_2.index t = ![0, (jOf t).val] := (by decide +kernel : ∀ t : Fin grid0.N, _)
/-- The block window 3 is at. -/
theorem ind3 : ∀ t : Fin cfg0.N, win0_3.index t = ![0, (jOf t).val] := (by decide +kernel : ∀ t : Fin grid0.N, _)
/-- The block window 4 is at. -/
theorem ind4 : ∀ t : Fin cfg0.N, win0_4.index t = ![(jOf t).val, 0, 0] := (by decide +kernel : ∀ t : Fin grid0.N, _)
/-- The block window 5 is at. -/
theorem ind5 : ∀ t : Fin cfg0.N, win0_5.index t = ![0, (jOf t).val] := (by decide +kernel : ∀ t : Fin grid0.N, _)
/-- The block window 6 is at. -/
theorem ind6 : ∀ t : Fin cfg0.N, win0_6.index t = ![(jOf t).val, 0, 0] := (by decide +kernel : ∀ t : Fin grid0.N, _)
/-- The block window 7 is at. -/
theorem ind7 : ∀ t : Fin cfg0.N, win0_7.index t = ![0, (jOf t).val] := (by decide +kernel : ∀ t : Fin grid0.N, _)
/-- The block window 8 is at. -/
theorem ind8 : ∀ t : Fin cfg0.N, win0_8.index t = ![0, (jOf t).val] := (by decide +kernel : ∀ t : Fin grid0.N, _)
/-- The block window 9 is at. -/
theorem ind9 : ∀ t : Fin cfg0.N, win0_9.index t = ![(bOf t).val, (jOf t).val] := (by decide +kernel : ∀ t : Fin grid0.N, _)

/-! The blocks a grid point reads, from the whole arguments. -/

variable (m : (ℓ : Loc nD τ sig) → Buf (Elt Ideal) ℓ) (ρ : Dev nD → PrngReg)

/-- Window 0's block, at an entry. -/
theorem block0 (c : Dev nD) (t : Fin cfg0.N) (i : Fin 2048) (e : Fin 128) :
    (iblk m c 0 t (ix2 i e) : EReal) = m ((c : Thread nD τ).loc main_arg0) (ix2 ⟨2048 * (bOf t).val + i.val, by omega⟩ ⟨5120 + (col (jOf t) e).val, by omega⟩) := by
  blk_simp [iblk]
  rw [V_main_arg0]
  congr 1
  blk_ext [ind0, col]

/-- Window 1's block, at an entry. -/
theorem block1 (c : Dev nD) (t : Fin cfg0.N) (i : Fin 2048) (e : Fin 128) :
    (iblk m c 1 t (ix2 i e) : EReal) = m ((c : Thread nD τ).loc main_arg0) (ix2 ⟨2048 * (bOf t).val + i.val, by omega⟩ ⟨7168 + (col (jOf t) e).val, by omega⟩) := by
  blk_simp [iblk]
  rw [V_main_arg0]
  congr 1
  blk_ext [ind1, col]

/-- Window 2's block, at an entry. -/
theorem block2 (c : Dev nD) (t : Fin cfg0.N) (k : Fin 4) (e : Fin 128) :
    (iblk m c 2 t (ix2 k e) : EReal) = m ((c : Thread nD τ).loc main_arg1) (ix2 k (col (jOf t) e)) := by
  blk_simp [iblk]
  rw [V_main_arg1]
  congr 1
  blk_ext [ind2, col]

/-- Window 3's block, at an entry. -/
theorem block3 (c : Dev nD) (t : Fin cfg0.N) (e : Fin 128) :
    (iblk m c 3 t (ix2 0 e) : EReal) = m ((c : Thread nD τ).loc main_arg2) (ix1 (col (jOf t) e)) := by
  blk_simp [iblk]
  entry_read
  pointwise
  congr 1
  blk_ext [ind3, col]

/-- Window 4's block, at an entry. -/
theorem block4 (c : Dev nD) (t : Fin cfg0.N) (k e : Fin 128) :
    (iblk m c 4 t (ix3 0 k e) : EReal) = m ((c : Thread nD τ).loc main_arg3) (ix3 (jOf t) k e) := by
  blk_simp [iblk]
  entry_read
  pointwise
  congr 1
  blk_ext [ind4]

/-- Window 5's block, at an entry. -/
theorem block5 (c : Dev nD) (t : Fin cfg0.N) (e : Fin 128) :
    (iblk m c 5 t (ix2 0 e) : EReal) = m ((c : Thread nD τ).loc main_arg4) (ix1 (col (jOf t) e)) := by
  blk_simp [iblk]
  entry_read
  pointwise
  congr 1
  blk_ext [ind5, col]

/-- Window 6's block, at an entry. -/
theorem block6 (c : Dev nD) (t : Fin cfg0.N) (k e : Fin 128) :
    (iblk m c 6 t (ix3 0 k e) : EReal) = m ((c : Thread nD τ).loc main_arg5) (ix3 (jOf t) k e) := by
  blk_simp [iblk]
  entry_read
  pointwise
  congr 1
  blk_ext [ind6]

/-- Window 7's block, at an entry. -/
theorem block7 (c : Dev nD) (t : Fin cfg0.N) (e : Fin 128) :
    (iblk m c 7 t (ix2 0 e) : EReal) = m ((c : Thread nD τ).loc main_arg6) (ix1 (col (jOf t) e)) := by
  blk_simp [iblk]
  entry_read
  pointwise
  congr 1
  blk_ext [ind7, col]

/-- Window 8's block, at an entry. -/
theorem block8 (c : Dev nD) (t : Fin cfg0.N) (e : Fin 128) :
    (iblk m c 8 t (ix2 0 e) : EReal) = m ((c : Thread nD τ).loc main_arg7) (ix1 (col (jOf t) e)) := by
  blk_simp [iblk]
  entry_read
  pointwise
  congr 1
  blk_ext [ind8, col]

/-- The two programs start from the same arguments, on one device. -/
def Same (m' : (ℓ : Loc Cert.ReferenceIdeal.nD Cert.ReferenceIdeal.τ Cert.ReferenceIdeal.sig) → Buf (Elt Ideal) ℓ) (c : Dev nD) : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)
  ∧ m' ((c.tc : Thread Cert.ReferenceIdeal.nD Cert.ReferenceIdeal.τ).loc Cert.ReferenceIdeal.main_arg6) = m ((c.tc : Thread nD τ).loc main_arg6)
  ∧ m' ((c.tc : Thread Cert.ReferenceIdeal.nD Cert.ReferenceIdeal.τ).loc Cert.ReferenceIdeal.main_arg7) = m ((c.tc : Thread nD τ).loc main_arg7)

/-- The output array after all grid points is the reference's result, read from the same arguments. -/
theorem out_eq (c : Dev nD) (m' : (ℓ : Loc Cert.ReferenceIdeal.nD Cert.ReferenceIdeal.τ Cert.ReferenceIdeal.sig) → Buf (Elt Ideal) ℓ)
    (hm : Same m m' c) : (dats m 0 c).arrAt 9 cfg0.N = out_main_v97 (STEP^[2048] (entryContents preI m' c)) := by
  obtain ⟨h0, h1, h2, h3, h4, h5, h6, h7⟩ := hm
  refine (dats m 0 c).arrAt_eq_of_covers 9 _ (by decide +kernel) fun t hf y => ?_
  blk_simp
  rw [after_9]
  have H : Blocks (bOf t) (jOf t) _ _ _ _ _ _ _ _ (iblk m c 0 t) (iblk m c 1 t) (iblk m c 2 t) (iblk m c 3 t) (iblk m c 4 t)
      (iblk m c 5 t) (iblk m c 6 t) (iblk m c 7 t) (iblk m c 8 t) :=
    ⟨block0 m c t, block1 m c t, block2 m c t, block3 m c t, block4 m c t, block5 m c t, block6 m c t, block7 m c t, block8 m c t⟩
  rw [← h0, ← h1, ← h2, ← h3, ← h4, ← h5, ← h6, ← h7] at H
  have h := Cert.Proof.Ref.result_eq m' c _ rfl H (y 0) (y 1)
  have hy : y = ix2 (y 0) (y 1) := by funext a; fin_cases a <;> rfl
  rw [hy]
  refine h.symm.trans (congrArg _ ?_)
  blk_ext [ind9, col]

/-- Every run ends with the reference's result in the output array and the arguments unchanged. -/
theorem run_value (m' : (ℓ : Loc Cert.ReferenceIdeal.nD Cert.ReferenceIdeal.τ Cert.ReferenceIdeal.sig) → Buf (Elt Ideal) ℓ)
    (hm : ∀ c : Dev nD, Same m m' c) :
    θ_run (defs (F := Ideal)) (onTc (τ := τ) (main (F := Ideal))) ⟨m, fun _ => 0, ρ⟩ (fun r => ∀ c : Dev nD,
      r.2.mem ((c.tc : Thread nD τ).loc main_v6) = out_main_v97 (STEP^[2048] (entryContents preI m' c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 9).trans (out_eq m c m' (hm c)),
    ((h c).1 1).trans (((dats m 0 c).arrAt_in 1 rfl _).trans ((A_eq m c 1).trans (V_main_arg0 m c))),
    ((h c).1 2).trans (((dats m 0 c).arrAt_in 2 rfl _).trans ((A_eq m c 2).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩)
    (run_main m ρ)

end Cert.Proof.Lru
-- ==== Proof.Tables.lean ====
module
public import proofs.«01_k».proof.Defs
public import proofs.«01_k».proof.Proof.Gen.Kernel
public import proofs.«01_k».proof.Proof.Gen.KernelIdeal
@[expose] public section

noncomputable section

namespace Cert.Proof

open Idealize.ShloMosaic Idealize.SL.Sem

variable {F : FTy → Type} [FloatOps F]

/-- The printed kernel and its idealization have the same body table. -/
theorem tables₀ : (Cert.Kernel.defs₀ (F := F)) = Cert.KernelIdeal.defs₀ := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- The same table with the pipeline's entries. -/
theorem tables : (Cert.Kernel.defs (F := F)) = Cert.KernelIdeal.defs := by
  unfold Cert.Kernel.defs Cert.KernelIdeal.defs
  rw [tables₀]
  rfl

end Cert.Proof

end
-- ==== Proof.Down.lean ====
module

public import proofs.«01_k».proof.Defs
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import Idealize.ShloMosaic.Lib.Pipeline.ValueKit
public import Idealize.ShloMosaic.Lib.Pointwise
public import Idealize.ShloMosaic.Lib.Quiescent

@[expose] public section

/-! The second product of the feed-forward part, with its gate and residual. -/

noncomputable section

namespace Cert.Proof.Down

section Reference

open Cert.Reference2Ideal Cert.Reference2Ideal.Gen
open Idealize.ShloMosaic Idealize.ShloMosaic.TcCoe

/-- The batch of a row. -/
def batch (r : Fin 16384) : Fin 8 := ⟨r.val / 2048, by omega⟩
/-- The time of a row. -/
def time (r : Fin 16384) : Fin 2048 := ⟨r.val % 2048, by omega⟩

/-- The reference's result, from its arguments. -/
def refOut (a : FVec Ideal S8x2048x6144 .f32) (w : FVec Ideal S2x6144x2048 .f32)
    (x : FVec Ideal S8x2048x2048 .f32) (g : FVec Ideal S8x2048 .f32) :
    FVec Ideal S16384x2048 .f32 :=
  shapeCast _ (addf x (mulf (broadcastInDim S8x2048x2048 ![0, 1, 2] bcast_S8x1x2048_S8x2048x2048_0_1_2 (broadcastInDim S8x1x2048 ![0, 2] bcast_S8x2048_S8x1x2048_0_2 g)) (Host.dotGeneral dot_S8x2048x6144_S6144x2048_S8x2048x2048_2_0_01_1_n_n none a (shapeCast _ (extractStridedSlice S1x6144x2048 ![0, 0, 0] w slices_S2x6144x2048_S1x6144x2048_0_0_0) shapeCasts_S1x6144x2048_S6144x2048)))) shapeCasts_S8x2048x2048_S16384x2048

/-- The reference's result at an entry. -/
theorem refOut_apply (a : FVec Ideal S8x2048x6144 .f32) (w : FVec Ideal S2x6144x2048 .f32)
    (x : FVec Ideal S8x2048x2048 .f32) (g : FVec Ideal S8x2048 .f32) (r : Fin 16384) (n : Fin 2048) :
    (refOut a w x g (ix2 r n) : EReal) = x (ix3 (batch r) (time r) n) + g (ix2 (batch r) n) * ∑ k : Fin 6144, (a (ix3 (batch r) (time r) k) : EReal) * w (ix3 0 k n) := by
  pointwise [refOut]
  rfl

end Reference

open Cert.Kernel2Ideal Cert.Kernel2Ideal.Gen
open Idealize.ShloMosaic Idealize.ShloMosaic.TcCoe Idealize.ShloMosaic.Tactic
open Idealize.SL Idealize.SL.Sem

/-- The printed kernel and its idealization have the same body table. -/
theorem tables₀ {F : FTy → Type} [FloatOps F] : (Cert.Kernel2.defs₀ (F := F)) = defs₀ := by
  unfold Cert.Kernel2.defs₀ defs₀
  refine congrArg Defs.onTc ?_
  funext l a
  match l, a with
  | 0, (t, s) => rfl
  | ⟨_ + 1, h⟩, _ => exact absurd h (Nat.not_lt.2 (Nat.le_add_left _ _))

/-- The same table with the pipeline's entries. -/
theorem tables {F : FTy → Type} [FloatOps F] : (Cert.Kernel2.defs (F := F)) = defs := by
  unfold Cert.Kernel2.defs defs
  rw [tables₀]
  rfl

/-- The kernel as printed: every run ends, leaves its arguments as they were, and ends with every semaphore at zero. -/
theorem frame_kernel : Cert.quiescent_Kernel2 := fun m ρ _ => by
  rw [tables]
  exact (θ_run defs _ _).mono (fun _ h => h) (frame (F := Bits) m ρ)

/-- The same of the kernel read over the extended reals. -/
theorem frame_kernelIdeal : Cert.quiescent_Kernel2Ideal := fun m ρ _ => frame (F := Ideal) m ρ

/-- The same of the reference, which has no semaphore at all. -/
theorem frame_reference : Cert.quiescent_Reference2Ideal := fun m ρ _ =>
  (θ_run Cert.Reference2Ideal.defs _ _).mono (fun _ h => ⟨fun c => (h c).2, sem_eq_zero_of_no_sems rfl _⟩)
    (Cert.Reference2Ideal.Value.run (F := Ideal) m ρ)

/-- The block of rows of a grid point. -/
def rowOf (t : Fin cfg0.N) : Fin 32 := ⟨t.val % 32, by omega⟩
/-- The block of columns of a grid point. -/
def colOf (t : Fin cfg0.N) : Fin 2 := ⟨t.val / 32, by have := t.isLt; simp only [show cfg0.N = 64 from rfl] at this; omega⟩
/-- Row `i` of a block of rows, in the whole array. -/
def row (I : Fin 32) (i : Fin 512) : Fin 16384 := ⟨512 * I.val + i.val, by omega⟩
/-- Column `e` of a block of columns, in the whole array. -/
def col (J : Fin 2) (e : Fin 1024) : Fin 2048 := ⟨1024 * J.val + e.val, by omega⟩
/-! Which block of its array each window is at, at each grid point. -/

/-- The block window 0 is at. -/
theorem ind0 : ∀ t : Fin cfg0.N, win0_0.index t = ![(rowOf t).val, 0] := (by decide +kernel : ∀ t : Fin grid0.N, _)
/-- The block window 1 is at. -/
theorem ind1 : ∀ t : Fin cfg0.N, win0_1.index t = ![0, 0, (colOf t).val] := (by decide +kernel : ∀ t : Fin grid0.N, _)
/-- The block window 2 is at. -/
theorem ind2 : ∀ t : Fin cfg0.N, win0_2.index t = ![(rowOf t).val, (colOf t).val] := (by decide +kernel : ∀ t : Fin grid0.N, _)
/-- The block window 3 is at. -/
theorem ind3 : ∀ t : Fin cfg0.N, win0_3.index t = ![(rowOf t).val / 4, 0, (colOf t).val] := (by decide +kernel : ∀ t : Fin grid0.N, _)
/-- The block window 4 is at. -/
theorem ind4 : ∀ t : Fin cfg0.N, win0_4.index t = ![(rowOf t).val, (colOf t).val] := (by decide +kernel : ∀ t : Fin grid0.N, _)

variable (m : (ℓ : Loc nD τ sig) → Buf (Elt Ideal) ℓ) (ρ : Dev nD → PrngReg)

/-! The blocks a grid point reads, from the whole arguments. -/

/-- Window 0's block, at an entry. -/
theorem block0 (c : Dev nD) (t : Fin cfg0.N) (i : Fin 512) (k : Fin 6144) :
    (iblk m c 0 t (ix2 i k) : EReal) = m ((c : Thread nD τ).loc main_arg0) (ix3 (batch (row (rowOf t) i)) (time (row (rowOf t) i)) k) := by
  blk_simp [iblk]
  entry_read
  pointwise
  congr 1
  blk_ext [ind0, row, batch, time]

/-- Window 1's block, at an entry. -/
theorem block1 (c : Dev nD) (t : Fin cfg0.N) (k : Fin 6144) (e : Fin 1024) :
    (iblk m c 1 t (ix3 0 k e) : EReal) = m ((c : Thread nD τ).loc main_arg1) (ix3 0 k (col (colOf t) e)) := by
  blk_simp [iblk]
  entry_read
  pointwise
  congr 1
  blk_ext [ind1, col]

/-- Window 2's block, at an entry. -/
theorem block2 (c : Dev nD) (t : Fin cfg0.N) (i : Fin 512) (e : Fin 1024) :
    (iblk m c 2 t (ix2 i e) : EReal) = m ((c : Thread nD τ).loc main_arg2) (ix3 (batch (row (rowOf t) i)) (time (row (rowOf t) i)) (col (colOf t) e)) := by
  blk_simp [iblk]
  entry_read
  pointwise
  congr 1
  blk_ext [ind2, row, batch, time, col]

/-- Window 3's block, at an entry. -/
theorem block3 (c : Dev nD) (t : Fin cfg0.N) (i : Fin 512) (e : Fin 1024) :
    (iblk m c 3 t (ix3 0 0 e) : EReal) = m ((c : Thread nD τ).loc main_arg3) (ix2 (batch (row (rowOf t) i)) (col (colOf t) e)) := by
  blk_simp [iblk]
  entry_read
  pointwise
  congr 1
  blk_ext [ind3, row, batch, col]

/-- The kernel's block at an entry: the residual and the gated product. -/
theorem pay_apply (x0 : FVec Ideal S512x6144 .bf16) (x1 : FVec Ideal S1x6144x1024 .bf16) (x2 : FVec Ideal S512x1024 .f32)
    (x3 : FVec Ideal S1x1x1024 .f32) (i : Fin 512) (e : Fin 1024) :
    (k0_pay1 (F := Ideal) x2 x3 x0 x1 (ix2 i e) : EReal) = x2 (ix2 i e) + x3 (ix3 0 0 e) * ∑ k : Fin 6144, (x0 (ix2 i k) : EReal) * x1 (ix3 0 k e) := by
  pointwise [k0_pay1]

/-- The kernel's block at a grid point is the reference's result there. -/
theorem point_eq (c : Dev nD) (t : Fin cfg0.N) (i : Fin 512) (e : Fin 1024) :
    (k0_pay1 (F := Ideal) (iblk m c 2 t) (iblk m c 3 t) (iblk m c 0 t) (iblk m c 1 t) (ix2 i e) : EReal)
      = refOut (m ((c : Thread nD τ).loc main_arg0)) (m ((c : Thread nD τ).loc main_arg1)) (m ((c : Thread nD τ).loc main_arg2)) (m ((c : Thread nD τ).loc main_arg3))
        (ix2 (row (rowOf t) i) (col (colOf t) e)) := by
  refine (pay_apply (iblk m c 0 t) (iblk m c 1 t) (iblk m c 2 t) (iblk m c 3 t) i e).trans (.trans ?_ (refOut_apply _ _ _ _ (row (rowOf t) i) (col (colOf t) e)).symm)
  rw [block2 m c t i e, block3 m c t i e]
  refine congrArg₂ _ rfl (congrArg₂ _ rfl (Finset.sum_congr rfl fun k _ => ?_))
  rw [block0 m c t i k, block1 m c t k e]

/-- The output array after all grid points is the reference's result on the same arguments. -/
theorem out_eq (c : Dev nD) : (dats m 0 c).arrAt 4 cfg0.N
    = refOut (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  obtain ⟨i, e, rfl⟩ : ∃ (i : Fin 512) (e : Fin 1024), y = ix2 i e := ⟨y 0, y 1, by funext a; fin_cases a <;> rfl⟩
  refine (point_eq m c t i e).trans (congrArg _ ?_)
  blk_ext [ind4, row, col]

/-- Over the extended reals the kernel and the reference end with one and the same result, from the same arguments. -/
theorem algebraic : Cert.algebraic_Kernel2Ideal_Reference2Ideal := fun m g m' g' _ hm => by
  refine ⟨fun c => refOut (m ((c : Thread nD τ).loc main_arg0)) (m ((c : Thread nD τ).loc main_arg1)) (m ((c : Thread nD τ).loc main_arg2)) (m ((c : Thread nD τ).loc main_arg3)),
    (θ_run defs _ _).mono (fun r h c => ⟨(h c).1.trans (out_eq m c), (h c).2⟩) (Value.run_blocks m g),
    (θ_run Cert.Reference2Ideal.defs _ _).mono (fun r h c => ⟨(h c).1.trans ?_, (h c).2⟩) (Cert.Reference2Ideal.Value.run (F := Ideal) m' g')⟩
  obtain ⟨h0, h1, h2, h3⟩ := hm c
  rw [h0, h1, h2, h3]
  rfl

end Cert.Proof.Down

end
-- ==== Proof.OutProj.lean ====
module

public import proofs.«01_k».proof.Defs
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import Idealize.ShloMosaic.Lib.Pipeline.ValueKit
public import Idealize.ShloMosaic.Lib.Pointwise
public import Idealize.ShloMosaic.Lib.Quiescent

@[expose] public section

/-! The mixer's output product, with its gate and residual. -/

noncomputable section

namespace Cert.Proof.OutProj

section Reference

open Cert.Reference3Ideal Cert.Reference3Ideal.Gen
open Idealize.ShloMosaic Idealize.ShloMosaic.TcCoe

/-- The batch of a row. -/
def batch (r : Fin 16384) : Fin 8 := ⟨r.val / 2048, by omega⟩
/-- The time of a row. -/
def time (r : Fin 16384) : Fin 2048 := ⟨r.val % 2048, by omega⟩

/-- The reference's result, from its arguments. -/
def refOut (a : FVec Ideal S8x2048x2048 .f32) (w : FVec Ideal S2x2048x2048 .f32)
    (x : FVec Ideal S8x2048x2048 .f32) (g : FVec Ideal S8x2048 .f32) :
    FVec Ideal S16384x2048 .f32 :=
  shapeCast _ (addf x (mulf (broadcastInDim S8x2048x2048 ![0, 1, 2] bcast_S8x1x2048_S8x2048x2048_0_1_2 (broadcastInDim S8x1x2048 ![0, 2] bcast_S8x2048_S8x1x2048_0_2 g)) (Host.dotGeneral dot_S8x2048x2048_S2048x2048_S8x2048x2048_2_0_01_1_n_n none a (shapeCast _ (extractStridedSlice S1x2048x2048 ![0, 0, 0] w slices_S2x2048x2048_S1x2048x2048_0_0_0) shapeCasts_S1x2048x2048_S2048x2048)))) shapeCasts_S8x2048x2048_S16384x2048

/-- The reference's result at an entry. -/
theorem refOut_apply (a : FVec Ideal S8x2048x2048 .f32) (w : FVec Ideal S2x2048x2048 .f32)
    (x : FVec Ideal S8x2048x2048 .f32) (g : FVec Ideal S8x2048 .f32) (r : Fin 16384) (n : Fin 2048) :
    (refOut a w x g (ix2 r n) : EReal) = x (ix3 (batch r) (time r) n) + g (ix2 (batch r) n) * ∑ k : Fin 2048, (a (ix3 (batch r) (time r) k) : EReal) * w (ix3 0 k n) := by
  pointwise [refOut]
  rfl

end Reference

open Cert.Kernel3Ideal Cert.Kernel3Ideal.Gen
open Idealize.ShloMosaic Idealize.ShloMosaic.TcCoe Idealize.ShloMosaic.Tactic
open Idealize.SL Idealize.SL.Sem

/-- The printed kernel and its idealization have the same body table. -/
theorem tables₀ {F : FTy → Type} [FloatOps F] : (Cert.Kernel3.defs₀ (F := F)) = defs₀ := by
  unfold Cert.Kernel3.defs₀ defs₀
  refine congrArg Defs.onTc ?_
  funext l a
  match l, a with
  | 0, (t, s) => rfl
  | ⟨_ + 1, h⟩, _ => exact absurd h (Nat.not_lt.2 (Nat.le_add_left _ _))

/-- The same table with the pipeline's entries. -/
theorem tables {F : FTy → Type} [FloatOps F] : (Cert.Kernel3.defs (F := F)) = defs := by
  unfold Cert.Kernel3.defs defs
  rw [tables₀]
  rfl

/-- The kernel as printed: every run ends, leaves its arguments as they were, and ends with every semaphore at zero. -/
theorem frame_kernel : Cert.quiescent_Kernel3 := fun m ρ _ => by
  rw [tables]
  exact (θ_run defs _ _).mono (fun _ h => h) (frame (F := Bits) m ρ)

/-- The same of the kernel read over the extended reals. -/
theorem frame_kernelIdeal : Cert.quiescent_Kernel3Ideal := fun m ρ _ => frame (F := Ideal) m ρ

/-- The same of the reference, which has no semaphore at all. -/
theorem frame_reference : Cert.quiescent_Reference3Ideal := fun m ρ _ =>
  (θ_run Cert.Reference3Ideal.defs _ _).mono (fun _ h => ⟨fun c => (h c).2, sem_eq_zero_of_no_sems rfl _⟩)
    (Cert.Reference3Ideal.Value.run (F := Ideal) m ρ)

/-- The block of rows of a grid point. -/
def rowOf (t : Fin cfg0.N) : Fin 32 := ⟨t.val % 32, by omega⟩
/-- The block of columns of a grid point. -/
def colOf (t : Fin cfg0.N) : Fin 1 := ⟨t.val / 32, by have := t.isLt; simp only [show cfg0.N = 32 from rfl] at this; omega⟩
/-- Row `i` of a block of rows, in the whole array. -/
def row (I : Fin 32) (i : Fin 512) : Fin 16384 := ⟨512 * I.val + i.val, by omega⟩
/-- Column `e` of a block of columns, in the whole array. -/
def col (J : Fin 1) (e : Fin 2048) : Fin 2048 := ⟨2048 * J.val + e.val, by omega⟩
/-! Which block of its array each window is at, at each grid point. -/

/-- The block window 0 is at. -/
theorem ind0 : ∀ t : Fin cfg0.N, win0_0.index t = ![(rowOf t).val, 0] := (by decide +kernel : ∀ t : Fin grid0.N, _)
/-- The block window 1 is at. -/
theorem ind1 : ∀ t : Fin cfg0.N, win0_1.index t = ![0, 0, (colOf t).val] := (by decide +kernel : ∀ t : Fin grid0.N, _)
/-- The block window 2 is at. -/
theorem ind2 : ∀ t : Fin cfg0.N, win0_2.index t = ![(rowOf t).val, (colOf t).val] := (by decide +kernel : ∀ t : Fin grid0.N, _)
/-- The block window 3 is at. -/
theorem ind3 : ∀ t : Fin cfg0.N, win0_3.index t = ![(rowOf t).val / 4, 0, (colOf t).val] := (by decide +kernel : ∀ t : Fin grid0.N, _)
/-- The block window 4 is at. -/
theorem ind4 : ∀ t : Fin cfg0.N, win0_4.index t = ![(rowOf t).val, (colOf t).val] := (by decide +kernel : ∀ t : Fin grid0.N, _)

variable (m : (ℓ : Loc nD τ sig) → Buf (Elt Ideal) ℓ) (ρ : Dev nD → PrngReg)

/-! The blocks a grid point reads, from the whole arguments. -/

/-- Window 0's block, at an entry. -/
theorem block0 (c : Dev nD) (t : Fin cfg0.N) (i : Fin 512) (k : Fin 2048) :
    (iblk m c 0 t (ix2 i k) : EReal) = m ((c : Thread nD τ).loc main_arg0) (ix3 (batch (row (rowOf t) i)) (time (row (rowOf t) i)) k) := by
  blk_simp [iblk]
  entry_read
  pointwise
  congr 1
  blk_ext [ind0, row, batch, time]

/-- Window 1's block, at an entry. -/
theorem block1 (c : Dev nD) (t : Fin cfg0.N) (k : Fin 2048) (e : Fin 2048) :
    (iblk m c 1 t (ix3 0 k e) : EReal) = m ((c : Thread nD τ).loc main_arg1) (ix3 0 k (col (colOf t) e)) := by
  blk_simp [iblk]
  entry_read
  pointwise
  congr 1
  blk_ext [ind1, col]

/-- Window 2's block, at an entry. -/
theorem block2 (c : Dev nD) (t : Fin cfg0.N) (i : Fin 512) (e : Fin 2048) :
    (iblk m c 2 t (ix2 i e) : EReal) = m ((c : Thread nD τ).loc main_arg2) (ix3 (batch (row (rowOf t) i)) (time (row (rowOf t) i)) (col (colOf t) e)) := by
  blk_simp [iblk]
  entry_read
  pointwise
  congr 1
  blk_ext [ind2, row, batch, time, col]

/-- Window 3's block, at an entry. -/
theorem block3 (c : Dev nD) (t : Fin cfg0.N) (i : Fin 512) (e : Fin 2048) :
    (iblk m c 3 t (ix3 0 0 e) : EReal) = m ((c : Thread nD τ).loc main_arg3) (ix2 (batch (row (rowOf t) i)) (col (colOf t) e)) := by
  blk_simp [iblk]
  entry_read
  pointwise
  congr 1
  blk_ext [ind3, row, batch, col]

/-- The kernel's block at an entry: the residual and the gated product. -/
theorem pay_apply (x0 : FVec Ideal S512x2048 .bf16) (x1 : FVec Ideal S1x2048x2048 .bf16) (x2 : FVec Ideal S512x2048 .f32)
    (x3 : FVec Ideal S1x1x2048 .f32) (i : Fin 512) (e : Fin 2048) :
    (k0_pay1 (F := Ideal) x2 x3 x0 x1 (ix2 i e) : EReal) = x2 (ix2 i e) + x3 (ix3 0 0 e) * ∑ k : Fin 2048, (x0 (ix2 i k) : EReal) * x1 (ix3 0 k e) := by
  pointwise [k0_pay1]

/-- The kernel's block at a grid point is the reference's result there. -/
theorem point_eq (c : Dev nD) (t : Fin cfg0.N) (i : Fin 512) (e : Fin 2048) :
    (k0_pay1 (F := Ideal) (iblk m c 2 t) (iblk m c 3 t) (iblk m c 0 t) (iblk m c 1 t) (ix2 i e) : EReal)
      = refOut (m ((c : Thread nD τ).loc main_arg0)) (m ((c : Thread nD τ).loc main_arg1)) (m ((c : Thread nD τ).loc main_arg2)) (m ((c : Thread nD τ).loc main_arg3))
        (ix2 (row (rowOf t) i) (col (colOf t) e)) := by
  refine (pay_apply (iblk m c 0 t) (iblk m c 1 t) (iblk m c 2 t) (iblk m c 3 t) i e).trans (.trans ?_ (refOut_apply _ _ _ _ (row (rowOf t) i) (col (colOf t) e)).symm)
  rw [block2 m c t i e, block3 m c t i e]
  refine congrArg₂ _ rfl (congrArg₂ _ rfl (Finset.sum_congr rfl fun k _ => ?_))
  rw [block0 m c t i k, block1 m c t k e]

/-- The output array after all grid points is the reference's result on the same arguments. -/
theorem out_eq (c : Dev nD) : (dats m 0 c).arrAt 4 cfg0.N
    = refOut (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  obtain ⟨i, e, rfl⟩ : ∃ (i : Fin 512) (e : Fin 2048), y = ix2 i e := ⟨y 0, y 1, by funext a; fin_cases a <;> rfl⟩
  refine (point_eq m c t i e).trans (congrArg _ ?_)
  blk_ext [ind4, row, col]

/-- Over the extended reals the kernel and the reference end with one and the same result, from the same arguments. -/
theorem algebraic : Cert.algebraic_Kernel3Ideal_Reference3Ideal := fun m g m' g' _ hm => by
  refine ⟨fun c => refOut (m ((c : Thread nD τ).loc main_arg0)) (m ((c : Thread nD τ).loc main_arg1)) (m ((c : Thread nD τ).loc main_arg2)) (m ((c : Thread nD τ).loc main_arg3)),
    (θ_run defs _ _).mono (fun r h c => ⟨(h c).1.trans (out_eq m c), (h c).2⟩) (Value.run_blocks m g),
    (θ_run Cert.Reference3Ideal.defs _ _).mono (fun r h c => ⟨(h c).1.trans ?_, (h c).2⟩) (Cert.Reference3Ideal.Value.run (F := Ideal) m' g')⟩
  obtain ⟨h0, h1, h2, h3⟩ := hm c
  rw [h0, h1, h2, h3]
  rfl

end Cert.Proof.OutProj

end
-- ==== Proof.Norm.lean ====
module

public import proofs.«01_k».proof.Defs
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import Idealize.ShloMosaic.Lib.Pipeline.ValueKit
public import Idealize.ShloMosaic.Lib.Pointwise
public import Idealize.ShloMosaic.Lib.Quiescent

@[expose] public section

/-! The final norm. -/

noncomputable section

namespace Cert.Proof.Norm

section Reference

open Cert.Reference4Ideal Cert.Reference4Ideal.Gen
open Idealize.ShloMosaic Idealize.ShloMosaic.TcCoe

/-- The batch of a row. -/
def batch (r : Fin 16384) : Fin 8 := ⟨r.val / 2048, by omega⟩
/-- The time of a row. -/
def time (r : Fin 16384) : Fin 2048 := ⟨r.val % 2048, by omega⟩

/-- The reference's result, from its arguments. -/
def refOut (x : FVec Ideal S8x2048x2048 .f32) (g : FVec Ideal S2048 .f32) : FVec Ideal S16384x2048 .f32 :=
  shapeCast _ (mulf (mulf x (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf x x) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 g))) shapeCasts_S8x2048x2048_S16384x2048

/-- The reference's result at an entry. -/
theorem refOut_apply (x : FVec Ideal S8x2048x2048 .f32) (g : FVec Ideal S2048 .f32) (r : Fin 16384) (n : Fin 2048) :
    (refOut x g (ix2 r n) : EReal) = x (ix3 (batch r) (time r) n)
      * Ideal.rsqrt (Ideal.div (∑ k : Fin 2048, (x (ix3 (batch r) (time r) k) : EReal) * x (ix3 (batch r) (time r) k)) (Ideal.ofBits .f32 0x45000000#32) + Ideal.ofBits .f32 0x358637BD#32)
      * g (ix1 n) := by
  pointwise [refOut]
  rfl

end Reference

open Cert.Kernel4Ideal Cert.Kernel4Ideal.Gen
open Idealize.ShloMosaic Idealize.ShloMosaic.TcCoe Idealize.ShloMosaic.Tactic
open Idealize.SL Idealize.SL.Sem

/-- The printed kernel and its idealization have the same body table. -/
theorem tables₀ {F : FTy → Type} [FloatOps F] : (Cert.Kernel4.defs₀ (F := F)) = defs₀ := by
  unfold Cert.Kernel4.defs₀ defs₀
  refine congrArg Defs.onTc ?_
  funext l a
  match l, a with
  | 0, (t, s) => rfl
  | ⟨_ + 1, h⟩, _ => exact absurd h (Nat.not_lt.2 (Nat.le_add_left _ _))

/-- The same table with the pipeline's entries. -/
theorem tables {F : FTy → Type} [FloatOps F] : (Cert.Kernel4.defs (F := F)) = defs := by
  unfold Cert.Kernel4.defs defs
  rw [tables₀]
  rfl

/-- The kernel as printed: every run ends, leaves its arguments as they were, and ends with every semaphore at zero. -/
theorem frame_kernel : Cert.quiescent_Kernel4 := fun m ρ _ => by
  rw [tables]
  exact (θ_run defs _ _).mono (fun _ h => h) (frame (F := Bits) m ρ)

/-- The same of the kernel read over the extended reals. -/
theorem frame_kernelIdeal : Cert.quiescent_Kernel4Ideal := fun m ρ _ => frame (F := Ideal) m ρ

/-- The same of the reference, which has no semaphore at all. -/
theorem frame_reference : Cert.quiescent_Reference4Ideal := fun m ρ _ =>
  (θ_run Cert.Reference4Ideal.defs _ _).mono (fun _ h => ⟨fun c => (h c).2, sem_eq_zero_of_no_sems rfl _⟩)
    (Cert.Reference4Ideal.Value.run (F := Ideal) m ρ)

/-- Row `i` of a grid point's block, in the whole array. -/
def row (t : Fin cfg0.N) (i : Fin 512) : Fin 16384 := ⟨512 * t.val + i.val, by have := t.isLt; simp only [show cfg0.N = 32 from rfl] at this; omega⟩

/-! Which block of its array each window is at, at each grid point. -/

/-- The block window 0 is at. -/
theorem ind0 : ∀ t : Fin cfg0.N, win0_0.index t = ![t.val, 0] := (by decide +kernel : ∀ t : Fin grid0.N, _)
/-- The block window 1 is at. -/
theorem ind1 : ∀ t : Fin cfg0.N, win0_1.index t = ![0, 0] := (by decide +kernel : ∀ t : Fin grid0.N, _)
/-- The block window 2 is at. -/
theorem ind2 : ∀ t : Fin cfg0.N, win0_2.index t = ![t.val, 0] := (by decide +kernel : ∀ t : Fin grid0.N, _)

variable (m : (ℓ : Loc nD τ sig) → Buf (Elt Ideal) ℓ) (ρ : Dev nD → PrngReg)

/-! The blocks a grid point reads, from the whole arguments. -/

/-- Window 0's block, at an entry. -/
theorem block0 (c : Dev nD) (t : Fin cfg0.N) (i : Fin 512) (n : Fin 2048) :
    (iblk m c 0 t (ix2 i n) : EReal) = m ((c : Thread nD τ).loc main_arg0) (ix3 (batch (row t i)) (time (row t i)) n) := by
  blk_simp [iblk]
  entry_read
  pointwise
  congr 1
  blk_ext [ind0, row, batch, time]

/-- Window 1's block, at an entry. -/
theorem block1 (c : Dev nD) (t : Fin cfg0.N) (n : Fin 2048) :
    (iblk m c 1 t (ix2 0 n) : EReal) = m ((c : Thread nD τ).loc main_arg1) (ix1 n) := by
  blk_simp [iblk]
  entry_read
  pointwise
  congr 1
  blk_ext [ind1]

/-- The kernel's block at an entry: the row scaled by its mean square and by the gain. -/
theorem pay_apply (x0 : FVec Ideal S512x2048 .f32) (x1 : FVec Ideal S1x2048 .f32) (i : Fin 512) (n : Fin 2048) :
    (k0_pay1 (F := Ideal) x0 x1 (ix2 i n) : EReal) = x0 (ix2 i n)
      * Ideal.rsqrt (Ideal.div (∑ k : Fin 2048, (x0 (ix2 i k) : EReal) * x0 (ix2 i k)) (Ideal.ofBits .f32 0x45000000#32) + Ideal.ofBits .f32 0x358637BD#32)
      * x1 (ix2 0 n) := by
  pointwise [k0_pay1]

/-- The kernel's block at a grid point is the reference's result there. -/
theorem point_eq (c : Dev nD) (t : Fin cfg0.N) (i : Fin 512) (n : Fin 2048) :
    (k0_pay1 (F := Ideal) (iblk m c 0 t) (iblk m c 1 t) (ix2 i n) : EReal)
      = refOut (m ((c : Thread nD τ).loc main_arg0)) (m ((c : Thread nD τ).loc main_arg1)) (ix2 (row t i) n) := by
  refine (pay_apply (iblk m c 0 t) (iblk m c 1 t) i n).trans (.trans ?_ (refOut_apply _ _ (row t i) n).symm)
  rw [block0 m c t i n, block1 m c t n]
  refine congrArg₂ _ (congrArg₂ _ rfl (congrArg _ (congrArg₂ _ (congrArg₂ _ (Finset.sum_congr rfl fun k _ => ?_) rfl) rfl))) rfl
  rw [block0 m c t i k]

/-- The output array after all grid points is the reference's result on the same arguments. -/
theorem out_eq (c : Dev nD) : (dats m 0 c).arrAt 2 cfg0.N
    = refOut (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, n, rfl⟩ : ∃ (i : Fin 512) (n : Fin 2048), y = ix2 i n := ⟨y 0, y 1, by funext a; fin_cases a <;> rfl⟩
  refine (point_eq m c t i n).trans (congrArg _ ?_)
  blk_ext [ind2, row]

/-- Over the extended reals the kernel and the reference end with one and the same result, from the same arguments. -/
theorem algebraic : Cert.algebraic_Kernel4Ideal_Reference4Ideal := fun m g m' g' _ hm => by
  refine ⟨fun c => refOut (m ((c : Thread nD τ).loc main_arg0)) (m ((c : Thread nD τ).loc main_arg1)),
    (θ_run defs _ _).mono (fun r h c => ⟨(h c).1.trans (out_eq m c), (h c).2⟩) (Value.run_blocks m g),
    (θ_run Cert.Reference4Ideal.defs _ _).mono (fun r h c => ⟨(h c).1.trans ?_, (h c).2⟩) (Cert.Reference4Ideal.Value.run (F := Ideal) m' g')⟩
  obtain ⟨h0, h1⟩ := hm c
  rw [h0, h1]
  rfl

end Cert.Proof.Norm

end
-- ==== Proof.Merge.lean ====
module

public import proofs.«01_k».proof.Defs
public import proofs.«01_k».proof.Proof.Gen.Kernel5
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import Idealize.ShloMosaic.Lib.Pipeline.ValueKit
public import Idealize.ShloMosaic.Lib.Pointwise
public import Idealize.ShloMosaic.Lib.Quiescent

@[expose] public section

/-! The merge of the two mixers: two products, each with its gate. -/

noncomputable section

namespace Cert.Proof.Merge

section Reference

open Cert.Reference5Ideal Cert.Reference5Ideal.Gen
open Idealize.ShloMosaic Idealize.ShloMosaic.TcCoe

/-- The batch of a row. -/
def batch (r : Fin 16384) : Fin 8 := ⟨r.val / 2048, by omega⟩
/-- The time of a row. -/
def time (r : Fin 16384) : Fin 2048 := ⟨r.val % 2048, by omega⟩

/-- The reference's result, from its arguments. -/
def refOut (oa ob : FVec Ideal S8x2048x2048 .f32) (wa wb : FVec Ideal S2x2048x2048 .f32) (z : FVec Ideal S16384x13824 .bf16) : FVec Ideal S16384x2048 .bf16 :=
  truncf .bf16 (shapeCast _ (addf (mulf (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (shapeCast _ (extf .f32 (extractStridedSlice S16384x2048 ![0, 9216] z slices_S16384x13824_S16384x2048_0_9216) bitsLt_bf16_f32) shapeCasts_S16384x2048_S8x2048x2048))))) (Host.dotGeneral dot_S8x2048x2048_S2048x2048_S8x2048x2048_2_0_01_1_n_n none oa (shapeCast _ (extractStridedSlice S1x2048x2048 ![0, 0, 0] wa slices_S2x2048x2048_S1x2048x2048_0_0_0) shapeCasts_S1x2048x2048_S2048x2048))) (mulf (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (shapeCast _ (extf .f32 (extractStridedSlice S16384x2048 ![0, 11264] z slices_S16384x13824_S16384x2048_0_11264) bitsLt_bf16_f32) shapeCasts_S16384x2048_S8x2048x2048))))) (Host.dotGeneral dot_S8x2048x2048_S2048x2048_S8x2048x2048_2_0_01_1_n_n none ob (shapeCast _ (extractStridedSlice S1x2048x2048 ![0, 0, 0] wb slices_S2x2048x2048_S1x2048x2048_0_0_0) shapeCasts_S1x2048x2048_S2048x2048)))) shapeCasts_S8x2048x2048_S16384x2048) bitsLt_bf16_f32

/-- The reference's result at an entry. -/
theorem refOut_apply (oa ob : FVec Ideal S8x2048x2048 .f32) (wa wb : FVec Ideal S2x2048x2048 .f32) (z : FVec Ideal S16384x13824 .bf16) (r : Fin 16384) (n : Fin 2048) :
    (refOut oa ob wa wb z (ix2 r n) : EReal)
      = Ideal.logistic (z (ix2 r ⟨9216 + n.val, by omega⟩)) * (∑ k : Fin 2048, (oa (ix3 (batch r) (time r) k) : EReal) * wa (ix3 0 k n))
        + Ideal.logistic (z (ix2 r ⟨11264 + n.val, by omega⟩)) * (∑ k : Fin 2048, (ob (ix3 (batch r) (time r) k) : EReal) * wb (ix3 0 k n)) := by
  pointwise [refOut]
  rfl

end Reference

open Cert.Kernel5Ideal Cert.Kernel5Ideal.Gen
open Idealize.ShloMosaic Idealize.ShloMosaic.TcCoe Idealize.ShloMosaic.Tactic
open Idealize.SL Idealize.SL.Sem

/-- The printed kernel and its idealization have the same body table. -/
theorem tables₀ {F : FTy → Type} [FloatOps F] : (Cert.Kernel5.defs₀ (F := F)) = defs₀ := by
  unfold Cert.Kernel5.defs₀ defs₀
  refine congrArg Defs.onTc ?_
  funext l a
  match l, a with
  | 0, (t, s) => rfl
  | ⟨_ + 1, h⟩, _ => exact absurd h (Nat.not_lt.2 (Nat.le_add_left _ _))

/-- The same table with the pipeline's entries. -/
theorem tables {F : FTy → Type} [FloatOps F] : (Cert.Kernel5.defs (F := F)) = defs := by
  unfold Cert.Kernel5.defs defs
  rw [tables₀]
  rfl

/-- The kernel as printed: every run ends, leaves its arguments as they were, and ends with every semaphore at zero. -/
theorem frame_kernel : Cert.quiescent_Kernel5 := fun m ρ _ => by
  rw [tables]
  exact (θ_run defs _ _).mono (fun _ h => h) (frame (F := Bits) m ρ)

/-- The same of the kernel read over the extended reals. -/
theorem frame_kernelIdeal : Cert.quiescent_Kernel5Ideal := fun m ρ _ => frame (F := Ideal) m ρ

/-- The same of the reference, which has no semaphore at all. -/
theorem frame_reference : Cert.quiescent_Reference5Ideal := fun m ρ _ =>
  (θ_run Cert.Reference5Ideal.defs _ _).mono (fun _ h => ⟨fun c => (h c).2, sem_eq_zero_of_no_sems rfl _⟩)
    (Cert.Reference5Ideal.Value.run (F := Ideal) m ρ)

/-- The block of rows of a grid point. -/
def rowOf (t : Fin cfg0.N) : Fin 16 := ⟨t.val / 2, by have := t.isLt; simp only [show cfg0.N = 32 from rfl] at this; omega⟩
/-- The block of columns of a grid point. -/
def colOf (t : Fin cfg0.N) : Fin 2 := ⟨t.val % 2, by omega⟩
/-- Row `i` of a block of rows, in the whole array. -/
def row (I : Fin 16) (i : Fin 1024) : Fin 16384 := ⟨1024 * I.val + i.val, by omega⟩
/-- Column `e` of a block of columns, in the whole array. -/
def col (J : Fin 2) (e : Fin 1024) : Fin 2048 := ⟨1024 * J.val + e.val, by omega⟩

/-! Which block of its array each window is at, at each grid point. -/

/-- The block window 0 is at. -/
theorem ind0 : ∀ t : Fin cfg0.N, win0_0.index t = ![(rowOf t).val, 0] := (by decide +kernel : ∀ t : Fin grid0.N, _)
/-- The block window 1 is at. -/
theorem ind1 : ∀ t : Fin cfg0.N, win0_1.index t = ![(rowOf t).val, 0] := (by decide +kernel : ∀ t : Fin grid0.N, _)
/-- The block window 2 is at. -/
theorem ind2 : ∀ t : Fin cfg0.N, win0_2.index t = ![0, 0, (colOf t).val] := (by decide +kernel : ∀ t : Fin grid0.N, _)
/-- The block window 3 is at. -/
theorem ind3 : ∀ t : Fin cfg0.N, win0_3.index t = ![0, 0, (colOf t).val] := (by decide +kernel : ∀ t : Fin grid0.N, _)
/-- The block window 4 is at. -/
theorem ind4 : ∀ t : Fin cfg0.N, win0_4.index t = ![(rowOf t).val, 9 + (colOf t).val] := (by decide +kernel : ∀ t : Fin grid0.N, _)
/-- The block window 5 is at. -/
theorem ind5 : ∀ t : Fin cfg0.N, win0_5.index t = ![(rowOf t).val, 11 + (colOf t).val] := (by decide +kernel : ∀ t : Fin grid0.N, _)
/-- The block window 6 is at. -/
theorem ind6 : ∀ t : Fin cfg0.N, win0_6.index t = ![(rowOf t).val, (colOf t).val] := (by decide +kernel : ∀ t : Fin grid0.N, _)

variable (m : (ℓ : Loc nD τ sig) → Buf (Elt Ideal) ℓ) (ρ : Dev nD → PrngReg)

/-! The blocks a grid point reads, from the whole arguments. -/

/-- Window 0's block, at an entry. -/
theorem block0 (c : Dev nD) (t : Fin cfg0.N) (i : Fin 1024) (k : Fin 2048) :
    (iblk m c 0 t (ix2 i k) : EReal) = m ((c : Thread nD τ).loc main_arg0) (ix3 (batch (row (rowOf t) i)) (time (row (rowOf t) i)) k) := by
  blk_simp [iblk]
  entry_read
  pointwise
  congr 1
  blk_ext [ind0, row, batch, time]

/-- Window 1's block, at an entry. -/
theorem block1 (c : Dev nD) (t : Fin cfg0.N) (i : Fin 1024) (k : Fin 2048) :
    (iblk m c 1 t (ix2 i k) : EReal) = m ((c : Thread nD τ).loc main_arg1) (ix3 (batch (row (rowOf t) i)) (time (row (rowOf t) i)) k) := by
  blk_simp [iblk]
  entry_read
  pointwise
  congr 1
  blk_ext [ind1, row, batch, time]

/-- Window 2's block, at an entry. -/
theorem block2 (c : Dev nD) (t : Fin cfg0.N) (k : Fin 2048) (e : Fin 1024) :
    (iblk m c 2 t (ix3 0 k e) : EReal) = m ((c : Thread nD τ).loc main_arg2) (ix3 0 k (col (colOf t) e)) := by
  blk_simp [iblk]
  entry_read
  pointwise
  congr 1
  blk_ext [ind2, col]

/-- Window 3's block, at an entry. -/
theorem block3 (c : Dev nD) (t : Fin cfg0.N) (k : Fin 2048) (e : Fin 1024) :
    (iblk m c 3 t (ix3 0 k e) : EReal) = m ((c : Thread nD τ).loc main_arg3) (ix3 0 k (col (colOf t) e)) := by
  blk_simp [iblk]
  entry_read
  pointwise
  congr 1
  blk_ext [ind3, col]

/-- Window 4's block, at an entry. -/
theorem block4 (c : Dev nD) (t : Fin cfg0.N) (i e : Fin 1024) :
    (X0_4 m c t (ix2 i e) : EReal) = m ((c : Thread nD τ).loc main_arg4) (ix2 (row (rowOf t) i) ⟨9216 + (col (colOf t) e).val, by omega⟩) := by
  unfold X0_4 Pipeline.Window.fill
  rw [dif_pos (moved0_4 t _)]
  blk_simp [iblk]
  rw [V_main_arg4]
  congr 1
  blk_ext [ind4, row, col]

/-- Window 5's block, at an entry. -/
theorem block5 (c : Dev nD) (t : Fin cfg0.N) (i e : Fin 1024) :
    (X0_5 m c t (ix2 i e) : EReal) = m ((c : Thread nD τ).loc main_arg4) (ix2 (row (rowOf t) i) ⟨11264 + (col (colOf t) e).val, by omega⟩) := by
  unfold X0_5 Pipeline.Window.fill
  rw [dif_pos (moved0_5 t _)]
  blk_simp [iblk]
  rw [V_main_arg4]
  congr 1
  blk_ext [ind5, row, col]

/-- The kernel's block at an entry: the two gated products. -/
theorem pay_apply (x0 x1 : FVec Ideal S1024x2048 .bf16) (x2 x3 : FVec Ideal S1x2048x1024 .bf16) (x4 x5 : FVec Ideal S1024x1024 .bf16) (i e : Fin 1024) :
    (k0_pay1 (F := Ideal) x0 x2 x1 x3 x4 x5 (ix2 i e) : EReal)
      = Ideal.logistic (x4 (ix2 i e)) * (∑ k : Fin 2048, (x0 (ix2 i k) : EReal) * x2 (ix3 0 k e))
        + Ideal.logistic (x5 (ix2 i e)) * (∑ k : Fin 2048, (x1 (ix2 i k) : EReal) * x3 (ix3 0 k e)) := by
  pointwise [k0_pay1]

/-- The kernel's block at a grid point is the reference's result there. -/
theorem point_eq (c : Dev nD) (t : Fin cfg0.N) (i e : Fin 1024) :
    (k0_pay1 (F := Ideal) (iblk m c 0 t) (iblk m c 2 t) (iblk m c 1 t) (iblk m c 3 t) (X0_4 m c t) (X0_5 m c t) (ix2 i e) : EReal)
      = refOut (m ((c : Thread nD τ).loc main_arg0)) (m ((c : Thread nD τ).loc main_arg1)) (m ((c : Thread nD τ).loc main_arg2)) (m ((c : Thread nD τ).loc main_arg3)) (m ((c : Thread nD τ).loc main_arg4)) (ix2 (row (rowOf t) i) (col (colOf t) e)) := by
  refine (pay_apply (iblk m c 0 t) (iblk m c 1 t) (iblk m c 2 t) (iblk m c 3 t) (X0_4 m c t) (X0_5 m c t) i e).trans
    (.trans ?_ (refOut_apply _ _ _ _ _ (row (rowOf t) i) (col (colOf t) e)).symm)
  rw [block4 m c t i e, block5 m c t i e]
  refine congrArg₂ _ (congrArg₂ _ rfl (Finset.sum_congr rfl fun k _ => ?_)) (congrArg₂ _ rfl (Finset.sum_congr rfl fun k _ => ?_))
  · rw [block0 m c t i k, block2 m c t k e]
  · rw [block1 m c t i k, block3 m c t k e]

/-- The output array after all grid points is the reference's result on the same arguments. -/
theorem out_eq (c : Dev nD) : (dats m 0 c).arrAt 6 cfg0.N
    = refOut (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  unfold outsAt0
  frame_out
  obtain ⟨i, e, rfl⟩ : ∃ (i e : Fin 1024), y = ix2 i e := ⟨y 0, y 1, by funext a; fin_cases a <;> rfl⟩
  refine (point_eq m c t i e).trans (congrArg _ ?_)
  blk_ext [ind6, row, col]

/-- Every run ends with that array as the result and the arguments unchanged. -/
theorem run_value : θ_run (defs (F := Ideal)) (onTc (τ := τ) (main (F := Ideal))) ⟨m, fun _ => 0, ρ⟩ (fun r => ∀ c : Dev nD,
      r.2.mem ((c.tc : Thread nD τ).loc main_v6) = refOut (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 6).trans (out_eq m c), h.2 c⟩)
    (θ_run_and (run_main m ρ) (unchanged m ρ))

/-- Over the extended reals the kernel and the reference end with one and the same result, from the same arguments. -/
theorem algebraic : Cert.algebraic_Kernel5Ideal_Reference5Ideal := fun m g m' g' _ hm => by
  refine ⟨fun c => refOut (m ((c : Thread nD τ).loc main_arg0)) (m ((c : Thread nD τ).loc main_arg1)) (m ((c : Thread nD τ).loc main_arg2)) (m ((c : Thread nD τ).loc main_arg3)) (m ((c : Thread nD τ).loc main_arg4)),
    (θ_run defs _ _).mono (fun r h c => ⟨(h c).1, (h c).2⟩) (run_value m g),
    (θ_run Cert.Reference5Ideal.defs _ _).mono (fun r h c => ⟨(h c).1.trans ?_, (h c).2⟩) (Cert.Reference5Ideal.Value.run (F := Ideal) m' g')⟩
  obtain ⟨h0, h1, h2, h3, h4⟩ := hm c
  rw [h0, h1, h2, h3, h4]
  rfl

end Cert.Proof.Merge

end
-- ==== Proof.InProjLoop.lean ====
module

public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import Idealize.ShloMosaic.Lib.Pipeline.FrameBody
public import Idealize.ShloMosaic.Lib.WritesUnit
public import Idealize.ShloMosaic.Lib.Tactic
public import Idealize.ShloMosaic.Lib.Pointwise

@[expose] public section

noncomputable section

namespace Cert.Proof.InProj

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Where the body loads and stores -/

/-- Offset 1 of the body, in closed form. -/
theorem off1_eq : ∀ k : Fin k0_t1_loop.trips, k0_off1 k = ![16 * k.val, 0] := by decide +kernel
/-- Offset 2 of the body, in closed form. -/
theorem off2_eq : ∀ k : Fin k0_t1_loop.trips, k0_off2 k = ![16 * k.val, 0] := by decide +kernel
/-- Offset 4 of the body, in closed form. -/
theorem off4_eq : ∀ k : Fin k0_t1_loop.trips, k0_off4 k = ![0, 16 * k.val, 0] := by decide +kernel
/-- Offset 5 of the body, in closed form. -/
theorem off5_eq : ∀ i : grid0.Coords, k0_off5 i = ![(i 0).val % 2, 0, 0] := by decide +kernel
/-- Offset 6 of the body, in closed form. -/
theorem off6_eq : ∀ i : grid0.Coords, k0_off6 i = ![128 * ((i 1).val - 1), 0] := by decide +kernel
/-- Offset 7 of the body, in closed form. -/
theorem off7_eq : ∀ i : grid0.Coords, k0_off7 i = ![1 - (i 0).val % 2, 128 * ((i 1).val - 1), 0] := by decide +kernel
/-- The body fills the first tile at the first grid point alone. -/
theorem cond1_iff : ∀ i : grid0.Coords, k0_cond1 i = 1#1 ↔ (i 0).val = 0 ∧ (i 1).val = 0 := by decide +kernel

/-! ## The rows of the normed tile -/

/-- Sixteen rows of a tile. -/
def rows16 (X : FVec F S1024x2048 .f32) (k : Fin 64) : FVec F S16x2048 .f32 :=
  fun y => X (ix2 ⟨16 * k.val + (y 0).val, by have h : (y 0).val < 16 := (y 0).isLt; omega⟩ (y 1))

/-- Sixteen rows of the tile's reciprocal roots. -/
def inv16 (Y : FVec F S1024x128 .f32) (k : Fin 64) : FVec F S16x128 .f32 :=
  fun y => Y (ix2 ⟨16 * k.val + (y 0).val, by have h : (y 0).val < 16 := (y 0).isLt; omega⟩ (y 1))

/-- A hundred and twenty-eight rows of a tile. -/
def rows128 (X : FVec F S1024x2048 .f32) (k : Fin 8) : FVec F S128x2048 .f32 :=
  fun y => X (ix2 ⟨128 * k.val + (y 0).val, by have h : (y 0).val < 128 := (y 0).isLt; omega⟩ (y 1))

/-- The first tile normed and modulated, as the loop at the first grid point computes it. -/
def firstTile (X : FVec F S1024x2048 .f32) (g : FVec F S1x2048 .f32) (sc sh : FVec F S1x1x2048 .f32) (r : Fin 1024) (e : Fin 2048) : F .bf16 :=
  k0_pay3 g sc sh (inv16 (k0_pay2 X) ⟨r.val / 16, by omega⟩) (rows16 X ⟨r.val / 16, by omega⟩) (ix3 0 ⟨r.val % 16, by omega⟩ e)

/-- A later tile normed and modulated, a hundred and twenty-eight rows at a time. -/
def nextTile (X : FVec F S1024x2048 .f32) (g : FVec F S1x2048 .f32) (sc sh : FVec F S1x1x2048 .f32) (r : Fin 1024) (e : Fin 2048) : F .bf16 :=
  k0_pay1 (rows128 X ⟨r.val / 128, by omega⟩) g sc sh (ix3 0 ⟨r.val % 128, by omega⟩ e)

/-! ## Loads of rows -/

/-- A load of a whole window, at offset zero, is what the window holds. -/
theorem load_at {s : Shape} {e : EltTy} (v : View sig .tc .vmem s e) (f : v.ty.Contents (Elt F)) (off : Fin s.rank → ℕ) (size : Fin s.rank → ℕ)
    (inb : ∀ a, off a + size a ≤ s.size a) (x : (Rect.unit off size inb).shape.Idx) (y : s.Idx) (h : ∀ a, (y a).val = off a + (x a).val) :
    View.readAt (Elt F) v (Rect.unit off size inb).toLoadRect f x = v.read (Elt F) f y := by
  rw [View.readAt_apply]
  refine congrArg (v.read (Elt F) f) (funext fun a => Fin.ext ?_)
  show off a + 1 * (x a).val = (y a).val
  rw [h a]; omega

/-- The loop's load of sixteen rows of the tile. -/
theorem load_rows16 (v : View sig .tc .vmem S1024x2048 .f32) (f : v.ty.Contents (Elt F)) (X : FVec F S1024x2048 .f32) (h : v.read (Elt F) f = X)
    (k : Fin 64) (off : Fin 2 → ℕ) (ho : off = ![16 * k.val, 0]) (inb : ∀ a, off a + S16x2048.size a ≤ S1024x2048.size a) :
    View.readAt (Elt F) v (Rect.unit (s := S1024x2048) off S16x2048.size inb).toLoadRect f = rows16 X k := by
  subst ho; subst h
  funext x
  exact load_at v f _ _ inb x _ (fun a => match a with | ⟨0, _⟩ => rfl | ⟨1, _⟩ => (Nat.zero_add _).symm)

/-- The loop's load of sixteen rows of the reciprocal roots. -/
theorem load_inv16 (v : View sig .tc .vmem S1024x128 .f32) (f : v.ty.Contents (Elt F)) (Y : FVec F S1024x128 .f32) (h : v.read (Elt F) f = Y)
    (k : Fin 64) (off : Fin 2 → ℕ) (ho : off = ![16 * k.val, 0]) (inb : ∀ a, off a + S16x128.size a ≤ S1024x128.size a) :
    View.readAt (Elt F) v (Rect.unit (s := S1024x128) off S16x128.size inb).toLoadRect f = inv16 Y k := by
  subst ho; subst h
  funext x
  exact load_at v f _ _ inb x _ (fun a => match a with | ⟨0, _⟩ => rfl | ⟨1, _⟩ => (Nat.zero_add _).symm)

/-- The body's load of a hundred and twenty-eight rows of the tile. -/
theorem load_rows128 (v : View sig .tc .vmem S1024x2048 .f32) (f : v.ty.Contents (Elt F)) (X : FVec F S1024x2048 .f32) (h : v.read (Elt F) f = X)
    (k : Fin 8) (off : Fin 2 → ℕ) (ho : off = ![128 * k.val, 0]) (inb : ∀ a, off a + S128x2048.size a ≤ S1024x2048.size a) :
    View.readAt (Elt F) v (Rect.unit (s := S1024x2048) off S128x2048.size inb).toLoadRect f = rows128 X k := by
  subst ho; subst h
  funext x
  exact load_at v f _ _ inb x _ (fun a => match a with | ⟨0, _⟩ => rfl | ⟨1, _⟩ => (Nat.zero_add _).symm)

/-! ## The loop at the first grid point -/

/-- The slot's first rows hold the first tile, up to a row. -/
def Filled (v : View sig .tc .vmem S2x1024x2048 .bf16) (f : v.ty.Contents (Elt F)) (s : Fin 2) (n : ℕ) (T : Fin 1024 → Fin 2048 → F .bf16) : Prop :=
  ∀ r : Fin 1024, r.val < n → ∀ e : Fin 2048, v.read (Elt F) f (ix3 s r e) = T r e

/-- A store of sixteen rows of the first tile carries the rows that hold it sixteen further. -/
theorem filled_step (v : View sig .tc .vmem S2x1024x2048 .bf16) (f : v.ty.Contents (Elt F)) (T : Fin 1024 → Fin 2048 → F .bf16) (k : Fin 64)
    (off : Fin 3 → ℕ) (ho : off = ![0, 16 * k.val, 0]) (inb : ∀ a, off a + S1x16x2048.size a ≤ S2x1024x2048.size a) (w : FVec F S1x16x2048 .bf16)
    (hw : ∀ (q : Fin 16) (e : Fin 2048), w (ix3 0 q e) = T ⟨16 * k.val + q.val, by omega⟩ e) (h : Filled v f 0 (16 * k.val) T) :
    Filled v (v.writes (Elt F) f [⟨Rect.unit (s := S2x1024x2048) off S1x16x2048.size inb, w⟩]) 0 (16 * (k.val + 1)) T := by
  intro r hr e
  by_cases hk : r.val < 16 * k.val
  · rw [View.read_writes_cons_unit_of_not_mem v f inb w [] (ix3 0 r e) ho 1 (Or.inl hk)]
    exact h r hk e
  · refine (View.read_writes_cons_unit_of_mem v f inb w [] (ix3 0 r e) (ix3 0 (⟨r.val - 16 * k.val, by omega⟩ : Fin 16) e) ho
      (fun a => match a with | ⟨0, _⟩ => rfl | ⟨1, _⟩ => by show r.val = 16 * k.val + (r.val - 16 * k.val); omega | ⟨2, _⟩ => (Nat.zero_add _).symm)).trans ?_
    rw [hw]
    exact congrArg (fun q => T q e) (Fin.ext (by show 16 * k.val + (r.val - 16 * k.val) = r.val; omega))

/-- The loop's invariant: the tile and the reciprocal roots as they are read, and the slot filled up to the trip's row. -/
def invAt (c : Dev nD) (arg2 : Memref sig .tc .vmem S1024x2048 .f32) (arg9 : Memref sig .tc .vmem S2x1024x2048 .bf16) (arg10 : Memref sig .tc .vmem S1024x128 .f32)
    (f2 : Buf (Elt F) (arg2.view.loc (c : Thread nD τ))) (f10 : Buf (Elt F) (arg10.view.loc (c : Thread nD τ))) (T : Fin 1024 → Fin 2048 → F .bf16) (k : ℕ) (_ : Unit) : sProp 𝕄 :=
  iprop((arg2.view.loc (c : Thread nD τ) ↦[arg2.view.set]{fullShare} f2) ∗ (arg10.view.loc (c : Thread nD τ) ↦[arg10.view.set]{fullShare} f10)
    ∗ (∃ f9, (arg9.view.loc (c : Thread nD τ) ↦[arg9.view.set]{fullShare} f9) ∗ ⌜Filled arg9.view f9 0 (16 * k) T⌝))

set_option sl_exec.squeezeSlice true in
set_option maxHeartbeats 400000 in
/-- One trip carries the invariant to the next trip. -/
theorem inv_step (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x1536 .bf16) (harg6 : arg6.IsWhole) (arg7 : Memref sig .tc .vmem S1x1536 .f32) (harg7 : arg7.IsWhole) (arg8 : Memref sig .tc .vmem S1024x1536 .bf16) (harg8 : arg8.IsWhole) (arg9 : Memref sig .tc .vmem S2x1024x2048 .bf16) (harg9 : arg9.IsWhole) (arg10 : Memref sig .tc .vmem S1024x128 .f32) (harg10 : arg10.IsWhole) (k0_h1 : k0_cond1 i = 1#1)
    (f2 : Buf (Elt F) (arg2.view.loc (c : Thread nD τ))) (f10 : Buf (Elt F) (arg10.view.loc (c : Thread nD τ)))
    (X : FVec F S1024x2048 .f32) (g : FVec F S1x2048 .f32) (sc sh : FVec F S1x1x2048 .f32)
    (h2 : arg2.view.read (Elt F) f2 = X) (h10 : arg10.view.read (Elt F) f10 = k0_pay2 X) (k : Fin k0_t1_loop.trips) (acc : Unit) :
    invAt c arg2 arg9 arg10 f2 f10 (firstTile X g sc sh) k acc ⊢ wp (M := 𝕄) frame (wpE (defs₀ (F := F)) Variants.none (c : Thread nD τ) none) Set.univ
      (k0_t1_body i arg2 harg2 arg3 harg3 arg4 harg4 arg5 harg5 arg6 harg6 arg7 harg7 arg8 harg8 arg9 harg9 arg10 harg10 k0_h1 g sc sh k acc) (invAt c arg2 arg9 arg10 f2 f10 (firstTile X g sc sh) (k.val + 1)) := by
  have hk : k.val < 64 := Nat.lt_of_lt_of_le k.isLt k0_t1_abs.2.1
  unfold invAt
  unfold k0_t1_body
  iintro ⟨H2, H10, ⟨%f9, H9, %hf⟩⟩
  sl_exec
  sl_step
  isplitl [H2]
  · iexact H2
  isplitl [H10]
  · iexact H10
  iexists _
  isplitl [H9]
  · iexact H9
  ipureintro
  refine filled_step arg9.view f9 (firstTile X g sc sh) ⟨k.val, hk⟩ (k0_off4 k) (off4_eq k) (k0_off4_inb i k k0_h1) _ ?_ hf
  intro q e
  have e1 := load_inv16 arg10.view f10 (k0_pay2 X) h10 ⟨k.val, hk⟩ (k0_off1 k) (off1_eq k) (k0_off1_inb i k k0_h1)
  have e2 := load_rows16 arg2.view f2 X h2 ⟨k.val, hk⟩ (k0_off2 k) (off2_eq k) (k0_off2_inb i k k0_h1)
  unfold firstTile
  have hq : (16 * k.val + q.val) / 16 = k.val := by omega
  have hq' : (16 * k.val + q.val) % 16 = q.val := by omega
  simp only [hq, hq']
  refine congrFun ?_ _
  exact congrArg₂ (k0_pay3 g sc sh) e1 e2

/-- The loop at the head of a program: from the tile, its reciprocal roots and the slot at any contents, the program
goes on with the slot holding the whole first tile. -/
theorem wp_fill_loop (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x1536 .bf16) (harg6 : arg6.IsWhole) (arg7 : Memref sig .tc .vmem S1x1536 .f32) (harg7 : arg7.IsWhole) (arg8 : Memref sig .tc .vmem S1024x1536 .bf16) (harg8 : arg8.IsWhole) (arg9 : Memref sig .tc .vmem S2x1024x2048 .bf16) (harg9 : arg9.IsWhole) (arg10 : Memref sig .tc .vmem S1024x128 .f32) (harg10 : arg10.IsWhole) (k0_h1 : k0_cond1 i = 1#1)
    (f2 : Buf (Elt F) (arg2.view.loc (c : Thread nD τ))) (f9 : Buf (Elt F) (arg9.view.loc (c : Thread nD τ))) (f10 : Buf (Elt F) (arg10.view.loc (c : Thread nD τ)))
    (X : FVec F S1024x2048 .f32) (g : FVec F S1x2048 .f32) (sc sh : FVec F S1x1x2048 .f32)
    (h2 : arg2.view.read (Elt F) f2 = X) (h10 : arg10.view.read (Elt F) f10 = k0_pay2 X)
    {β : Type} {kk : Unit → Prog (TpuEff nD τ sig (Elt F) Λ₀ .tc) β} {Q : β → sProp 𝕄} :
    iprop((arg2.view.loc (c : Thread nD τ) ↦[arg2.view.set]{fullShare} f2) ∗ (arg10.view.loc (c : Thread nD τ) ↦[arg10.view.set]{fullShare} f10)
      ∗ (arg9.view.loc (c : Thread nD τ) ↦[arg9.view.set]{fullShare} f9)
      ∗ (∀ f : Buf (Elt F) (arg9.view.loc (c : Thread nD τ)), ⌜Filled arg9.view f 0 1024 (firstTile X g sc sh)⌝
          -∗ (arg2.view.loc (c : Thread nD τ) ↦[arg2.view.set]{fullShare} f2) -∗ (arg10.view.loc (c : Thread nD τ) ↦[arg10.view.set]{fullShare} f10)
          -∗ (arg9.view.loc (c : Thread nD τ) ↦[arg9.view.set]{fullShare} f)
          -∗ wp frame (wpE (defs₀ (F := F)) Variants.none (c : Thread nD τ) none) Set.univ (kk ()) Q))
      ⊢ wp frame (wpE (defs₀ (F := F)) Variants.none (c : Thread nD τ) none) Set.univ
        (Scf.Loop.for k0_t1_loop (k0_t1_ok i k0_h1) ⟨⟩ (k0_t1_body i arg2 harg2 arg3 harg3 arg4 harg4 arg5 harg5 arg6 harg6 arg7 harg7 arg8 harg8 arg9 harg9 arg10 harg10 k0_h1 g sc sh) >>= kk) Q := by
  iintro ⟨H2, H10, H9, Hk⟩
  iapply (Scf.wp_for_bind (M := 𝕄) frame (wpE (defs₀ (F := F)) Variants.none (c : Thread nD τ) none) Set.univ
    k0_t1_loop.lb k0_t1_loop.ub k0_t1_loop.st (k0_t1_ok i k0_h1) () _
    (invAt c arg2 arg9 arg10 f2 f10 (firstTile X g sc sh)) (inv_step c i arg2 harg2 arg3 harg3 arg4 harg4 arg5 harg5 arg6 harg6 arg7 harg7 arg8 harg8 arg9 harg9 arg10 harg10 k0_h1 f2 f10 X g sc sh h2 h10)) $$ [H2 H10 H9]
  · unfold invAt
    isplitl [H2]
    · iexact H2
    isplitl [H10]
    · iexact H10
    iexists _
    isplitl [H9]
    · iexact H9
    ipureintro
    intro r hr; omega
  unfold invAt
  iintro %acc ⟨H2, H10, ⟨%f, H9, %hf⟩⟩
  ispecialize Hk $$ %f
  iapply Hk $$ [] [H2] [H10] [H9]
  · ipureintro; exact hf
  · iexact H2
  · iexact H10
  iexact H9

end Cert.Proof.InProj

end
-- ==== Proof.InProjRun.lean ====
module

public import proofs.«01_k».proof.Proof.InProjLoop

@[expose] public section

noncomputable section

namespace Cert.Proof.InProj

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The slot of the tile being multiplied. -/
def slot (i : grid0.Coords) : Fin 2 := ⟨(i 0).val % 2, Nat.mod_lt _ (by decide)⟩

/-- The slot of the tile being prepared. -/
def other (i : grid0.Coords) : Fin 2 := ⟨1 - (i 0).val % 2, by omega⟩

/-- A tile of rows as the block the product reads. -/
def tileOf (T : Fin 1024 → Fin 2048 → F .bf16) : FVec F S1x1024x2048 .bf16 := fun y => T (y 1) (y 2)

/-- The product reads the tile its slot holds. -/
theorem load_tile (v : View sig .tc .vmem S2x1024x2048 .bf16) (f : v.ty.Contents (Elt F)) (p : Fin 2) (T : Fin 1024 → Fin 2048 → F .bf16)
    (h : Filled v f p 1024 T) (off : Fin 3 → ℕ) (ho : off = ![p.val, 0, 0]) (inb : ∀ a, off a + S1x1024x2048.size a ≤ S2x1024x2048.size a) :
    View.readAt (Elt F) v (Rect.unit (s := S2x1024x2048) off S1x1024x2048.size inb).toLoadRect f = tileOf T := by
  subst ho
  funext x
  have h0 : (x 0).val < 1 := (x 0).isLt
  exact (load_at v f _ _ inb x (ix3 p (x 1) (x 2)) (fun a => match a with
    | ⟨0, _⟩ => by show p.val = p.val + (x 0).val; omega
    | ⟨1, _⟩ => (Nat.zero_add _).symm
    | ⟨2, _⟩ => (Nat.zero_add _).symm)).trans (h (x 1) (x 1).isLt (x 2))

/-- The store of rows into one slot leaves the other as it was. -/
theorem filled_slot (v : View sig .tc .vmem S2x1024x2048 .bf16) (f : v.ty.Contents (Elt F)) (i : grid0.Coords) (T : Fin 1024 → Fin 2048 → F .bf16)
    (h : Filled v f (slot i) 1024 T) (inb : ∀ a, k0_off7 i a + S1x128x2048.size a ≤ S2x1024x2048.size a) (w : FVec F S1x128x2048 .bf16) :
    Filled v (v.writes (Elt F) f [⟨Rect.unit (s := S2x1024x2048) (k0_off7 i) S1x128x2048.size inb, w⟩]) (slot i) 1024 T := by
  intro r hr e
  rw [View.read_writes_cons_unit_of_not_mem v f inb w [] (ix3 (slot i) r e) (off7_eq i) 0
    (by show (i 0).val % 2 < 1 - (i 0).val % 2 ∨ 1 - (i 0).val % 2 + 1 ≤ (i 0).val % 2; omega)]
  exact h r hr e

/-- The store of rows carries the rows that the other slot holds a hundred and twenty-eight further. -/
theorem filled_other (v : View sig .tc .vmem S2x1024x2048 .bf16) (f : v.ty.Contents (Elt F)) (i : grid0.Coords) (T : Fin 1024 → Fin 2048 → F .bf16)
    (h : Filled v f (other i) (128 * ((i 1).val - 1)) T) (inb : ∀ a, k0_off7 i a + S1x128x2048.size a ≤ S2x1024x2048.size a) (w : FVec F S1x128x2048 .bf16)
    (hj : (i 1).val - 1 < 8) (hw : ∀ (q : Fin 128) (e : Fin 2048), w (ix3 0 q e) = T ⟨128 * ((i 1).val - 1) + q.val, by omega⟩ e) :
    Filled v (v.writes (Elt F) f [⟨Rect.unit (s := S2x1024x2048) (k0_off7 i) S1x128x2048.size inb, w⟩]) (other i) (128 * ((i 1).val - 1) + 128) T := by
  intro r hr e
  by_cases hk : r.val < 128 * ((i 1).val - 1)
  · rw [View.read_writes_cons_unit_of_not_mem v f inb w [] (ix3 (other i) r e) (off7_eq i) 1 (Or.inl hk)]
    exact h r hk e
  · refine (View.read_writes_cons_unit_of_mem v f inb w [] (ix3 (other i) r e) (ix3 0 (⟨r.val - 128 * ((i 1).val - 1), by omega⟩ : Fin 128) e) (off7_eq i)
      (fun a => match a with
        | ⟨0, _⟩ => (Nat.add_zero _).symm
        | ⟨1, _⟩ => by show r.val = 128 * ((i 1).val - 1) + (r.val - 128 * ((i 1).val - 1)); omega
        | ⟨2, _⟩ => (Nat.zero_add _).symm)).trans ?_
    rw [hw]
    exact congrArg (fun q => T q e) (Fin.ext (by show 128 * ((i 1).val - 1) + (r.val - 128 * ((i 1).val - 1)) = r.val; omega))

/-- The rows the body prepares are those of the next tile. -/
theorem next_rows (v : View sig .tc .vmem S1024x2048 .f32) (f : v.ty.Contents (Elt F)) (X : FVec F S1024x2048 .f32) (hX : v.read (Elt F) f = X)
    (g : FVec F S1x2048 .f32) (sc sh : FVec F S1x1x2048 .f32) (i : grid0.Coords) (hj : (i 1).val - 1 < 8)
    (inb : ∀ a, k0_off6 i a + S128x2048.size a ≤ S1024x2048.size a) (q : Fin 128) (e : Fin 2048) :
    k0_pay1 (View.readAt (Elt F) v (Rect.unit (s := S1024x2048) (k0_off6 i) S128x2048.size inb).toLoadRect f) g sc sh (ix3 0 q e)
      = nextTile X g sc sh ⟨128 * ((i 1).val - 1) + q.val, by omega⟩ e := by
  rw [load_rows128 v f X hX ⟨(i 1).val - 1, hj⟩ (k0_off6 i) (off6_eq i) inb]
  unfold nextTile
  have hq : (128 * ((i 1).val - 1) + q.val) / 128 = (i 1).val - 1 := by omega
  have hq' : (128 * ((i 1).val - 1) + q.val) % 128 = q.val := by omega
  simp only [hq, hq']

/-- A load of a whole window, at offset zero, is what the window holds. -/
theorem load_whole {s : Shape} {e : EltTy} (m : Memref sig .tc .vmem s e) (h : m.IsWhole) (X : s.Idx → Elt F e) (off : Fin s.rank → ℕ)
    (ho : ∀ a, off a = 0) (inb : ∀ a, off a + s.size a ≤ s.size a) :
    View.readAt (Elt F) m.view (Rect.unit off s.size inb).toLoadRect (h.unread X) = X := by
  funext x
  exact (load_at m.view (h.unread X) off s.size inb x x (fun a => by rw [ho a, Nat.zero_add])).trans (congrFun (h.read_unread X) x)

/-- A store of a whole block, at offset zero, is what the block holds. -/
theorem store_whole {s : Shape} {e : EltTy} (v : View sig .tc .vmem s e) (f : v.ty.Contents (Elt F)) (X : s.Idx → Elt F e) (off : Fin s.rank → ℕ)
    (ho : ∀ a, off a = 0) (inb : ∀ a, off a + s.size a ≤ s.size a) :
    v.read (Elt F) (v.writes (Elt F) f [⟨Rect.unit off s.size inb, X⟩]) = X := by
  funext y
  exact View.read_writes_cons_unit_of_mem v f inb X [] y y rfl (fun a => by rw [ho a, Nat.zero_add])

set_option sl_exec.squeezeSlice true in
set_option maxHeartbeats 800000 in
/-- The body at one grid point, past the first: from the blocks it reads and a slot that holds a tile, it leaves the blocks as
    they were, its output block at the product with that tile, and the other slot with its next rows prepared. -/
theorem body_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x1536 .bf16) (harg6 : arg6.IsWhole) (arg7 : Memref sig .tc .vmem S1x1536 .f32) (harg7 : arg7.IsWhole) (arg8 : Memref sig .tc .vmem S1024x1536 .bf16) (harg8 : arg8.IsWhole) (arg9 : Memref sig .tc .vmem S2x1024x2048 .bf16) (harg9 : arg9.IsWhole) (arg10 : Memref sig .tc .vmem S1024x128 .f32) (harg10 : arg10.IsWhole) (x0 : FVec F S1024x2048 .f32) (g : FVec F S1x2048 .f32) (sc sh : FVec F S1x1x2048 .f32)
    (w : FVec F S1x2048x1536 .bf16) (cs : FVec F S1x1536 .f32) (f9 : Buf (Elt F) (arg9.view.loc (c : Thread nD τ))) (T : Fin 1024 → Fin 2048 → F .bf16)
    (k0_h1 : ¬ k0_cond1 i = 1#1) (hT : Filled arg9.view f9 (slot i) 1024 T) (hN : Filled arg9.view f9 (other i) (128 * ((i 1).val - 1)) (nextTile x0 g sc sh))
    (K : PUnit → sProp 𝕄) :
    iprop(owns (c : Thread nD τ) arg2 fullShare x0 ∗ owns (c : Thread nD τ) arg3 fullShare g ∗ owns (c : Thread nD τ) arg4 fullShare sc ∗ owns (c : Thread nD τ) arg5 fullShare sh
        ∗ owns (c : Thread nD τ) arg6 fullShare w ∗ owns (c : Thread nD τ) arg7 fullShare cs ∗ (∃ d, owns (c : Thread nD τ) arg8 fullShare d)
        ∗ (arg9.view.loc (c : Thread nD τ) ↦[arg9.view.set]{fullShare} f9) ∗ (∃ d, owns (c : Thread nD τ) arg10 fullShare d)
        ∗ (iprop(owns (c : Thread nD τ) arg2 fullShare x0 ∗ owns (c : Thread nD τ) arg3 fullShare g ∗ owns (c : Thread nD τ) arg4 fullShare sc ∗ owns (c : Thread nD τ) arg5 fullShare sh
            ∗ owns (c : Thread nD τ) arg6 fullShare w ∗ owns (c : Thread nD τ) arg7 fullShare cs ∗ owns (c : Thread nD τ) arg8 fullShare (k0_pay4 (tileOf T) w cs)
            ∗ (∃ f, (arg9.view.loc (c : Thread nD τ) ↦[arg9.view.set]{fullShare} f) ∗ ⌜Filled arg9.view f (slot i) 1024 T ∧ Filled arg9.view f (other i) (128 * ((i 1).val - 1) + 128) (nextTile x0 g sc sh)⌝)
            ∗ (∃ d, owns (c : Thread nD τ) arg10 fullShare d)) -∗ K PUnit.unit))
      ⊢ wp frame (wpE (defs₀ (F := F)) Variants.none c none) Set.univ (cc0_in_proj i arg2 harg2 arg3 harg3 arg4 harg4 arg5 harg5 arg6 harg6 arg7 harg7 arg8 harg8 arg9 harg9 arg10 harg10) K := by
  have hj : (i 1).val - 1 < 8 := by have h : (i 1).val < 9 := (i 1).isLt; omega
  simp only [cc0_in_proj_eq_skeleton]; unfold cc0_in_proj_skel
  simp only [k0_part1_eq_skeleton]; unfold k0_part1_skel
  rw [dif_neg k0_h1]
  unfold owns
  iintro ⟨⟨%f0, %hf0, H2⟩, ⟨%f1, %hf1, H3⟩, ⟨%f2, %hf2, H4⟩, ⟨%f3, %hf3, H5⟩, ⟨%f4, %hf4, H6⟩, ⟨%f5, %hf5, H7⟩, ⟨%d6, %f6, -, H8⟩, H9, ⟨%d10, %f10, -, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    refine (store_whole arg8.view f6 _ ![0, 0] (by decide) _).trans ?_
    have e1 := load_tile arg9.view f9 (slot i) T hT (k0_off5 i) (off5_eq i) (k0_off5_inb i)
    have e2 := load_whole arg6 harg6 w ![0, 0, 0] (by decide) inb_S1x2048x1536_S1x2048x1536_0_0_0
    have e3 := load_whole arg7 harg7 cs ![0, 0] (by decide) inb_S1x1536_S1x1536_0_0
    exact congr (congr (congrArg k0_pay4 e1) e2) e3
  isplitl [H9]
  · iexists _; isplitl [H9]; · iexact H9
    ipureintro
    have e1 := load_whole arg3 harg3 g ![0, 0] (by decide) inb_S1x2048_S1x2048_0_0
    have e2 := load_whole arg4 harg4 sc ![0, 0, 0] (by decide) inb_S1x1x2048_S1x1x2048_0_0_0
    have e3 := load_whole arg5 harg5 sh ![0, 0, 0] (by decide) inb_S1x1x2048_S1x1x2048_0_0_0
    refine ⟨filled_slot arg9.view f9 i T hT _ _, filled_other arg9.view f9 i _ hN _ _ hj fun q e => ?_⟩
    refine Eq.trans ?_ (next_rows arg2.view (harg2.unread x0) x0 (Memref.IsWhole.read_unread (Val := Elt F) harg2 x0) g sc sh i hj (k0_off6_inb i) q e)
    exact congrFun (congr (congr (congrArg (k0_pay1 _) e1) e2) e3) _
  iexists _, _; isplitr; swap; · iexact H10
  ipureintro; rfl

set_option sl_exec.squeezeSlice true in
set_option maxHeartbeats 800000 in
/-- The body at one grid point, the first: from the blocks it reads it leaves the blocks as they were, the first slot at the first tile, its
    output block at the product with that tile, and the other slot with its next rows prepared. -/
theorem body_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x1536 .bf16) (harg6 : arg6.IsWhole) (arg7 : Memref sig .tc .vmem S1x1536 .f32) (harg7 : arg7.IsWhole) (arg8 : Memref sig .tc .vmem S1024x1536 .bf16) (harg8 : arg8.IsWhole) (arg9 : Memref sig .tc .vmem S2x1024x2048 .bf16) (harg9 : arg9.IsWhole) (arg10 : Memref sig .tc .vmem S1024x128 .f32) (harg10 : arg10.IsWhole) (x0 : FVec F S1024x2048 .f32) (g : FVec F S1x2048 .f32) (sc sh : FVec F S1x1x2048 .f32)
    (w : FVec F S1x2048x1536 .bf16) (cs : FVec F S1x1536 .f32) (f9 : Buf (Elt F) (arg9.view.loc (c : Thread nD τ)))
    (k0_h1 : k0_cond1 i = 1#1)
    (K : PUnit → sProp 𝕄) :
    iprop(owns (c : Thread nD τ) arg2 fullShare x0 ∗ owns (c : Thread nD τ) arg3 fullShare g ∗ owns (c : Thread nD τ) arg4 fullShare sc ∗ owns (c : Thread nD τ) arg5 fullShare sh
        ∗ owns (c : Thread nD τ) arg6 fullShare w ∗ owns (c : Thread nD τ) arg7 fullShare cs ∗ (∃ d, owns (c : Thread nD τ) arg8 fullShare d)
        ∗ (arg9.view.loc (c : Thread nD τ) ↦[arg9.view.set]{fullShare} f9) ∗ (∃ d, owns (c : Thread nD τ) arg10 fullShare d)
        ∗ (iprop(owns (c : Thread nD τ) arg2 fullShare x0 ∗ owns (c : Thread nD τ) arg3 fullShare g ∗ owns (c : Thread nD τ) arg4 fullShare sc ∗ owns (c : Thread nD τ) arg5 fullShare sh
            ∗ owns (c : Thread nD τ) arg6 fullShare w ∗ owns (c : Thread nD τ) arg7 fullShare cs ∗ owns (c : Thread nD τ) arg8 fullShare (k0_pay4 (tileOf (firstTile x0 g sc sh)) w cs)
            ∗ (∃ f, (arg9.view.loc (c : Thread nD τ) ↦[arg9.view.set]{fullShare} f) ∗ ⌜Filled arg9.view f (slot i) 1024 (firstTile x0 g sc sh) ∧ Filled arg9.view f (other i) (128 * ((i 1).val - 1) + 128) (nextTile x0 g sc sh)⌝)
            ∗ (∃ d, owns (c : Thread nD τ) arg10 fullShare d)) -∗ K PUnit.unit))
      ⊢ wp frame (wpE (defs₀ (F := F)) Variants.none c none) Set.univ (cc0_in_proj i arg2 harg2 arg3 harg3 arg4 harg4 arg5 harg5 arg6 harg6 arg7 harg7 arg8 harg8 arg9 harg9 arg10 harg10) K := by
  have hj : (i 1).val - 1 < 8 := by have h : (i 1).val < 9 := (i 1).isLt; omega
  simp only [cc0_in_proj_eq_skeleton]; unfold cc0_in_proj_skel
  simp only [k0_part1_eq_skeleton]; unfold k0_part1_skel
  rw [dif_pos k0_h1]
  have hi := (cond1_iff i).mp k0_h1
  have hs : slot i = 0 := Fin.ext (by show (i 0).val % 2 = 0; rw [hi.1])
  unfold owns
  iintro ⟨⟨%f0, %hf0, H2⟩, ⟨%f1, %hf1, H3⟩, ⟨%f2, %hf2, H4⟩, ⟨%f3, %hf3, H5⟩, ⟨%f4, %hf4, H6⟩, ⟨%f5, %hf5, H7⟩, ⟨%d6, %f6, -, H8⟩, H9, ⟨%d10, %f10, -, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  sl_exec
  have a1 := load_whole arg3 harg3 g ![0, 0] (by decide) inb_S1x2048_S1x2048_0_0
  have a2 := load_whole arg4 harg4 sc ![0, 0, 0] (by decide) inb_S1x1x2048_S1x1x2048_0_0_0
  have a3 := load_whole arg5 harg5 sh ![0, 0, 0] (by decide) inb_S1x1x2048_S1x1x2048_0_0_0
  have a4 := load_whole arg2 harg2 x0 ![0, 0] (by decide) inb_S1024x2048_S1024x2048_0_0
  simp only [bind_assoc]
  iapply (wp_fill_loop c i arg2 harg2 arg3 harg3 arg4 harg4 arg5 harg5 arg6 harg6 arg7 harg7 arg8 harg8 arg9 harg9 arg10 harg10 k0_h1 (harg2.unread x0) f9 _ x0 _ _ _ (Memref.IsWhole.read_unread (Val := Elt F) harg2 x0)
    ((store_whole arg10.view f10 _ ![0, 0] (by decide) _).trans (congrArg k0_pay2 a4)))
  isplitl [H2]
  · iexact H2
  isplitl [H10]
  · iexact H10
  isplitl [H9]
  · iexact H9
  iintro %f %hf H2 H10 H9
  rw [a1, a2, a3] at hf
  have hT : Filled arg9.view f (slot i) 1024 (firstTile x0 g sc sh) := by rw [hs]; exact hf
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    refine (store_whole arg8.view f6 _ ![0, 0] (by decide) _).trans ?_
    have e1 := load_tile arg9.view f (slot i) (firstTile x0 g sc sh) hT (k0_off5 i) (off5_eq i) (k0_off5_inb i)
    have e2 := load_whole arg6 harg6 w ![0, 0, 0] (by decide) inb_S1x2048x1536_S1x2048x1536_0_0_0
    have e3 := load_whole arg7 harg7 cs ![0, 0] (by decide) inb_S1x1536_S1x1536_0_0
    exact congr (congr (congrArg k0_pay4 e1) e2) e3
  isplitl [H9]
  · iexists _; isplitl [H9]; · iexact H9
    ipureintro
    refine ⟨filled_slot arg9.view f i (firstTile x0 g sc sh) hT _ _, filled_other arg9.view f i _ (fun r hr => absurd hr (by rw [hi.2]; omega)) _ _ hj fun q e => ?_⟩
    refine Eq.trans ?_ (next_rows arg2.view (harg2.unread x0) x0 (Memref.IsWhole.read_unread (Val := Elt F) harg2 x0) g sc sh i hj (k0_off6_inb i) q e)
    rfl
  iexists _, _; isplitr; swap; · iexact H10
  ipureintro; rfl

end Cert.Proof.InProj

end
-- ==== Proof.InProjFrame.lean ====
module

public import proofs.«01_k».proof.Proof.InProjRun
public import Idealize.ShloMosaic.Lib.Pipeline.ValueKit

@[expose] public section

noncomputable section

namespace Cert.Proof.InProj

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks of the grid points -/

/-- The block window 0 is at. -/
theorem ind0 : ∀ t : Fin cfg0.N, win0_0.index t = ![if t.val = 0 then 0 else min (t.val / 9 + 1) 15, 0] := (by decide +kernel : ∀ t : Fin grid0.N, _)
/-- The block window 1 is at. -/
theorem ind1 : ∀ t : Fin cfg0.N, win0_1.index t = ![0, 0] := (by decide +kernel : ∀ t : Fin grid0.N, _)
/-- The block window 2 is at. -/
theorem ind2 : ∀ t : Fin cfg0.N, win0_2.index t = ![(if t.val = 0 then 0 else min (t.val / 9 + 1) 15) / 2, 0, 0] := (by decide +kernel : ∀ t : Fin grid0.N, _)
/-- The block window 3 is at. -/
theorem ind3 : ∀ t : Fin cfg0.N, win0_3.index t = ![(if t.val = 0 then 0 else min (t.val / 9 + 1) 15) / 2, 0, 0] := (by decide +kernel : ∀ t : Fin grid0.N, _)
/-- The block window 4 is at. -/
theorem ind4 : ∀ t : Fin cfg0.N, win0_4.index t = ![0, 0, t.val % 9] := (by decide +kernel : ∀ t : Fin grid0.N, _)
/-- The block window 5 is at. -/
theorem ind5 : ∀ t : Fin cfg0.N, win0_5.index t = ![0, t.val % 9] := (by decide +kernel : ∀ t : Fin grid0.N, _)
/-- The block window 6 is at. -/
theorem ind6 : ∀ t : Fin cfg0.N, win0_6.index t = ![t.val / 9, t.val % 9] := (by decide +kernel : ∀ t : Fin grid0.N, _)
/-- A grid point's two coordinates. -/
theorem coords_eq : ∀ t : Fin cfg0.N, (grid0.coords t 0).val = t.val / 9 ∧ (grid0.coords t 1).val = t.val % 9 := (by decide +kernel : ∀ t : Fin grid0.N, _)

/-- The grid has 144 points. -/
theorem N_eq : cfg0.N = 144 := by decide +kernel

/-- The grid point of a tile at which the tile's successor is first read. -/
def pt (k : ℕ) : Fin cfg0.N := ⟨(9 * k + 1) % 144, by rw [N_eq]; exact Nat.mod_lt _ (by decide)⟩

/-- A grid point is below 144. -/
theorem lt_144 (t : Fin cfg0.N) : t.val < 144 := lt_of_lt_of_eq t.isLt N_eq

/-- The point of the next tile's rows, as the window's map has it. -/
theorem at_pt (t : Fin cfg0.N) (ht : 1 ≤ t.val % 9) :
    (if t.val = 0 then 0 else min (t.val / 9 + 1) 15) = (if (9 * (t.val / 9) + 1) % 144 = 0 then 0 else min ((9 * (t.val / 9) + 1) % 144 / 9 + 1) 15) := by
  have hN := lt_144 t
  rw [if_neg (by omega), if_neg (by omega)]; omega

/-- Past a tile's first grid point the blocks of the next tile stay in place. -/
theorem stay0 (c : Dev nD) (t : Fin cfg0.N) (ht : 1 ≤ t.val % 9) : (iblk m c 0 t : FVec F S1024x2048 .f32) = iblk m c 0 (pt (t.val / 9)) := by
  funext y
  obtain ⟨i, e, rfl⟩ : ∃ (i : Fin 1024) (e : Fin 2048), y = ix2 i e := ⟨y 0, y 1, by funext a; fin_cases a <;> rfl⟩
  blk_simp [iblk]
  congr 1
  have h := at_pt t ht
  blk_ext [ind0, pt]
/-- Window 1's block stays while one tile is multiplied. -/
theorem stay1 (c : Dev nD) (t : Fin cfg0.N) (ht : 1 ≤ t.val % 9) : (iblk m c 1 t : FVec F S1x2048 .f32) = iblk m c 1 (pt (t.val / 9)) := by
  funext y
  obtain ⟨i, e, rfl⟩ : ∃ (i : Fin 1) (e : Fin 2048), y = ix2 i e := ⟨y 0, y 1, by funext a; fin_cases a <;> rfl⟩
  blk_simp [iblk]
  congr 1
  blk_ext [ind1, pt]
/-- Window 2's block stays while one tile is multiplied. -/
theorem stay2 (c : Dev nD) (t : Fin cfg0.N) (ht : 1 ≤ t.val % 9) : (iblk m c 2 t : FVec F S1x1x2048 .f32) = iblk m c 2 (pt (t.val / 9)) := by
  funext y
  obtain ⟨i, j, e, rfl⟩ : ∃ (i : Fin 1) (j : Fin 1) (e : Fin 2048), y = ix3 i j e := ⟨y 0, y 1, y 2, by funext a; fin_cases a <;> rfl⟩
  blk_simp [iblk]
  refine congrArg (V m c main_v11) ?_
  have h := at_pt t ht
  blk_ext [ind2, pt]
/-- Window 3's block stays while one tile is multiplied. -/
theorem stay3 (c : Dev nD) (t : Fin cfg0.N) (ht : 1 ≤ t.val % 9) : (iblk m c 3 t : FVec F S1x1x2048 .f32) = iblk m c 3 (pt (t.val / 9)) := by
  funext y
  obtain ⟨i, j, e, rfl⟩ : ∃ (i : Fin 1) (j : Fin 1) (e : Fin 2048), y = ix3 i j e := ⟨y 0, y 1, y 2, by funext a; fin_cases a <;> rfl⟩
  blk_simp [iblk]
  refine congrArg (V m c main_v12) ?_
  have h := at_pt t ht
  blk_ext [ind3, pt]

/-! ## The tiles -/

/-- The tile after tile `k`, normed and modulated. -/
def nxt (c : Dev nD) (k : ℕ) : Fin 1024 → Fin 2048 → F .bf16 :=
  nextTile (iblk m c 0 (pt k)) (iblk m c 1 (pt k)) (iblk m c 2 (pt k)) (iblk m c 3 (pt k))

/-- The first grid point. -/
def pt0 : Fin cfg0.N := ⟨0, by rw [N_eq]; decide⟩

/-- Tile `k`, normed and modulated. -/
def cur (c : Dev nD) : ℕ → Fin 1024 → Fin 2048 → F .bf16
  | 0 => firstTile (iblk m c 0 pt0) (iblk m c 1 pt0) (iblk m c 2 pt0) (iblk m c 3 pt0)
  | k + 1 => nxt m c k

/-- What the scratch slots hold before grid point `n`: the tile being multiplied whole (past the first point), and the rows
    prepared so far of the next. -/
def Slots (c : Dev nD) (n : ℕ) (f : (Memref.whole cc0_scratch0).view.ty.Contents (Elt F)) : Prop :=
  (n ≠ 0 → Filled (Memref.whole cc0_scratch0).view f ⟨n / 9 % 2, Nat.mod_lt _ (by decide)⟩ 1024 (cur m c (n / 9)))
    ∧ Filled (Memref.whole cc0_scratch0).view f ⟨1 - n / 9 % 2, by omega⟩ (128 * (n % 9 - 1)) (nxt m c (n / 9))

/-- What each window's buffer holds after the body at each grid point: an input its block, the output the block computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (tileOf (cur m c (t.val / 9))) (iblk m c 4 t) (iblk m c 5 t)
  Φ t := iprop(iprop((∃ f, ((Memref.whole cc0_scratch0).view.loc (c : Thread nD τ) ↦[(Memref.whole cc0_scratch0).view.set]{fullShare} f) ∗ ⌜Slots m c t.val f⌝)
    ∗ (∃ d, owns (c : Thread nD τ) (Memref.whole cc0_scratch1) fullShare d)) ∗ (∃ r, prngReg c r))
  q _ := fullShare
  owed _ := 0

/-- The arrays before the run are those the host prepares. -/
theorem A_eq (c : Dev nD) (w : Fin cfg0.W) : (dats m 0 c).A w = V m c (Pipeline.arrRef spec0 w) := by
  dsimp only [dats]

/-- What window 0 holds after a grid point. -/
theorem after_0 (c : Dev nD) (t : Fin cfg0.N) : (dats m 0 c).after 0 t = iblk m c 0 t := by dsimp only [dats]
/-- What window 1 holds after a grid point. -/
theorem after_1 (c : Dev nD) (t : Fin cfg0.N) : (dats m 0 c).after 1 t = iblk m c 1 t := by dsimp only [dats]
/-- What window 2 holds after a grid point. -/
theorem after_2 (c : Dev nD) (t : Fin cfg0.N) : (dats m 0 c).after 2 t = iblk m c 2 t := by dsimp only [dats]
/-- What window 3 holds after a grid point. -/
theorem after_3 (c : Dev nD) (t : Fin cfg0.N) : (dats m 0 c).after 3 t = iblk m c 3 t := by dsimp only [dats]
/-- What window 4 holds after a grid point. -/
theorem after_4 (c : Dev nD) (t : Fin cfg0.N) : (dats m 0 c).after 4 t = iblk m c 4 t := by dsimp only [dats]
/-- What window 5 holds after a grid point. -/
theorem after_5 (c : Dev nD) (t : Fin cfg0.N) : (dats m 0 c).after 5 t = iblk m c 5 t := by dsimp only [dats]
/-- What window 6 holds after a grid point. -/
theorem after_6 (c : Dev nD) (t : Fin cfg0.N) : (dats m 0 c).after 6 t = k0_pay4 (tileOf (cur m c (t.val / 9))) (iblk m c 4 t) (iblk m c 5 t) := by dsimp only [dats]

/-- What window 0 holds before a grid point. -/
theorem before_0 (c : Dev nD) (t : Fin cfg0.N) (d) : (dats m 0 c).before 0 t d = iblk m c 0 t :=
  before0_0_of m (dats m 0 c) (A_eq m c 0) (after_0 m c) t d
/-- What window 1 holds before a grid point. -/
theorem before_1 (c : Dev nD) (t : Fin cfg0.N) (d) : (dats m 0 c).before 1 t d = iblk m c 1 t :=
  before0_1_of m (dats m 0 c) (A_eq m c 1) (after_1 m c) t d
/-- What window 2 holds before a grid point. -/
theorem before_2 (c : Dev nD) (t : Fin cfg0.N) (d) : (dats m 0 c).before 2 t d = iblk m c 2 t :=
  before0_2_of m (dats m 0 c) (A_eq m c 2) (after_2 m c) t d
/-- What window 3 holds before a grid point. -/
theorem before_3 (c : Dev nD) (t : Fin cfg0.N) (d) : (dats m 0 c).before 3 t d = iblk m c 3 t :=
  before0_3_of m (dats m 0 c) (A_eq m c 3) (after_3 m c) t d
/-- What window 4 holds before a grid point. -/
theorem before_4 (c : Dev nD) (t : Fin cfg0.N) (d) : (dats m 0 c).before 4 t d = iblk m c 4 t :=
  before0_4_of m (dats m 0 c) (A_eq m c 4) (after_4 m c) t d
/-- What window 5 holds before a grid point. -/
theorem before_5 (c : Dev nD) (t : Fin cfg0.N) (d) : (dats m 0 c).before 5 t d = iblk m c 5 t :=
  before0_5_of m (dats m 0 c) (A_eq m c 5) (after_5 m c) t d

/-- The invariant before a grid point. -/
theorem phi_eq (c : Dev nD) (t : Fin (cfg0.N + 1)) : (dats m 0 c).Φ t
    = (iprop(iprop((∃ f, ((Memref.whole cc0_scratch0).view.loc (c : Thread nD τ) ↦[(Memref.whole cc0_scratch0).view.set]{fullShare} f) ∗ ⌜Slots m c t.val f⌝)
        ∗ (∃ d, owns (c : Thread nD τ) (Memref.whole cc0_scratch1) fullShare d)) ∗ (∃ r, prngReg c r)) : sProp 𝕄) := by dsimp only [dats]

/-- The two scratch buffers and the generator's register are what the region keeps for itself. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- Before the first point the slots hold anything. -/
theorem phi_in (c : Dev nD) : (Pipeline.ΦA spec0 c : sProp 𝕄) ⊢ (dats m 0 c).Φ 0 := by
  rw [phi_eq, scratch_eq]
  unfold owns
  iintro ⟨⟨⟨%d, %f, -, H0⟩, H1⟩, Hg⟩
  isplitl [H0 H1]
  · isplitl [H0]
    · iexists f
      isplitl [H0]; · iexact H0
      ipureintro
      exact ⟨fun h => absurd rfl h, fun r hr => absurd hr (Nat.not_lt_zero _)⟩
    iexact H1
  iexact Hg

/-- After the last point what the slots hold is forgotten. -/
theorem phi_out (c : Dev nD) : (dats m 0 c).Φ (Fin.last cfg0.N) ⊢ (Pipeline.ΦA spec0 c : sProp 𝕄) := by
  rw [phi_eq, scratch_eq]
  unfold owns
  iintro ⟨⟨⟨%f, H0, -⟩, H1⟩, Hg⟩
  isplitl [H0 H1]
  · isplitl [H0]
    · iexists _, f
      isplitr; · ipureintro; rfl
      iexact H0
    iexact H1
  iexact Hg

/-! ## The body at every grid point -/

/-- Past a tile's first point the rows prepared are the next tile's. -/
theorem next_eq (c : Dev nD) (t : Fin cfg0.N) (ht : 1 ≤ t.val % 9) :
    nextTile (iblk m c 0 t) (iblk m c 1 t) (iblk m c 2 t) (iblk m c 3 t) = nxt m c (t.val / 9) := by
  unfold nxt
  rw [stay0 m c t ht, stay1 m c t ht, stay2 m c t ht, stay3 m c t ht]

/-- The slot a grid point reads. -/
theorem slot_eq (t : Fin cfg0.N) : slot (grid0.coords t) = ⟨t.val / 9 % 2, Nat.mod_lt _ (by decide)⟩ :=
  Fin.ext (by show (grid0.coords t 0).val % 2 = _; rw [(coords_eq t).1])
/-- The slot a grid point fills. -/
theorem other_eq (t : Fin cfg0.N) : other (grid0.coords t) = ⟨1 - t.val / 9 % 2, by omega⟩ :=
  Fin.ext (by show 1 - (grid0.coords t 0).val % 2 = _; rw [(coords_eq t).1])

/-- What the slots hold before a point and the rows the body prepares there are what they hold before the next. -/
theorem slots_step (c : Dev nD) (t : Fin cfg0.N) (f : (Memref.whole cc0_scratch0).view.ty.Contents (Elt F))
    (h : Filled (Memref.whole cc0_scratch0).view f (slot (grid0.coords t)) 1024 (cur m c (t.val / 9))
      ∧ Filled (Memref.whole cc0_scratch0).view f (other (grid0.coords t)) (128 * ((grid0.coords t 1).val - 1) + 128) (nextTile (iblk m c 0 t) (iblk m c 1 t) (iblk m c 2 t) (iblk m c 3 t))) :
    Slots m c (t.val + 1) f := by
  have hN := lt_144 t
  obtain ⟨h1, h2⟩ := h
  rw [slot_eq] at h1
  rw [other_eq, (coords_eq t).2] at h2
  unfold Slots
  by_cases h8 : t.val % 9 = 8
  · have e1 : (t.val + 1) / 9 = t.val / 9 + 1 := by omega
    have e2 : (t.val + 1) % 9 = 0 := by omega
    rw [next_eq m c t (by omega)] at h2
    refine ⟨fun _ r hr e => ?_, fun r hr => absurd hr (by rw [e2]; exact Nat.not_lt_zero _)⟩
    have hs : (⟨(t.val + 1) / 9 % 2, Nat.mod_lt _ (by decide)⟩ : Fin 2) = ⟨1 - t.val / 9 % 2, by omega⟩ := Fin.ext (by show (t.val + 1) / 9 % 2 = 1 - t.val / 9 % 2; omega)
    rw [hs, e1]
    exact h2 r (by rw [h8]; omega) e
  · have e1 : (t.val + 1) / 9 = t.val / 9 := by omega
    have e2 : (t.val + 1) % 9 = t.val % 9 + 1 := by omega
    simp only [e1, e2]
    refine ⟨fun _ => h1, fun r hr e => ?_⟩
    have hr' : r.val < 128 * (t.val % 9) := hr
    rw [next_eq m c t (by omega)] at h2
    exact h2 r (by omega) e

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body returns at a grid point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6, phi_eq, phi_eq]
  rw [show (t.castSucc).val = t.val from rfl, show (t.succ).val = t.val + 1 from rfl]
  iintro ⟨⟨⟨⟨%f, HS0, %hf⟩, HS1⟩, Hg⟩, Ho, ⟨%d0, H0⟩, ⟨%d1, H1⟩, ⟨%d2, H2⟩, ⟨%d3, H3⟩, ⟨%d4, H4⟩, ⟨%d5, H5⟩, ⟨%d6, H6⟩⟩
  by_cases h : k0_cond1 (grid0.coords t) = 1#1
  · have ht : t = pt0 := by
      have hc := (cond1_iff _).mp h
      rw [(coords_eq t).1, (coords_eq t).2] at hc
      exact Fin.ext (by show t.val = 0; omega)
    have hk : cur m c (t.val / 9) = firstTile (iblk m c 0 t) (iblk m c 1 t) (iblk m c 2 t) (iblk m c 3 t) := by
      subst ht; rfl
    rw [hk]
    iapply (body_first c (grid0.coords t) _ _ _ _ _ _ _ _ _ _ _ _ _ _ _ _ _ _ (iblk m c 0 t) (iblk m c 1 t) (iblk m c 2 t) (iblk m c 3 t) (iblk m c 4 t) (iblk m c 5 t) f h _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, ⟨%f', HS0, %hf'⟩, HS1⟩
    isplitl [HS0 HS1 Hg]
    · isplitl [HS0 HS1]
      · isplitl [HS0]
        · iexists f'
          isplitl [HS0]; · iexact HS0
          ipureintro
          exact slots_step m c t f' (by rw [hk]; exact hf')
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

  · have ht : t.val ≠ 0 := by
      intro h0
      exact h ((cond1_iff _).mpr (by rw [(coords_eq t).1, (coords_eq t).2, h0]; decide))
    have hT : Filled (Memref.whole cc0_scratch0).view f (slot (grid0.coords t)) 1024 (cur m c (t.val / 9)) := by
      rw [slot_eq]; exact hf.1 ht
    have hN : Filled (Memref.whole cc0_scratch0).view f (other (grid0.coords t)) (128 * ((grid0.coords t 1).val - 1)) (nextTile (iblk m c 0 t) (iblk m c 1 t) (iblk m c 2 t) (iblk m c 3 t)) := by
      rw [other_eq, (coords_eq t).2]
      by_cases h1 : 1 ≤ t.val % 9
      · rw [next_eq m c t h1]; exact hf.2
      · intro r hr; omega
    iapply (body_later c (grid0.coords t) _ _ _ _ _ _ _ _ _ _ _ _ _ _ _ _ _ _ (iblk m c 0 t) (iblk m c 1 t) (iblk m c 2 t) (iblk m c 3 t) (iblk m c 4 t) (iblk m c 5 t) f (cur m c (t.val / 9)) h hT hN _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, ⟨%f', HS0, %hf'⟩, HS1⟩
    isplitl [HS0 HS1 Hg]
    · isplitl [HS0 HS1]
      · isplitl [HS0]
        · iexists f'
          isplitl [HS0]; · iexact HS0
          ipureintro
          exact slots_step m c t f' hf'
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's entry at a grid point. -/
theorem defs₀_row (t : Fin cfg0.N) :
    defs₀ (F := F) .tc cfg0.body (cfg0.bodyArgs t (cfg0.slots t)) = bodyAt0 t := by
  unfold defs₀; rw [Defs.onTc_tc]

/-- The body's obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run ends with every array at what the windows leave in it, and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- Every run ends with every array at what the windows leave in it. -/
theorem run_main : θ_run defs (onTc (τ := τ) (main (F := F))) (s₀ m ρ) (Pipeline.FramePost cfgs (dats m) 0 (V m)) :=
  (θ_run defs _ _).mono (fun _ h => h.1) (run_quiescent m ρ)

/-- Every run ends, with the argument arrays unchanged and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Proof.InProj

end
-- ==== Proof.InProjMath.lean ====
module

public import proofs.«01_k».proof.Proof.InProjFrame
public import proofs.«01_k».proof.Proof.Gen.Reference6Ideal
public import proofs.«01_k».proof.Proof.Gen.Reference6Ideal.Run
public import Idealize.ShloMosaic.Lib.Pipeline.ValueKit
public import Idealize.ShloMosaic.Lib.Pointwise

@[expose] public section

noncomputable section

namespace Cert.Proof.InProj

/-- The scale of the first 2048 columns. -/
def qScale : EReal := Idealize.ShloMosaic.Ideal.ofBits .f32 0x3E0293EE#32

/-- An entry normed, with the sum of its row's squares, and modulated. -/
def hForm (x s g sc sh : EReal) : EReal :=
  x * Idealize.ShloMosaic.Ideal.rsqrt (Idealize.ShloMosaic.Ideal.div s (Idealize.ShloMosaic.Ideal.ofBits .f32 0x45000000#32) + Idealize.ShloMosaic.Ideal.ofBits .f32 0x358637BD#32)
    * g * (1 + sc) + sh

/-- The columns of a row as they are laid out: the first scaled, and the last forty-eight after the rest and before zeros. -/
def outForm (z : Fin 13360 → EReal) (n : Fin 13824) : EReal :=
  if h : n.val < 2048 then z ⟨n.val, by omega⟩ * qScale
  else if h : n.val < 5120 then z ⟨n.val, by omega⟩
  else if h : n.val < 13312 then z ⟨n.val + 48, by omega⟩
  else if h : n.val < 13360 then z ⟨n.val - 8192, by omega⟩
  else 0

section Reference

open Cert.Reference6Ideal Cert.Reference6Ideal.Gen
open Idealize.ShloMosaic Idealize.ShloMosaic.TcCoe

/-- The batch of a row. -/
def batch (r : Fin 16384) : Fin 8 := ⟨r.val / 2048, by omega⟩
/-- The time of a row. -/
def time (r : Fin 16384) : Fin 2048 := ⟨r.val % 2048, by omega⟩

/-- The reference's normed and modulated input. -/
def refH (x : FVec Ideal S8x2048x2048 .f32) (g : FVec Ideal S2048 .f32) (sc sh : FVec Ideal S8x2048 .f32) : FVec Ideal S8x2048x2048 .f32 :=
  addf (mulf (mulf (mulf x (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf x x) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 g))) (broadcastInDim S8x2048x2048 ![0, 1, 2] bcast_S8x1x2048_S8x2048x2048_0_1_2 (addf (broadcastInDim S8x1x2048 ![] bcast_S_S8x1x2048 (constant S_ .f32 0x3F800000#32)) (broadcastInDim S8x1x2048 ![0, 2] bcast_S8x2048_S8x1x2048_0_2 sc)))) (broadcastInDim S8x2048x2048 ![0, 1, 2] bcast_S8x1x2048_S8x2048x2048_0_1_2 (broadcastInDim S8x1x2048 ![0, 2] bcast_S8x2048_S8x1x2048_0_2 sh))

/-- The reference's product with the whole weight. -/
def refZ (h : FVec Ideal S8x2048x2048 .f32) (w : FVec Ideal S2x2048x13360 .f32) : FVec Ideal S16384x13360 .f32 :=
  shapeCast _ (Host.dotGeneral dot_S8x2048x2048_S2048x13360_S8x2048x13360_2_0_01_1_n_n none h (shapeCast _ (extractStridedSlice S1x2048x13360 ![0, 0, 0] w slices_S2x2048x13360_S1x2048x13360_0_0_0) shapeCasts_S1x2048x13360_S2048x13360)) shapeCasts_S8x2048x13360_S16384x13360

/-- The reference's columns as it lays them out. -/
def refCols (z : FVec Ideal S16384x13360 .f32) : FVec Ideal S16384x13824 .bf16 :=
  truncf .bf16 (concatenate S16384x13824 1 [
    ⟨S16384x2048, mulf (extractStridedSlice S16384x2048 ![0, 0] z slices_S16384x13360_S16384x2048_0_0) (broadcastInDim S16384x2048 ![] bcast_S_S16384x2048 (constant S_ .f32 0x3E0293EE#32))⟩,
    ⟨S16384x3072, extractStridedSlice S16384x3072 ![0, 2048] z slices_S16384x13360_S16384x3072_0_2048⟩,
    ⟨S16384x8192, extractStridedSlice S16384x8192 ![0, 5168] z slices_S16384x13360_S16384x8192_0_5168⟩,
    ⟨S16384x48, extractStridedSlice S16384x48 ![0, 5120] z slices_S16384x13360_S16384x48_0_5120⟩,
    ⟨S16384x464, broadcastInDim S16384x464 ![] bcast_S_S16384x464 (constant (F := Ideal) S_ .f32 0x00000000#32)⟩] concatenates_S16384x2048_S16384x3072_S16384x8192_S16384x48_S16384x464_S16384x13824_d1) bitsLt_bf16_f32

/-- The reference's result, from its arguments. -/
def refOut (x : FVec Ideal S8x2048x2048 .f32) (g : FVec Ideal S2048 .f32) (sc sh : FVec Ideal S8x2048 .f32) (w : FVec Ideal S2x2048x13360 .f32) :
    FVec Ideal S16384x13824 .bf16 := refCols (refZ (refH x g sc sh) w)

/-- The reference's result is what its run leaves. -/
theorem res_eq (m : (ℓ : Loc nD τ sig) → Buf (Elt Ideal) ℓ) (c : Dev nD) :
    Cert.Reference6Ideal.Value.res_main_v33 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- The normed and modulated input at an entry. -/
theorem refH_apply (x : FVec Ideal S8x2048x2048 .f32) (g : FVec Ideal S2048 .f32) (sc sh : FVec Ideal S8x2048 .f32) (b : Fin 8) (t k : Fin 2048) :
    (refH x g sc sh (ix3 b t k) : EReal) = hForm (x (ix3 b t k)) (∑ l : Fin 2048, (x (ix3 b t l) : EReal) * x (ix3 b t l)) (g (ix1 k)) (sc (ix2 b k)) (sh (ix2 b k)) := by
  pointwise [refH]
  rfl

/-- The product at an entry. -/
theorem refZ_apply (h : FVec Ideal S8x2048x2048 .f32) (w : FVec Ideal S2x2048x13360 .f32) (r : Fin 16384) (n : Fin 13360) :
    (refZ h w (ix2 r n) : EReal) = ∑ k : Fin 2048, (h (ix3 (batch r) (time r) k) : EReal) * w (ix3 0 k n) := by
  pointwise [refZ]
  rfl

/-- The columns at an entry. -/
theorem refCols_apply (z : FVec Ideal S16384x13360 .f32) (r : Fin 16384) (n : Fin 13824) :
    (refCols z (ix2 r n) : EReal) = outForm (fun j => z (ix2 r j)) n := by
  pointwise [refCols]
  unfold outForm qScale
  have hn := n.isLt
  by_cases h1 : n.val < 2048
  · simp only [h1, ↓reduceDIte, ↓reduceIte]
  by_cases h2 : n.val < 5120
  · have k2 : n.val - 2048 < 3072 := by omega
    simp only [h1, h2, k2, ↓reduceDIte, ↓reduceIte]
    exact congrArg (fun j => (z (ix2 r j) : EReal)) (Fin.ext (by dsimp only; omega))
  have k2 : ¬ n.val - 2048 < 3072 := by omega
  by_cases h3 : n.val < 13312
  · have k3 : n.val - 2048 - 3072 < 8192 := by omega
    simp only [h1, h2, k2, h3, k3, ↓reduceDIte, ↓reduceIte]
    exact congrArg (fun j => (z (ix2 r j) : EReal)) (Fin.ext (by dsimp only; omega))
  have k3 : ¬ n.val - 2048 - 3072 < 8192 := by omega
  by_cases h4 : n.val < 13360
  · have k4 : n.val - 2048 - 3072 - 8192 < 48 := by omega
    simp only [h1, h2, k2, h3, k3, h4, k4, ↓reduceDIte, ↓reduceIte]
    exact congrArg (fun j => (z (ix2 r j) : EReal)) (Fin.ext (by dsimp only; omega))
  have k4 : ¬ n.val - 2048 - 3072 - 8192 < 48 := by clear h1 h2 k2 h3 k3 hn; omega
  simp only [h1, h2, k2, h3, k3, h4, k4, ↓reduceDIte, ↓reduceIte]

end Reference

section Payloads

open Cert.Kernel6Ideal Cert.Kernel6Ideal.Gen
open Idealize.ShloMosaic Idealize.ShloMosaic.TcCoe

/-- A hundred and twenty-eight rows normed and modulated, at an entry. -/
theorem pay1_apply (x : FVec Ideal S128x2048 .f32) (g : FVec Ideal S1x2048 .f32) (sc sh : FVec Ideal S1x1x2048 .f32) (i : Fin 128) (e : Fin 2048) :
    (k0_pay1 (F := Ideal) x g sc sh (ix3 0 i e) : EReal)
      = hForm (x (ix2 i e)) (∑ l : Fin 2048, (x (ix2 i l) : EReal) * x (ix2 i l)) (g (ix2 0 e)) (sc (ix3 0 0 e)) (sh (ix3 0 0 e)) := by
  pointwise [k0_pay1]
  rfl

/-- A tile's reciprocal roots, at an entry: the row's, in every column. -/
theorem pay2_apply (x : FVec Ideal S1024x2048 .f32) (i : Fin 1024) (e : Fin 128) :
    (k0_pay2 (F := Ideal) x (ix2 i e) : EReal)
      = Ideal.rsqrt (Ideal.div (∑ l : Fin 2048, (x (ix2 i l) : EReal) * x (ix2 i l)) (Ideal.ofBits .f32 0x45000000#32) + Ideal.ofBits .f32 0x358637BD#32) := by
  pointwise [k0_pay2]

/-- Sixteen rows modulated, at an entry. -/
theorem pay3_apply (g : FVec Ideal S1x2048 .f32) (sc sh : FVec Ideal S1x1x2048 .f32) (v : FVec Ideal S16x128 .f32) (x : FVec Ideal S16x2048 .f32) (i : Fin 16) (e : Fin 2048)
    (q : EReal) (hv : ∀ j : Fin 128, (v (ix2 i j) : EReal) = q) :
    (k0_pay3 (F := Ideal) g sc sh v x (ix3 0 i e) : EReal) = (x (ix2 i e) : EReal) * q * g (ix2 0 e) * (1 + sc (ix3 0 0 e)) + sh (ix3 0 0 e) := by
  unfold k0_pay3
  generalize hC : concatenate S16x2048 1 _ _ = C
  have hc : (C (ix2 i e) : EReal) = q := by
    rw [← hC]
    refine (concatenate_replicate_apply (t := S16x2048) 1 16 v _ rfl (ix2 i e) (ix2 i ⟨e.val % 128, Nat.mod_lt _ (by decide)⟩) rfl fun b hb => ?_).trans (hv _)
    fin_cases b
    · rfl
    · exact absurd rfl hb
  clear hC
  pointwise
  rw [hc]

/-- The block of a grid point at an entry: the tile's product, scaled. -/
theorem pay4_apply (h : FVec Ideal S1x1024x2048 .bf16) (w : FVec Ideal S1x2048x1536 .bf16) (s : FVec Ideal S1x1536 .f32) (i : Fin 1024) (e : Fin 1536) :
    (k0_pay4 (F := Ideal) h w s (ix2 i e) : EReal) = (∑ k : Fin 2048, (h (ix3 0 i k) : EReal) * w (ix3 0 k e)) * s (ix2 0 e) := by
  pointwise [k0_pay4]

/-- The first tile at an entry. -/
theorem firstTile_apply (X : FVec Ideal S1024x2048 .f32) (g : FVec Ideal S1x2048 .f32) (sc sh : FVec Ideal S1x1x2048 .f32) (r : Fin 1024) (e : Fin 2048) :
    (firstTile X g sc sh r e : EReal) = hForm (X (ix2 r e)) (∑ l : Fin 2048, (X (ix2 r l) : EReal) * X (ix2 r l)) (g (ix2 0 e)) (sc (ix3 0 0 e)) (sh (ix3 0 0 e)) := by
  have hr : (⟨16 * (r.val / 16) + r.val % 16, by omega⟩ : Fin 1024) = r := Fin.ext (by show 16 * (r.val / 16) + r.val % 16 = r.val; omega)
  unfold firstTile
  refine (pay3_apply g sc sh _ _ ⟨r.val % 16, by omega⟩ e _ fun j => (pay2_apply X ⟨16 * (r.val / 16) + r.val % 16, by omega⟩ j)).trans ?_
  show (X (ix2 ⟨16 * (r.val / 16) + r.val % 16, _⟩ e) : EReal) * _ * _ * _ + _ = _
  rw [hr]
  rfl

/-- A later tile at an entry. -/
theorem nextTile_apply (X : FVec Ideal S1024x2048 .f32) (g : FVec Ideal S1x2048 .f32) (sc sh : FVec Ideal S1x1x2048 .f32) (r : Fin 1024) (e : Fin 2048) :
    (nextTile X g sc sh r e : EReal) = hForm (X (ix2 r e)) (∑ l : Fin 2048, (X (ix2 r l) : EReal) * X (ix2 r l)) (g (ix2 0 e)) (sc (ix3 0 0 e)) (sh (ix3 0 0 e)) := by
  have hr : (⟨128 * (r.val / 128) + r.val % 128, by omega⟩ : Fin 1024) = r := Fin.ext (by show 128 * (r.val / 128) + r.val % 128 = r.val; omega)
  unfold nextTile
  refine (pay1_apply _ g sc sh ⟨r.val % 128, by omega⟩ e).trans ?_
  show hForm (X (ix2 ⟨128 * (r.val / 128) + r.val % 128, _⟩ e)) (∑ l : Fin 2048, (X (ix2 ⟨128 * (r.val / 128) + r.val % 128, _⟩ l) : EReal) * X (ix2 ⟨128 * (r.val / 128) + r.val % 128, _⟩ l)) _ _ _ = _
  simp only [hr]

end Payloads

end Cert.Proof.InProj

end
-- ==== Proof.InProj.lean ====
module

public import proofs.«01_k».proof.Defs
public import proofs.«01_k».proof.Proof.Gen.Kernel6
public import proofs.«01_k».proof.Proof.InProjMath
public import Idealize.ShloMosaic.Lib.Quiescent

@[expose] public section

/-! The mixer's input product, of the normed and modulated input. -/

noncomputable section

namespace Cert.Proof.InProj

open Cert.Kernel6Ideal Cert.Kernel6Ideal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- The tile at a grid point's window. -/
def tileAt (t : Fin cfg0.N) : Fin 16 := ⟨if t.val = 0 then 0 else min (t.val / 9 + 1) 15, by split_ifs <;> omega⟩
/-- Row `i` of a tile, in the whole array. -/
def row (I : Fin 16) (i : Fin 1024) : Fin 16384 := ⟨1024 * I.val + i.val, by omega⟩
/-- Column `e` of a grid point's block of columns, in the whole array. -/
def col (t : Fin cfg0.N) (e : Fin 1536) : Fin 13824 := ⟨1536 * (t.val % 9) + e.val, by omega⟩

/-! What the host prepares. -/

/-- Array `main_v9` is an argument, reshaped. -/
theorem V_v9 (c : Dev nD) : V m c main_v9 = shapeCast S16384x2048 (m ((c : Thread nD τ).loc main_arg0)) shapeCasts_S8x2048x2048_S16384x2048 := by
  simp only [V, hostOps0, hostOps0_1, hostOps0_2, List.flatten_cons, List.flatten_nil, List.append_nil, List.cons_append, List.nil_append]
  after_results
  rfl

/-- Array `main_v10` is an argument, reshaped. -/
theorem V_v10 (c : Dev nD) : V m c main_v10 = shapeCast S1x2048 (m ((c : Thread nD τ).loc main_arg1)) shapeCasts_S2048_S1x2048 := by
  simp only [V, hostOps0, hostOps0_1, hostOps0_2, List.flatten_cons, List.flatten_nil, List.append_nil, List.cons_append, List.nil_append]
  after_results
  rfl

/-- Array `main_v11` is an argument, reshaped. -/
theorem V_v11 (c : Dev nD) : V m c main_v11 = shapeCast S8x1x2048 (m ((c : Thread nD τ).loc main_arg2)) shapeCasts_S8x2048_S8x1x2048 := by
  simp only [V, hostOps0, hostOps0_1, hostOps0_2, List.flatten_cons, List.flatten_nil, List.append_nil, List.cons_append, List.nil_append]
  after_results
  rfl

/-- Array `main_v12` is an argument, reshaped. -/
theorem V_v12 (c : Dev nD) : V m c main_v12 = shapeCast S8x1x2048 (m ((c : Thread nD τ).loc main_arg3)) shapeCasts_S8x2048_S8x1x2048 := by
  simp only [V, hostOps0, hostOps0_1, hostOps0_2, List.flatten_cons, List.flatten_nil, List.append_nil, List.cons_append, List.nil_append]
  after_results
  rfl

/-- The rows of all sequences, at an entry. -/
theorem cast9 (x : FVec Ideal S8x2048x2048 .f32) (r : Fin 16384) (k : Fin 2048) : (shapeCast S16384x2048 x shapeCasts_S8x2048x2048_S16384x2048 (ix2 r k) : EReal) = x (ix3 (batch r) (time r) k) := by
  pointwise
  rfl
/-- A vector as one row, at an entry. -/
theorem cast10 (x : FVec Ideal S2048 .f32) (k : Fin 2048) : (shapeCast S1x2048 x shapeCasts_S2048_S1x2048 (ix2 0 k) : EReal) = x (ix1 k) := by
  pointwise

/-- A vector for every sequence, at an entry. -/
theorem cast11 (x : FVec Ideal S8x2048 .f32) (b : Fin 8) (k : Fin 2048) : (shapeCast S8x1x2048 x shapeCasts_S8x2048_S8x1x2048 (ix3 b 0 k) : EReal) = x (ix2 b k) := by
  pointwise

/-- Array `main_v9` at an entry. -/
theorem V_v9_apply (c : Dev nD) (r : Fin 16384) (k : Fin 2048) : (V m c main_v9 (ix2 r k) : EReal) = m ((c : Thread nD τ).loc main_arg0) (ix3 (batch r) (time r) k) := by
  rw [V_v9]
  exact cast9 _ r k

/-- Array `main_v10` at an entry. -/
theorem V_v10_apply (c : Dev nD) (k : Fin 2048) : (V m c main_v10 (ix2 0 k) : EReal) = m ((c : Thread nD τ).loc main_arg1) (ix1 k) := by
  rw [V_v10]
  exact cast10 _ k

/-- Array `main_v11` at an entry. -/
theorem V_v11_apply (c : Dev nD) (b : Fin 8) (k : Fin 2048) : (V m c main_v11 (ix3 b 0 k) : EReal) = m ((c : Thread nD τ).loc main_arg2) (ix2 b k) := by
  rw [V_v11]
  exact cast11 _ b k

/-- Array `main_v12` at an entry. -/
theorem V_v12_apply (c : Dev nD) (b : Fin 8) (k : Fin 2048) : (V m c main_v12 (ix3 b 0 k) : EReal) = m ((c : Thread nD τ).loc main_arg3) (ix2 b k) := by
  rw [V_v12]
  exact cast11 _ b k

/-! The blocks a grid point reads, from the whole arguments. -/

/-- Window 0's block, at an entry. -/
theorem block0 (c : Dev nD) (t : Fin cfg0.N) (i : Fin 1024) (k : Fin 2048) :
    (iblk m c 0 t (ix2 i k) : EReal) = m ((c : Thread nD τ).loc main_arg0) (ix3 (batch (row (tileAt t) i)) (time (row (tileAt t) i)) k) := by
  blk_simp [iblk]
  refine (congrArg (V m c main_v9) ?_).trans (V_v9_apply m c (row (tileAt t) i) k)
  blk_ext [ind0, row, tileAt]

/-- Window 1's block, at an entry. -/
theorem block1 (c : Dev nD) (t : Fin cfg0.N) (k : Fin 2048) :
    (iblk m c 1 t (ix2 0 k) : EReal) = m ((c : Thread nD τ).loc main_arg1) (ix1 k) := by
  blk_simp [iblk]
  refine (congrArg (V m c main_v10) ?_).trans (V_v10_apply m c k)
  blk_ext [ind1]

/-- Window 2's block, at an entry. -/
theorem block2 (c : Dev nD) (t : Fin cfg0.N) (i : Fin 1024) (k : Fin 2048) :
    (iblk m c 2 t (ix3 0 0 k) : EReal) = m ((c : Thread nD τ).loc main_arg2) (ix2 (batch (row (tileAt t) i)) k) := by
  blk_simp [iblk]
  refine (congrArg (V m c main_v11) ?_).trans (V_v11_apply m c (batch (row (tileAt t) i)) k)
  blk_ext [ind2, row, batch, tileAt]

/-- Window 3's block, at an entry. -/
theorem block3 (c : Dev nD) (t : Fin cfg0.N) (i : Fin 1024) (k : Fin 2048) :
    (iblk m c 3 t (ix3 0 0 k) : EReal) = m ((c : Thread nD τ).loc main_arg3) (ix2 (batch (row (tileAt t) i)) k) := by
  blk_simp [iblk]
  refine (congrArg (V m c main_v12) ?_).trans (V_v12_apply m c (batch (row (tileAt t) i)) k)
  blk_ext [ind3, row, batch, tileAt]

/-- Window 4's block, at an entry. -/
theorem block4 (c : Dev nD) (t : Fin cfg0.N) (k : Fin 2048) (e : Fin 1536) :
    (iblk m c 4 t (ix3 0 k e) : EReal) = V m c main_v8 (ix3 0 k (col t e)) := by
  blk_simp [iblk]
  refine congrArg (V m c main_v8) ?_
  blk_ext [ind4, col]

/-- Window 5's block, at an entry. -/
theorem block5 (c : Dev nD) (t : Fin cfg0.N) (e : Fin 1536) :
    (iblk m c 5 t (ix2 0 e) : EReal) = V m c main_v2 (ix2 0 (col t e)) := by
  blk_simp [iblk]
  refine congrArg (V m c main_v2) ?_
  blk_ext [ind5, col]

/-- The weight as the kernel is given it: its columns laid out, with zeros behind. -/
def wAll (w : FVec Ideal S2x2048x13360 .f32) : FVec Ideal S2x2048x13824 .bf16 :=
  truncf .bf16 (concatenate S2x2048x13824 2 [
    ⟨S2x2048x5120, extractStridedSlice S2x2048x5120 ![0, 0, 0] w slices_S2x2048x13360_S2x2048x5120_0_0_0⟩,
    ⟨S2x2048x8192, extractStridedSlice S2x2048x8192 ![0, 0, 5168] w slices_S2x2048x13360_S2x2048x8192_0_0_5168⟩,
    ⟨S2x2048x512, pad S2x2048x512 ![0, 0, 0] ![0, 0, 464] ![0, 0, 0] (extractStridedSlice S2x2048x48 ![0, 0, 5120] w slices_S2x2048x13360_S2x2048x48_0_0_5120)
      (sitofp (F := Ideal) .f32 (constantI S_ 32 0#32)) pads_S2x2048x48_S2x2048x512_000_000_04640 h_S_⟩]
    concatenates_S2x2048x5120_S2x2048x8192_S2x2048x512_S2x2048x13824_d2) bitsLt_bf16_f32

/-- Array `main_v8` is the laid-out weight. -/
theorem V_v8 (c : Dev nD) : V m c main_v8 = wAll (m ((c : Thread nD τ).loc main_arg4)) := by
  simp only [V, hostOps0, hostOps0_1, hostOps0_2, List.flatten_cons, List.flatten_nil, List.append_nil, List.cons_append, List.nil_append]
  after_results
  rfl

/-- A column of the weight as the kernel is given it. -/
def wForm (w : Fin 13360 → EReal) (n : Fin 13824) : EReal :=
  if h : n.val < 5120 then w ⟨n.val, by omega⟩
  else if h : n.val < 13312 then w ⟨n.val + 48, by omega⟩
  else if h : n.val < 13360 then w ⟨n.val - 8192, by omega⟩
  else 0

/-- The laid-out weight at an entry. -/
theorem wAll_apply (w : FVec Ideal S2x2048x13360 .f32) (k : Fin 2048) (n : Fin 13824) :
    (wAll w (ix3 0 k n) : EReal) = wForm (fun j => w (ix3 0 k j)) n := by
  pointwise [wAll]
  unfold wForm
  have hn := n.isLt
  by_cases h2 : n.val < 5120
  · simp only [h2, ↓reduceDIte, ↓reduceIte]
  by_cases h3 : n.val < 13312
  · have k3 : n.val - 5120 < 8192 := by omega
    simp only [h2, h3, k3, ↓reduceDIte, ↓reduceIte]
    exact congrArg (fun j => (w (ix3 0 k j) : EReal)) (Fin.ext (by dsimp only; omega))
  have k3 : ¬ n.val - 5120 < 8192 := by omega
  by_cases h4 : n.val < 13360
  · have k4 : n.val - 5120 - 8192 < 48 := by omega
    simp only [h2, h3, k3, h4, k4, ↓reduceDIte, ↓reduceIte]
    exact congrArg (fun j => (w (ix3 0 k j) : EReal)) (Fin.ext (by dsimp only; omega))
  have k4 : ¬ n.val - 5120 - 8192 < 48 := by clear h2 h3 k3 hn; omega
  simp only [h2, h3, k3, h4, k4, ↓reduceDIte, ↓reduceIte]
  show (((0#32).toInt : ℝ) : EReal) = 0
  simp

/-- The scales as the kernel is given them. -/
theorem scale_apply (c : Dev nD) (n : Fin 13824) : (V m c main_v2 (ix2 0 n) : EReal) = if n.val < 2048 then qScale else 1 := by
  simp only [V, hostOps0, hostOps0_1, hostOps0_2, List.flatten_cons, List.flatten_nil, List.append_nil, List.cons_append, List.nil_append]
  entry_read
  pointwise
  unfold qScale
  split_ifs <;> rfl

/-- The product with the laid-out weight, scaled, is the product laid out. -/
theorem cols_eq (h : Fin 2048 → EReal) (w : Fin 2048 → Fin 13360 → EReal) (n : Fin 13824) :
    (∑ k : Fin 2048, h k * wForm (w k) n) * (if n.val < 2048 then qScale else 1) = outForm (fun j => ∑ k : Fin 2048, h k * w k j) n := by
  unfold wForm outForm
  by_cases h1 : n.val < 2048
  · have h2 : n.val < 5120 := by omega
    simp only [h1, h2, ↓reduceDIte, ↓reduceIte]
  by_cases h2 : n.val < 5120
  · simp only [h1, h2, ↓reduceDIte, ↓reduceIte, mul_one]
  by_cases h3 : n.val < 13312
  · simp only [h1, h2, h3, ↓reduceDIte, ↓reduceIte, mul_one]
  by_cases h4 : n.val < 13360
  · simp only [h1, h2, h3, h4, ↓reduceDIte, ↓reduceIte, mul_one]
  simp only [h1, h2, h3, h4, ↓reduceDIte, ↓reduceIte, mul_one, mul_zero, Finset.sum_const_zero]

/-- A tile normed and modulated is the reference's rows. -/
theorem cur_apply (c : Dev nD) : ∀ (k : ℕ) (hk : k < 16) (r : Fin 1024) (e : Fin 2048),
    (cur m c k r e : EReal) = refH (m ((c : Thread nD τ).loc main_arg0)) (m ((c : Thread nD τ).loc main_arg1)) (m ((c : Thread nD τ).loc main_arg2)) (m ((c : Thread nD τ).loc main_arg3)) (ix3 (batch (row ⟨k, hk⟩ r)) (time (row ⟨k, hk⟩ r)) e)
  | 0, hk, r, e => by
    have ht : tileAt pt0 = ⟨0, hk⟩ := Fin.ext rfl
    refine (firstTile_apply _ _ _ _ r e).trans (.trans ?_ (refH_apply _ _ _ _ _ _ _).symm)
    simp only [block0 m c pt0, block1 m c pt0, block2 m c pt0 r, block3 m c pt0 r, ht]
  | k + 1, hk, r, e => by
    have ht : tileAt (pt k) = ⟨k + 1, hk⟩ := Fin.ext (by
      show (if (9 * k + 1) % 144 = 0 then 0 else min ((9 * k + 1) % 144 / 9 + 1) 15) = k + 1
      have h1 : (9 * k + 1) % 144 = 9 * k + 1 := Nat.mod_eq_of_lt (by omega)
      rw [h1, if_neg (by omega)]; omega)
    refine (nextTile_apply _ _ _ _ r e).trans (.trans ?_ (refH_apply _ _ _ _ _ _ _).symm)
    simp only [block0 m c (pt k), block1 m c (pt k), block2 m c (pt k) r, block3 m c (pt k) r, ht]

/-- The tile of a grid point. -/
def tileOut (t : Fin cfg0.N) : Fin 16 := ⟨t.val / 9, by have := lt_144 t; omega⟩

/-- The kernel's block at a grid point is the reference's result there. -/
theorem point_eq (c : Dev nD) (t : Fin cfg0.N) (i : Fin 1024) (e : Fin 1536) :
    (k0_pay4 (F := Ideal) (tileOf (cur m c (t.val / 9))) (iblk m c 4 t) (iblk m c 5 t) (ix2 i e) : EReal)
      = refOut (m ((c : Thread nD τ).loc main_arg0)) (m ((c : Thread nD τ).loc main_arg1)) (m ((c : Thread nD τ).loc main_arg2)) (m ((c : Thread nD τ).loc main_arg3)) (m ((c : Thread nD τ).loc main_arg4)) (ix2 (row (tileOut t) i) (col t e)) := by
  refine (pay4_apply _ _ _ i e).trans (.trans ?_ (refCols_apply _ _ _).symm)
  refine .trans ?_ ((cols_eq (fun k => refH (m ((c : Thread nD τ).loc main_arg0)) (m ((c : Thread nD τ).loc main_arg1)) (m ((c : Thread nD τ).loc main_arg2)) (m ((c : Thread nD τ).loc main_arg3)) (ix3 (batch (row (tileOut t) i)) (time (row (tileOut t) i)) k)) (fun k j => (m ((c : Thread nD τ).loc main_arg4)) (ix3 0 k j)) (col t e)).trans
    (congrArg (fun z => outForm z (col t e)) (funext fun j => (refZ_apply _ _ _ j).symm)))
  refine congrArg₂ _ (Finset.sum_congr rfl fun k _ => congrArg₂ _ (cur_apply m c (t.val / 9) (tileOut t).isLt i k) ?_) ((block5 m c t e).trans (scale_apply m c (col t e)))
  exact (block4 m c t k e).trans ((congrFun (V_v8 m c) _).trans (wAll_apply _ k (col t e)))

/-- The output array after all grid points is the reference's result on the same arguments. -/
theorem out_eq (c : Dev nD) : (dats m 0 c).arrAt 6 cfg0.N = refOut (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after_6]
  obtain ⟨i, e, rfl⟩ : ∃ (i : Fin 1024) (e : Fin 1536), y = ix2 i e := ⟨y 0, y 1, by funext a; fin_cases a <;> rfl⟩
  refine (point_eq m c t i e).trans (congrArg _ ?_)
  blk_ext [ind6, row, col, tileOut]

/-- Every run ends with the reference's result in the output array and the arguments unchanged. -/
theorem run_value :
    θ_run (defs (F := Ideal)) (onTc (τ := τ) (main (F := Ideal))) ⟨m, fun _ => 0, ρ⟩ (fun r => ∀ c : Dev nD,
      r.2.mem ((c.tc : Thread nD τ).loc main_v13) = refOut (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 6).trans (out_eq m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩)
    (run_main m ρ)

/-- The printed kernel and its idealization have the same body table. -/
theorem tables₀ {F : FTy → Type} [FloatOps F] : (Cert.Kernel6.defs₀ (F := F)) = defs₀ := by
  unfold Cert.Kernel6.defs₀ defs₀
  refine congrArg Defs.onTc ?_
  funext l a
  match l, a with
  | 0, (t, s) => rfl
  | ⟨_ + 1, h⟩, _ => exact absurd h (Nat.not_lt.2 (Nat.le_add_left _ _))

/-- The same table with the pipeline's entries. -/
theorem tables {F : FTy → Type} [FloatOps F] : (Cert.Kernel6.defs (F := F)) = defs := by
  unfold Cert.Kernel6.defs defs
  rw [tables₀]
  rfl

/-- The kernel as printed: every run ends, leaves its arguments as they were, and ends with every semaphore at zero. -/
theorem frame_kernel : Cert.quiescent_Kernel6 := fun m ρ _ => by
  rw [tables]
  exact (θ_run defs _ _).mono (fun _ h => h) (frame_any (F := Bits) m ρ)

/-- The same of the kernel read over the extended reals. -/
theorem frame_kernelIdeal : Cert.quiescent_Kernel6Ideal := fun m ρ _ => frame_any (F := Ideal) m ρ

/-- The same of the reference, which has no semaphore at all. -/
theorem frame_reference : Cert.quiescent_Reference6Ideal := fun m ρ _ =>
  (θ_run Cert.Reference6Ideal.defs _ _).mono (fun _ h => ⟨fun c => (h c).2, sem_eq_zero_of_no_sems rfl _⟩)
    (Cert.Reference6Ideal.Value.run (F := Ideal) m ρ)

/-- Over the extended reals the kernel and the reference end with one and the same result, from the same arguments. -/
theorem algebraic : Cert.algebraic_Kernel6Ideal_Reference6Ideal := fun m g m' g' _ hm => by
  refine ⟨fun c => refOut (m ((c : Thread nD τ).loc main_arg0)) (m ((c : Thread nD τ).loc main_arg1)) (m ((c : Thread nD τ).loc main_arg2)) (m ((c : Thread nD τ).loc main_arg3)) (m ((c : Thread nD τ).loc main_arg4)),
    run_value m g,
    (θ_run Cert.Reference6Ideal.defs _ _).mono (fun r h c => ⟨(h c).1.trans ((res_eq m' c).trans ?_), (h c).2⟩) (Cert.Reference6Ideal.Value.run (F := Ideal) m' g')⟩
  obtain ⟨h0, h1, h2, h3, h4⟩ := hm c
  rw [h0, h1, h2, h3, h4]

end Cert.Proof.InProj

end
-- ==== Proof.FfnUpLoop.lean ====
module

public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import Idealize.ShloMosaic.Lib.Pipeline.FrameBody
public import Idealize.ShloMosaic.Lib.WritesUnit
public import Idealize.ShloMosaic.Lib.Tactic
public import Idealize.ShloMosaic.Lib.Pointwise

@[expose] public section

noncomputable section

namespace Cert.Proof.FfnUp

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Where the body loads and stores -/

/-- Offset 1 of the body, in closed form. -/
theorem off1_eq : ∀ k : Fin k0_t1_loop.trips, k0_off1 k = ![16 * k.val, 0] := by decide +kernel
/-- Offset 2 of the body, in closed form. -/
theorem off2_eq : ∀ k : Fin k0_t1_loop.trips, k0_off2 k = ![16 * k.val, 0] := by decide +kernel
/-- Offset 4 of the body, in closed form. -/
theorem off4_eq : ∀ k : Fin k0_t1_loop.trips, k0_off4 k = ![0, 16 + 16 * k.val, 0] := by decide +kernel
/-- Offset 5 of the body, in closed form. -/
theorem off5_eq : ∀ i : grid0.Coords, k0_off5 i = ![(i 0).val % 2, 0, 0] := by decide +kernel
/-- Offset 6 of the body, in closed form. -/
theorem off6_eq : ∀ i : grid0.Coords, k0_off6 i = ![min (160 * ((i 1).val - 1)) 864, 0] := by decide +kernel
/-- Offset 7 of the body, in closed form. -/
theorem off7_eq : ∀ i : grid0.Coords, k0_off7 i = ![1 - (i 0).val % 2, 16 + min (160 * ((i 1).val - 1)) 864, 0] := by decide +kernel
/-- Offset 8 of the body, in closed form. -/
theorem off8_eq : ∀ i : grid0.Coords, k0_off8 i = ![(i 0).val % 2, 1024, 0] := by decide +kernel
/-- Offset 9 of the body, in closed form. -/
theorem off9_eq : ∀ i : grid0.Coords, k0_off9 i = ![1 - (i 0).val % 2, 0, 0] := by decide +kernel
/-- The body fills the first tile at the first grid point alone. -/
theorem cond1_iff : ∀ i : grid0.Coords, k0_cond1 i = 1#1 ↔ (i 0).val = 0 ∧ (i 1).val = 0 := by decide +kernel

/-! ## The rows of the normed tile -/

/-- Sixteen rows of a tile. -/
def rows16 (X : FVec F S1024x2048 .f32) (k : Fin 64) : FVec F S16x2048 .f32 :=
  fun y => X (ix2 ⟨16 * k.val + (y 0).val, by have h : (y 0).val < 16 := (y 0).isLt; omega⟩ (y 1))

/-- Sixteen rows of the tile's reciprocal roots. -/
def inv16 (Y : FVec F S1024x128 .f32) (k : Fin 64) : FVec F S16x128 .f32 :=
  fun y => Y (ix2 ⟨16 * k.val + (y 0).val, by have h : (y 0).val < 16 := (y 0).isLt; omega⟩ (y 1))

/-- A hundred and sixty rows of a tile, from a row on. -/
def rows160 (X : FVec F S1024x2048 .f32) (o : ℕ) (ho : o ≤ 864) : FVec F S160x2048 .f32 :=
  fun y => X (ix2 ⟨o + (y 0).val, by have h : (y 0).val < 160 := (y 0).isLt; omega⟩ (y 1))

/-- The first tile normed and modulated, as the loop at the first grid point computes it. -/
def firstTile (X : FVec F S1024x2048 .f32) (g : FVec F S1x2048 .f32) (sc sh : FVec F S1x1x2048 .f32) (r : Fin 1024) (e : Fin 2048) : F .bf16 :=
  k0_pay5 g sc sh (inv16 (k0_pay4 X) ⟨r.val / 16, by omega⟩) (rows16 X ⟨r.val / 16, by omega⟩) (ix3 0 ⟨r.val % 16, by omega⟩ e)

/-- The row from which the hundred and sixty rows that settle a row are prepared. -/
def start (r : ℕ) : ℕ := if 864 ≤ r then 864 else 160 * (r / 160)

/-- A row's first row leaves room for a whole group. -/
theorem start_le (r : ℕ) : start r ≤ 864 := by unfold start; split_ifs <;> omega
/-- A row is within its group. -/
theorem start_lt (r : ℕ) (h : r < 1024) : r - start r < 160 := by unfold start; split_ifs <;> omega

/-- A later tile normed and modulated, a hundred and sixty rows at a time. -/
def nextTile (X : FVec F S1024x2048 .f32) (g : FVec F S1x2048 .f32) (sc sh : FVec F S1x1x2048 .f32) (r : Fin 1024) (e : Fin 2048) : F .bf16 :=
  k0_pay1 (k0_pay12 (rows160 X (start r.val) (start_le r.val)) g sc) sh (ix3 0 ⟨r.val - start r.val, start_lt r.val r.isLt⟩ e)

/-- The first tile behind sixteen rows of zeros. -/
def firstRows (X : FVec F S1024x2048 .f32) (g : FVec F S1x2048 .f32) (sc sh : FVec F S1x1x2048 .f32) (r : Fin 1040) (e : Fin 2048) : F .bf16 :=
  if r.val < 16 then k0_pay3 (F := F) (ix3 0 ⟨r.val % 16, by omega⟩ e) else firstTile X g sc sh ⟨r.val - 16, by omega⟩ e

/-- The last sixteen rows of a tile. -/
def haloOf (P : Fin 1040 → Fin 2048 → F .bf16) : FVec F S1x16x2048 .bf16 :=
  fun y => P ⟨1024 + (y 1).val, by have h : (y 1).val < 16 := (y 1).isLt; omega⟩ (y 2)

/-- A later tile behind the last sixteen rows of the one before it. -/
def laterRows (P : Fin 1040 → Fin 2048 → F .bf16) (X : FVec F S1024x2048 .f32) (g : FVec F S1x2048 .f32) (sc sh : FVec F S1x1x2048 .f32) (r : Fin 1040) (e : Fin 2048) : F .bf16 :=
  if r.val < 16 then k0_pay2 (haloOf P) (ix3 0 ⟨r.val % 16, by omega⟩ e) else nextTile X g sc sh ⟨r.val - 16, by omega⟩ e

/-! ## Loads of rows -/

/-- A load of a whole window, at offset zero, is what the window holds. -/
theorem load_at {s : Shape} {e : EltTy} (v : View sig .tc .vmem s e) (f : v.ty.Contents (Elt F)) (off : Fin s.rank → ℕ) (size : Fin s.rank → ℕ)
    (inb : ∀ a, off a + size a ≤ s.size a) (x : (Rect.unit off size inb).shape.Idx) (y : s.Idx) (h : ∀ a, (y a).val = off a + (x a).val) :
    View.readAt (Elt F) v (Rect.unit off size inb).toLoadRect f x = v.read (Elt F) f y := by
  rw [View.readAt_apply]
  refine congrArg (v.read (Elt F) f) (funext fun a => Fin.ext ?_)
  show off a + 1 * (x a).val = (y a).val
  rw [h a]; omega

/-- The loop's load of sixteen rows of the tile. -/
theorem load_rows16 (v : View sig .tc .vmem S1024x2048 .f32) (f : v.ty.Contents (Elt F)) (X : FVec F S1024x2048 .f32) (h : v.read (Elt F) f = X)
    (k : Fin 64) (off : Fin 2 → ℕ) (ho : off = ![16 * k.val, 0]) (inb : ∀ a, off a + S16x2048.size a ≤ S1024x2048.size a) :
    View.readAt (Elt F) v (Rect.unit (s := S1024x2048) off S16x2048.size inb).toLoadRect f = rows16 X k := by
  subst ho; subst h
  funext x
  exact load_at v f _ _ inb x _ (fun a => match a with | ⟨0, _⟩ => rfl | ⟨1, _⟩ => (Nat.zero_add _).symm)

/-- The loop's load of sixteen rows of the reciprocal roots. -/
theorem load_inv16 (v : View sig .tc .vmem S1024x128 .f32) (f : v.ty.Contents (Elt F)) (Y : FVec F S1024x128 .f32) (h : v.read (Elt F) f = Y)
    (k : Fin 64) (off : Fin 2 → ℕ) (ho : off = ![16 * k.val, 0]) (inb : ∀ a, off a + S16x128.size a ≤ S1024x128.size a) :
    View.readAt (Elt F) v (Rect.unit (s := S1024x128) off S16x128.size inb).toLoadRect f = inv16 Y k := by
  subst ho; subst h
  funext x
  exact load_at v f _ _ inb x _ (fun a => match a with | ⟨0, _⟩ => rfl | ⟨1, _⟩ => (Nat.zero_add _).symm)

/-- The body's load of a hundred and sixty rows of the tile. -/
theorem load_rows160 (v : View sig .tc .vmem S1024x2048 .f32) (f : v.ty.Contents (Elt F)) (X : FVec F S1024x2048 .f32) (h : v.read (Elt F) f = X)
    (o : ℕ) (h864 : o ≤ 864) (off : Fin 2 → ℕ) (ho : off = ![o, 0]) (inb : ∀ a, off a + S160x2048.size a ≤ S1024x2048.size a) :
    View.readAt (Elt F) v (Rect.unit (s := S1024x2048) off S160x2048.size inb).toLoadRect f = rows160 X o h864 := by
  subst ho; subst h
  funext x
  exact load_at v f _ _ inb x _ (fun a => match a with | ⟨0, _⟩ => rfl | ⟨1, _⟩ => (Nat.zero_add _).symm)

/-! ## The loop at the first grid point -/

/-- The slot's rows from one to another hold a tile's. -/
def Rows (v : View sig .tc .vmem S2x1040x2048 .bf16) (f : v.ty.Contents (Elt F)) (s : Fin 2) (lo hi : ℕ) (T : Fin 1040 → Fin 2048 → F .bf16) : Prop :=
  ∀ r : Fin 1040, lo ≤ r.val → r.val < hi → ∀ e : Fin 2048, v.read (Elt F) f (ix3 s r e) = T r e

/-- A store of sixteen rows of the first tile carries the rows that hold it sixteen further. -/
theorem rows_step (v : View sig .tc .vmem S2x1040x2048 .bf16) (f : v.ty.Contents (Elt F)) (T : Fin 1040 → Fin 2048 → F .bf16) (k : Fin 64)
    (off : Fin 3 → ℕ) (ho : off = ![0, 16 + 16 * k.val, 0]) (inb : ∀ a, off a + S1x16x2048.size a ≤ S2x1040x2048.size a) (w : FVec F S1x16x2048 .bf16)
    (hw : ∀ (q : Fin 16) (e : Fin 2048), w (ix3 0 q e) = T ⟨16 + 16 * k.val + q.val, by omega⟩ e) (h : Rows v f 0 0 (16 + 16 * k.val) T) :
    Rows v (v.writes (Elt F) f [⟨Rect.unit (s := S2x1040x2048) off S1x16x2048.size inb, w⟩]) 0 0 (16 + 16 * (k.val + 1)) T := by
  intro r _ hr e
  by_cases hk : r.val < 16 + 16 * k.val
  · rw [View.read_writes_cons_unit_of_not_mem v f inb w [] (ix3 0 r e) ho 1 (Or.inl hk)]
    exact h r (Nat.zero_le _) hk e
  · refine (View.read_writes_cons_unit_of_mem v f inb w [] (ix3 0 r e) (ix3 0 (⟨r.val - (16 + 16 * k.val), by omega⟩ : Fin 16) e) ho
      (fun a => match a with | ⟨0, _⟩ => rfl | ⟨1, _⟩ => by show r.val = 16 + 16 * k.val + (r.val - (16 + 16 * k.val)); omega | ⟨2, _⟩ => (Nat.zero_add _).symm)).trans ?_
    rw [hw]
    exact congrArg (fun q => T q e) (Fin.ext (by show 16 + 16 * k.val + (r.val - (16 + 16 * k.val)) = r.val; omega))

/-- The loop's invariant: the tile and the reciprocal roots as they are read, and the slot filled up to the trip's row. -/
def invAt (c : Dev nD) (arg2 : Memref sig .tc .vmem S1024x2048 .f32) (arg11 : Memref sig .tc .vmem S2x1040x2048 .bf16) (arg12 : Memref sig .tc .vmem S1024x128 .f32)
    (f2 : Buf (Elt F) (arg2.view.loc (c : Thread nD τ))) (f12 : Buf (Elt F) (arg12.view.loc (c : Thread nD τ))) (T : Fin 1040 → Fin 2048 → F .bf16) (k : ℕ) (_ : Unit) : sProp 𝕄 :=
  iprop((arg2.view.loc (c : Thread nD τ) ↦[arg2.view.set]{fullShare} f2) ∗ (arg12.view.loc (c : Thread nD τ) ↦[arg12.view.set]{fullShare} f12)
    ∗ (∃ f11, (arg11.view.loc (c : Thread nD τ) ↦[arg11.view.set]{fullShare} f11) ∗ ⌜Rows arg11.view f11 0 0 (16 + 16 * k) T⌝))

set_option sl_exec.squeezeSlice true in
set_option maxHeartbeats 400000 in
/-- One trip carries the invariant to the next trip. -/
theorem inv_step (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x768 .bf16) (harg6 : arg6.IsWhole) (arg7 : Memref sig .tc .vmem S1x2048x768 .bf16) (harg7 : arg7.IsWhole) (arg8 : Memref sig .tc .vmem S3x768 .f32) (harg8 : arg8.IsWhole) (arg9 : Memref sig .tc .vmem S1x768 .f32) (harg9 : arg9.IsWhole) (arg10 : Memref sig .tc .vmem S1024x768 .bf16) (harg10 : arg10.IsWhole) (arg11 : Memref sig .tc .vmem S2x1040x2048 .bf16) (harg11 : arg11.IsWhole) (arg12 : Memref sig .tc .vmem S1024x128 .f32) (harg12 : arg12.IsWhole) (k0_h1 : k0_cond1 i = 1#1)
    (f2 : Buf (Elt F) (arg2.view.loc (c : Thread nD τ))) (f12 : Buf (Elt F) (arg12.view.loc (c : Thread nD τ)))
    (X : FVec F S1024x2048 .f32) (g : FVec F S1x2048 .f32) (sc sh : FVec F S1x1x2048 .f32)
    (h2 : arg2.view.read (Elt F) f2 = X) (h12 : arg12.view.read (Elt F) f12 = k0_pay4 X) (k : Fin k0_t1_loop.trips) (acc : Unit) :
    invAt c arg2 arg11 arg12 f2 f12 (firstRows X g sc sh) k acc ⊢ wp (M := 𝕄) frame (wpE (defs₀ (F := F)) Variants.none (c : Thread nD τ) none) Set.univ
      (k0_t1_body i arg2 harg2 arg3 harg3 arg4 harg4 arg5 harg5 arg6 harg6 arg7 harg7 arg8 harg8 arg9 harg9 arg10 harg10 arg11 harg11 arg12 harg12 k0_h1 g sc sh k acc) (invAt c arg2 arg11 arg12 f2 f12 (firstRows X g sc sh) (k.val + 1)) := by
  have hk : k.val < 64 := Nat.lt_of_lt_of_le k.isLt k0_t1_abs.2.1
  unfold invAt
  unfold k0_t1_body
  iintro ⟨H2, H12, ⟨%f11, H11, %hf⟩⟩
  sl_exec
  sl_step
  isplitl [H2]
  · iexact H2
  isplitl [H12]
  · iexact H12
  iexists _
  isplitl [H11]
  · iexact H11
  ipureintro
  refine rows_step arg11.view f11 (firstRows X g sc sh) ⟨k.val, hk⟩ (k0_off4 k) (off4_eq k) (k0_off4_inb i k k0_h1) _ ?_ hf
  intro q e
  have e1 := load_inv16 arg12.view f12 (k0_pay4 X) h12 ⟨k.val, hk⟩ (k0_off1 k) (off1_eq k) (k0_off1_inb i k k0_h1)
  have e2 := load_rows16 arg2.view f2 X h2 ⟨k.val, hk⟩ (k0_off2 k) (off2_eq k) (k0_off2_inb i k k0_h1)
  unfold firstRows firstTile
  have h0 : ¬ 16 + 16 * k.val + q.val < 16 := by omega
  have hq : (16 + 16 * k.val + q.val - 16) / 16 = k.val := by omega
  have hq' : (16 + 16 * k.val + q.val - 16) % 16 = q.val := by omega
  simp only [h0, hq, hq', ↓reduceIte]
  refine congrFun ?_ _
  exact congrArg₂ (k0_pay5 g sc sh) e1 e2

/-- The loop at the head of a program: from the tile, its reciprocal roots and the slot at any contents, the program
goes on with the slot holding the whole first tile. -/
theorem wp_fill_loop (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x768 .bf16) (harg6 : arg6.IsWhole) (arg7 : Memref sig .tc .vmem S1x2048x768 .bf16) (harg7 : arg7.IsWhole) (arg8 : Memref sig .tc .vmem S3x768 .f32) (harg8 : arg8.IsWhole) (arg9 : Memref sig .tc .vmem S1x768 .f32) (harg9 : arg9.IsWhole) (arg10 : Memref sig .tc .vmem S1024x768 .bf16) (harg10 : arg10.IsWhole) (arg11 : Memref sig .tc .vmem S2x1040x2048 .bf16) (harg11 : arg11.IsWhole) (arg12 : Memref sig .tc .vmem S1024x128 .f32) (harg12 : arg12.IsWhole) (k0_h1 : k0_cond1 i = 1#1)
    (f2 : Buf (Elt F) (arg2.view.loc (c : Thread nD τ))) (f11 : Buf (Elt F) (arg11.view.loc (c : Thread nD τ))) (f12 : Buf (Elt F) (arg12.view.loc (c : Thread nD τ)))
    (X : FVec F S1024x2048 .f32) (g : FVec F S1x2048 .f32) (sc sh : FVec F S1x1x2048 .f32)
    (h2 : arg2.view.read (Elt F) f2 = X) (h12 : arg12.view.read (Elt F) f12 = k0_pay4 X)
    (h11 : Rows arg11.view f11 0 0 16 (firstRows X g sc sh)) {β : Type} {kk : Unit → Prog (TpuEff nD τ sig (Elt F) Λ₀ .tc) β} {Q : β → sProp 𝕄} :
    iprop((arg2.view.loc (c : Thread nD τ) ↦[arg2.view.set]{fullShare} f2) ∗ (arg12.view.loc (c : Thread nD τ) ↦[arg12.view.set]{fullShare} f12)
      ∗ (arg11.view.loc (c : Thread nD τ) ↦[arg11.view.set]{fullShare} f11)
      ∗ (∀ f : Buf (Elt F) (arg11.view.loc (c : Thread nD τ)), ⌜Rows arg11.view f 0 0 1040 (firstRows X g sc sh)⌝
          -∗ (arg2.view.loc (c : Thread nD τ) ↦[arg2.view.set]{fullShare} f2) -∗ (arg12.view.loc (c : Thread nD τ) ↦[arg12.view.set]{fullShare} f12)
          -∗ (arg11.view.loc (c : Thread nD τ) ↦[arg11.view.set]{fullShare} f)
          -∗ wp frame (wpE (defs₀ (F := F)) Variants.none (c : Thread nD τ) none) Set.univ (kk ()) Q))
      ⊢ wp frame (wpE (defs₀ (F := F)) Variants.none (c : Thread nD τ) none) Set.univ
        (Scf.Loop.for k0_t1_loop (k0_t1_ok i k0_h1) ⟨⟩ (k0_t1_body i arg2 harg2 arg3 harg3 arg4 harg4 arg5 harg5 arg6 harg6 arg7 harg7 arg8 harg8 arg9 harg9 arg10 harg10 arg11 harg11 arg12 harg12 k0_h1 g sc sh) >>= kk) Q := by
  iintro ⟨H2, H12, H11, Hk⟩
  iapply (Scf.wp_for_bind (M := 𝕄) frame (wpE (defs₀ (F := F)) Variants.none (c : Thread nD τ) none) Set.univ
    k0_t1_loop.lb k0_t1_loop.ub k0_t1_loop.st (k0_t1_ok i k0_h1) () _
    (invAt c arg2 arg11 arg12 f2 f12 (firstRows X g sc sh)) (inv_step c i arg2 harg2 arg3 harg3 arg4 harg4 arg5 harg5 arg6 harg6 arg7 harg7 arg8 harg8 arg9 harg9 arg10 harg10 arg11 harg11 arg12 harg12 k0_h1 f2 f12 X g sc sh h2 h12)) $$ [H2 H12 H11]
  · unfold invAt
    isplitl [H2]
    · iexact H2
    isplitl [H12]
    · iexact H12
    iexists _
    isplitl [H11]
    · iexact H11
    ipureintro
    exact h11
  unfold invAt
  iintro %acc ⟨H2, H12, ⟨%f, H11, %hf⟩⟩
  ispecialize Hk $$ %f
  iapply Hk $$ [] [H2] [H12] [H11]
  · ipureintro; exact hf
  · iexact H2
  · iexact H12
  iexact H11

end Cert.Proof.FfnUp

end
-- ==== Proof.FfnUpRun.lean ====
module

public import proofs.«01_k».proof.Proof.FfnUpLoop

@[expose] public section

noncomputable section

namespace Cert.Proof.FfnUp

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- An offset of the body has a closed form. -/
instance (i : grid0.Coords) : ClosedOff (k0_off7 i) := ⟨_, off7_eq i⟩
/-- An offset of the body has a closed form. -/
instance (i : grid0.Coords) : ClosedOff (k0_off8 i) := ⟨_, off8_eq i⟩
/-- An offset of the body has a closed form. -/
instance (i : grid0.Coords) : ClosedOff (k0_off9 i) := ⟨_, off9_eq i⟩
/-- An offset of the body has a closed form. -/
instance (i : grid0.Coords) : ClosedOff (k0_off5 i) := ⟨_, off5_eq i⟩

/-- The slot of the tile being multiplied. -/
def slot (i : grid0.Coords) : Fin 2 := ⟨(i 0).val % 2, Nat.mod_lt _ (by decide)⟩

/-- The slot of the tile being prepared. -/
def other (i : grid0.Coords) : Fin 2 := ⟨1 - (i 0).val % 2, by omega⟩

/-- The rows of the next tile that are settled before a column of blocks. -/
def ready (j : ℕ) : ℕ := if 8 ≤ j then 1024 else min (160 * (j - 1)) 864

/-- A tile of rows as the block the products read. -/
def tileOf (T : Fin 1040 → Fin 2048 → F .bf16) : FVec F S1x1040x2048 .bf16 := fun y => T (y 1) (y 2)

/-- One row of the taps. -/
def tap (w : FVec F S3x768 .f32) (k : Fin 3) : FVec F S1x768 .f32 := fun y => w (ix2 k (y 1))

/-- The divisor by which a grid point's first row is placed in its sequence. -/
def seqLen : BitVec 32 := Scalar.select (Scalar.cmpi .eq 2048#32 0#32) 1#32 2048#32

/-- The remainder that places a grid point's first row in its sequence. -/
def seqPos (i : grid0.Coords) : BitVec 32 := Scalar.remsi (Scalar.muli (BitVec.ofNat 32 (i 0).val) 1024#32) seqLen

/-- The block a grid point computes, from the tile its slot holds, the two blocks of the weight, the taps and the bias. -/
def outBlock (i : grid0.Coords) (T : Fin 1040 → Fin 2048 → F .bf16) (wg wv : FVec F S1x2048x768 .bf16) (cw : FVec F S3x768 .f32) (cb : FVec F S1x768 .f32) : FVec F S1024x768 .bf16 :=
  k0_pay11 (k0_pay8 (tileOf T) wv)
    (k0_pay9 (k0_pay7 (tileOf T) wg) seqLen (seqPos i) (Scalar.cmpi .ne (seqPos i) 0#32) (Scalar.cmpi .slt (seqPos i) 0#32) 0#32 cb (tap cw 0) (tap cw 1) (tap cw 2))
    (k0_pay10 (k0_pay7 (tileOf T) wg) seqLen (seqPos i) (Scalar.cmpi .ne (seqPos i) 0#32) (Scalar.cmpi .slt (seqPos i) 0#32) 0#32 cb (tap cw 0) (tap cw 1) (tap cw 2))

/-- The products read the tile their slot holds. -/
theorem load_tile (v : View sig .tc .vmem S2x1040x2048 .bf16) (f : v.ty.Contents (Elt F)) (p : Fin 2) (T : Fin 1040 → Fin 2048 → F .bf16)
    (h : Rows v f p 0 1040 T) (off : Fin 3 → ℕ) (ho : off = ![p.val, 0, 0]) (inb : ∀ a, off a + S1x1040x2048.size a ≤ S2x1040x2048.size a) :
    View.readAt (Elt F) v (Rect.unit (s := S2x1040x2048) off S1x1040x2048.size inb).toLoadRect f = tileOf T := by
  subst ho
  funext x
  have h0 : (x 0).val < 1 := (x 0).isLt
  exact (load_at v f _ _ inb x (ix3 p (x 1) (x 2)) (fun a => match a with
    | ⟨0, _⟩ => by show p.val = p.val + (x 0).val; omega
    | ⟨1, _⟩ => (Nat.zero_add _).symm
    | ⟨2, _⟩ => (Nat.zero_add _).symm)).trans (h (x 1) (Nat.zero_le _) (x 1).isLt (x 2))

/-- A load of the last sixteen rows of a slot reads the last sixteen rows of the tile it holds. -/
theorem load_halo (v : View sig .tc .vmem S2x1040x2048 .bf16) (f : v.ty.Contents (Elt F)) (p : Fin 2) (T : Fin 1040 → Fin 2048 → F .bf16)
    (h : Rows v f p 0 1040 T) (off : Fin 3 → ℕ) (ho : off = ![p.val, 1024, 0]) (inb : ∀ a, off a + S1x16x2048.size a ≤ S2x1040x2048.size a) :
    View.readAt (Elt F) v (Rect.unit (s := S2x1040x2048) off S1x16x2048.size inb).toLoadRect f = haloOf T := by
  subst ho
  funext x
  have h0 : (x 0).val < 1 := (x 0).isLt
  have h1 : (x 1).val < 16 := (x 1).isLt
  exact (load_at v f _ _ inb x (ix3 p (⟨1024 + (x 1).val, by omega⟩ : Fin 1040) (x 2)) (fun a => match a with
    | ⟨0, _⟩ => by show p.val = p.val + (x 0).val; omega
    | ⟨1, _⟩ => rfl
    | ⟨2, _⟩ => (Nat.zero_add _).symm)).trans (h _ (Nat.zero_le _) (by show 1024 + (x 1).val < 1040; omega) (x 2))

/-- A load of one row of the taps. -/
theorem load_tap (m : Memref sig .tc .vmem S3x768 .f32) (h : m.IsWhole) (X : FVec F S3x768 .f32) (k : Fin 3) (off : Fin 2 → ℕ) (ho : off = ![k.val, 0])
    (inb : ∀ a, off a + S1x768.size a ≤ S3x768.size a) :
    View.readAt (Elt F) m.view (Rect.unit (s := S3x768) off S1x768.size inb).toLoadRect (h.unread X) = tap X k := by
  subst ho
  funext x
  have h0 : (x 0).val < 1 := (x 0).isLt
  exact (load_at m.view (h.unread X) _ _ inb x (ix2 k (x 1)) (fun a => match a with
    | ⟨0, _⟩ => by show k.val = k.val + (x 0).val; omega
    | ⟨1, _⟩ => (Nat.zero_add _).symm)).trans (congrFun (Memref.IsWhole.read_unread (Val := Elt F) h X) _)

/-- A store into one slot leaves the other as it was. -/
theorem rows_slot {size : Fin 3 → ℕ} (v : View sig .tc .vmem S2x1040x2048 .bf16) (f : v.ty.Contents (Elt F)) (i : grid0.Coords) (T : Fin 1040 → Fin 2048 → F .bf16)
    (lo hi : ℕ) (h : Rows v f (slot i) lo hi T) (off : Fin 3 → ℕ) (p : ℕ) (ho : off = ![1 - (i 0).val % 2, p, 0]) (hs : size 0 = 1)
    (inb : ∀ a, off a + size a ≤ S2x1040x2048.size a) (w : FVec F (Rect.unit (s := S2x1040x2048) off size inb).shape .bf16) :
    Rows v (v.writes (Elt F) f [⟨Rect.unit (s := S2x1040x2048) off size inb, w⟩]) (slot i) lo hi T := by
  intro r hl hr e
  rw [View.read_writes_cons_unit_of_not_mem v f inb w [] (ix3 (slot i) r e) ho 0
    (by rw [hs]; show (i 0).val % 2 < 1 - (i 0).val % 2 ∨ 1 - (i 0).val % 2 + 1 ≤ (i 0).val % 2; omega)]
  exact h r hl hr e

/-- The store of rows carries the rows of the next tile that the other slot holds further. -/
theorem rows_other (v : View sig .tc .vmem S2x1040x2048 .bf16) (f : v.ty.Contents (Elt F)) (i : grid0.Coords) (T : Fin 1040 → Fin 2048 → F .bf16)
    (h : Rows v f (other i) 16 (16 + ready (i 1).val) T) (inb : ∀ a, k0_off7 i a + S1x160x2048.size a ≤ S2x1040x2048.size a) (w : FVec F S1x160x2048 .bf16)
    (hw : ∀ (q : Fin 160) (e : Fin 2048), start (min (160 * ((i 1).val - 1)) 864 + q.val) = min (160 * ((i 1).val - 1)) 864 →
      w (ix3 0 q e) = T ⟨16 + (min (160 * ((i 1).val - 1)) 864 + q.val), by omega⟩ e) :
    Rows v (v.writes (Elt F) f [⟨Rect.unit (s := S2x1040x2048) (k0_off7 i) S1x160x2048.size inb, w⟩]) (other i) 16 (16 + ready ((i 1).val + 1)) T := by
  have hj : (i 1).val < 8 := (i 1).isLt
  intro r hl hr e
  by_cases hk : r.val < 16 + min (160 * ((i 1).val - 1)) 864
  · rw [View.read_writes_cons_unit_of_not_mem v f inb w [] (ix3 (other i) r e) (off7_eq i) 1 (Or.inl hk)]
    exact h r hl (by unfold ready; rw [if_neg (by omega)]; exact hk) e
  · have hb : r.val < 16 + min (160 * ((i 1).val - 1)) 864 + 160 := by
      unfold ready at hr; split_ifs at hr <;> omega
    refine (View.read_writes_cons_unit_of_mem v f inb w [] (ix3 (other i) r e) (ix3 0 (⟨r.val - (16 + min (160 * ((i 1).val - 1)) 864), by omega⟩ : Fin 160) e) (off7_eq i)
      (fun a => match a with
        | ⟨0, _⟩ => (Nat.add_zero _).symm
        | ⟨1, _⟩ => by show r.val = 16 + min (160 * ((i 1).val - 1)) 864 + (r.val - (16 + min (160 * ((i 1).val - 1)) 864)); omega
        | ⟨2, _⟩ => (Nat.zero_add _).symm)).trans ?_
    rw [hw _ _ (by
      show start (min (160 * ((i 1).val - 1)) 864 + (r.val - (16 + min (160 * ((i 1).val - 1)) 864))) = _
      unfold ready at hr; unfold start
      split_ifs at hr ⊢ <;> omega)]
    exact congrArg (fun q => T q e) (Fin.ext (by show 16 + (min (160 * ((i 1).val - 1)) 864 + (r.val - (16 + min (160 * ((i 1).val - 1)) 864))) = r.val; omega))

/-- The store of sixteen rows at the head of the other slot leaves its rows behind them. -/
theorem rows_behind (v : View sig .tc .vmem S2x1040x2048 .bf16) (f : v.ty.Contents (Elt F)) (i : grid0.Coords) (T : Fin 1040 → Fin 2048 → F .bf16)
    (hi : ℕ) (h : Rows v f (other i) 16 hi T) (inb : ∀ a, k0_off9 i a + S1x16x2048.size a ≤ S2x1040x2048.size a) (w : FVec F S1x16x2048 .bf16) :
    Rows v (v.writes (Elt F) f [⟨Rect.unit (s := S2x1040x2048) (k0_off9 i) S1x16x2048.size inb, w⟩]) (other i) 16 hi T := by
  intro r hl hr e
  rw [View.read_writes_cons_unit_of_not_mem v f inb w [] (ix3 (other i) r e) (off9_eq i) 1
    (Or.inr (by show 0 + 16 ≤ r.val; omega))]
  exact h r hl hr e

/-- The store of sixteen rows at the head of a slot puts them there. -/
theorem rows_head (v : View sig .tc .vmem S2x1040x2048 .bf16) (f : v.ty.Contents (Elt F)) (p : Fin 2) (T : Fin 1040 → Fin 2048 → F .bf16)
    (off : Fin 3 → ℕ) (ho : off = ![p.val, 0, 0]) (inb : ∀ a, off a + S1x16x2048.size a ≤ S2x1040x2048.size a) (w : FVec F S1x16x2048 .bf16)
    (hw : ∀ (q : Fin 16) (e : Fin 2048), w (ix3 0 q e) = T ⟨q.val, by omega⟩ e) :
    Rows v (v.writes (Elt F) f [⟨Rect.unit (s := S2x1040x2048) off S1x16x2048.size inb, w⟩]) p 0 16 T := by
  intro r hl hr e
  refine (View.read_writes_cons_unit_of_mem v f inb w [] (ix3 p r e) (ix3 0 (⟨r.val, hr⟩ : Fin 16) e) ho
    (fun a => match a with
      | ⟨0, _⟩ => (Nat.add_zero _).symm
      | ⟨1, _⟩ => (Nat.zero_add _).symm
      | ⟨2, _⟩ => (Nat.zero_add _).symm)).trans ?_
  rw [hw]

/-- A load of a whole window, at offset zero, is what the window holds. -/
theorem load_whole {s : Shape} {e : EltTy} (m : Memref sig .tc .vmem s e) (h : m.IsWhole) (X : s.Idx → Elt F e) (off : Fin s.rank → ℕ)
    (ho : ∀ a, off a = 0) (inb : ∀ a, off a + s.size a ≤ s.size a) :
    View.readAt (Elt F) m.view (Rect.unit off s.size inb).toLoadRect (h.unread X) = X := by
  funext x
  exact (load_at m.view (h.unread X) off s.size inb x x (fun a => by rw [ho a, Nat.zero_add])).trans (congrFun (h.read_unread X) x)

/-- A store of a whole block, at offset zero, is what the block holds. -/
theorem store_whole {s : Shape} {e : EltTy} (v : View sig .tc .vmem s e) (f : v.ty.Contents (Elt F)) (X : s.Idx → Elt F e) (off : Fin s.rank → ℕ)
    (ho : ∀ a, off a = 0) (inb : ∀ a, off a + s.size a ≤ s.size a) :
    v.read (Elt F) (v.writes (Elt F) f [⟨Rect.unit off s.size inb, X⟩]) = X := by
  funext y
  exact View.read_writes_cons_unit_of_mem v f inb X [] y y rfl (fun a => by rw [ho a, Nat.zero_add])

/-- A later tile at a row of the chunk that settles it. -/
theorem nextTile_at (X : FVec F S1024x2048 .f32) (g : FVec F S1x2048 .f32) (sc sh : FVec F S1x1x2048 .f32) (o : ℕ) (ho : o ≤ 864) (q : Fin 160) (e : Fin 2048)
    (r : Fin 1024) (hr : r.val = o + q.val) (hs : start (o + q.val) = o) :
    nextTile X g sc sh r e = k0_pay1 (k0_pay12 (rows160 X o ho) g sc) sh (ix3 0 q e) := by
  obtain ⟨r, hr'⟩ := r
  obtain rfl : r = o + q.val := hr
  unfold nextTile
  have key : ∀ (o' : ℕ) (ho' : o' ≤ 864) (hq : o + q.val - o' < 160), o' = o →
      k0_pay1 (k0_pay12 (rows160 X o' ho') g sc) sh (ix3 0 ⟨o + q.val - o', hq⟩ e) = k0_pay1 (k0_pay12 (rows160 X o ho) g sc) sh (ix3 0 q e) := by
    intro o' ho' hq h
    subst h
    exact congrArg (fun p => k0_pay1 (k0_pay12 (rows160 X o' ho') g sc) sh (ix3 0 p e)) (Fin.ext (Nat.add_sub_cancel_left _ _))
  exact key _ _ _ hs

/-- The rows the body prepares are those of the next tile. -/
theorem next_rows (v : View sig .tc .vmem S1024x2048 .f32) (f : v.ty.Contents (Elt F)) (X : FVec F S1024x2048 .f32) (hX : v.read (Elt F) f = X)
    (P : Fin 1040 → Fin 2048 → F .bf16) (g : FVec F S1x2048 .f32) (sc sh : FVec F S1x1x2048 .f32) (i : grid0.Coords)
    (inb : ∀ a, k0_off6 i a + S160x2048.size a ≤ S1024x2048.size a) (q : Fin 160) (e : Fin 2048)
    (hs : start (min (160 * ((i 1).val - 1)) 864 + q.val) = min (160 * ((i 1).val - 1)) 864) :
    k0_pay1 (k0_pay12 (View.readAt (Elt F) v (Rect.unit (s := S1024x2048) (k0_off6 i) S160x2048.size inb).toLoadRect f) g sc) sh (ix3 0 q e)
      = laterRows P X g sc sh ⟨16 + (min (160 * ((i 1).val - 1)) 864 + q.val), by omega⟩ e := by
  rw [load_rows160 v f X hX (min (160 * ((i 1).val - 1)) 864) (by omega) (k0_off6 i) (off6_eq i) inb]
  unfold laterRows
  have h0 : ¬ 16 + (min (160 * ((i 1).val - 1)) 864 + q.val) < 16 := by omega
  rw [if_neg h0]
  exact (nextTile_at X g sc sh _ (by omega) q e ⟨16 + (min (160 * ((i 1).val - 1)) 864 + q.val) - 16, by omega⟩ (Nat.add_sub_cancel_left _ _) hs).symm

/-- What the two stores of a grid point leave in the two slots. -/
theorem slots_after (v : View sig .tc .vmem S2x1040x2048 .bf16) (f : v.ty.Contents (Elt F)) (i : grid0.Coords) (P : Fin 1040 → Fin 2048 → F .bf16)
    (vx : View sig .tc .vmem S1024x2048 .f32) (fx : vx.ty.Contents (Elt F)) (X : FVec F S1024x2048 .f32) (hX : vx.read (Elt F) fx = X)
    (g : FVec F S1x2048 .f32) (sc sh : FVec F S1x1x2048 .f32)
    (hP : Rows v f (slot i) 0 1040 P) (hN : Rows v f (other i) 16 (16 + ready (i 1).val) (laterRows P X g sc sh))
    (inb6 : ∀ a, k0_off6 i a + S160x2048.size a ≤ S1024x2048.size a) (inb7 : ∀ a, k0_off7 i a + S1x160x2048.size a ≤ S2x1040x2048.size a)
    (inb8 : ∀ a, k0_off8 i a + S1x16x2048.size a ≤ S2x1040x2048.size a) (inb9 : ∀ a, k0_off9 i a + S1x16x2048.size a ≤ S2x1040x2048.size a)
    (w1 : FVec F S1x160x2048 .bf16) (hw1 : w1 = k0_pay1 (k0_pay12 (View.readAt (Elt F) vx (Rect.unit (s := S1024x2048) (k0_off6 i) S160x2048.size inb6).toLoadRect fx) g sc) sh)
    (L : List (View.Piece (Elt F) S2x1040x2048 .bf16)) (hL : L = [⟨Rect.unit (s := S2x1040x2048) (k0_off7 i) S1x160x2048.size inb7, w1⟩]) :
    Rows v (v.writes (Elt F) f (⟨Rect.unit (s := S2x1040x2048) (k0_off9 i) S1x16x2048.size inb9,
        k0_pay2 (View.readAt (Elt F) v (Rect.unit (s := S2x1040x2048) (k0_off8 i) S1x16x2048.size inb8).toLoadRect (v.writes (Elt F) f L))⟩ :: L)) (slot i) 0 1040 P
      ∧ Rows v (v.writes (Elt F) f (⟨Rect.unit (s := S2x1040x2048) (k0_off9 i) S1x16x2048.size inb9,
        k0_pay2 (View.readAt (Elt F) v (Rect.unit (s := S2x1040x2048) (k0_off8 i) S1x16x2048.size inb8).toLoadRect (v.writes (Elt F) f L))⟩ :: L)) (other i) 0 (16 + ready ((i 1).val + 1)) (laterRows P X g sc sh) := by
  have a1 : Rows v (v.writes (Elt F) f L) (slot i) 0 1040 P := by
    rw [hL]; exact rows_slot v f i P 0 1040 hP _ _ (off7_eq i) rfl inb7 w1
  have a2 : Rows v (v.writes (Elt F) f L) (other i) 16 (16 + ready ((i 1).val + 1)) (laterRows P X g sc sh) := by
    rw [hL]
    refine rows_other v f i _ hN inb7 w1 fun q e hs => ?_
    rw [hw1]
    exact next_rows vx fx X hX P g sc sh i inb6 q e hs
  rw [load_halo v _ (slot i) P a1 (k0_off8 i) (off8_eq i) inb8]
  clear hL
  have hw : ∀ p, v.writes (Elt F) f (p :: L) = v.writes (Elt F) (v.writes (Elt F) f L) [p] := fun p => rfl
  rw [hw]
  generalize v.writes (Elt F) f L = f1 at a1 a2 ⊢
  refine ⟨rows_slot v f1 i P 0 1040 a1 _ _ (off9_eq i) rfl inb9 _, fun r hl hr e => ?_⟩
  by_cases h16 : r.val < 16
  · refine rows_head v f1 (other i) (laterRows P X g sc sh) (k0_off9 i) (off9_eq i) inb9 _ (fun q e => ?_) r hl h16 e
    unfold laterRows
    have hq : q.val % 16 = q.val := by omega
    simp only [q.isLt, hq, ↓reduceIte]
  · exact rows_behind v f1 i _ _ a2 inb9 _ r (by omega) hr e

set_option sl_exec.squeezeSlice true in
set_option maxHeartbeats 800000 in
/-- The body at one grid point, past the first: from the blocks it reads and a slot that holds a tile, it leaves the blocks as
    they were, its output block computed from that tile, and the other slot with its next rows prepared. -/
theorem body_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x768 .bf16) (harg6 : arg6.IsWhole) (arg7 : Memref sig .tc .vmem S1x2048x768 .bf16) (harg7 : arg7.IsWhole) (arg8 : Memref sig .tc .vmem S3x768 .f32) (harg8 : arg8.IsWhole) (arg9 : Memref sig .tc .vmem S1x768 .f32) (harg9 : arg9.IsWhole) (arg10 : Memref sig .tc .vmem S1024x768 .bf16) (harg10 : arg10.IsWhole) (arg11 : Memref sig .tc .vmem S2x1040x2048 .bf16) (harg11 : arg11.IsWhole) (arg12 : Memref sig .tc .vmem S1024x128 .f32) (harg12 : arg12.IsWhole) (x0 : FVec F S1024x2048 .f32) (g : FVec F S1x2048 .f32) (sc sh : FVec F S1x1x2048 .f32)
    (wg wv : FVec F S1x2048x768 .bf16) (cw : FVec F S3x768 .f32) (cb : FVec F S1x768 .f32) (f11 : Buf (Elt F) (arg11.view.loc (c : Thread nD τ))) (T : Fin 1040 → Fin 2048 → F .bf16)
    (k0_h1 : ¬ k0_cond1 i = 1#1) (hT : Rows arg11.view f11 (slot i) 0 1040 T) (hN : Rows arg11.view f11 (other i) 16 (16 + ready (i 1).val) (laterRows T x0 g sc sh))
    (K : PUnit → sProp 𝕄) :
    iprop(owns (c : Thread nD τ) arg2 fullShare x0 ∗ owns (c : Thread nD τ) arg3 fullShare g ∗ owns (c : Thread nD τ) arg4 fullShare sc ∗ owns (c : Thread nD τ) arg5 fullShare sh ∗ owns (c : Thread nD τ) arg6 fullShare wg ∗ owns (c : Thread nD τ) arg7 fullShare wv ∗ owns (c : Thread nD τ) arg8 fullShare cw ∗ owns (c : Thread nD τ) arg9 fullShare cb ∗ (∃ d, owns (c : Thread nD τ) arg10 fullShare d)
        ∗ (arg11.view.loc (c : Thread nD τ) ↦[arg11.view.set]{fullShare} f11) ∗ (∃ d, owns (c : Thread nD τ) arg12 fullShare d)
        ∗ (iprop(owns (c : Thread nD τ) arg2 fullShare x0 ∗ owns (c : Thread nD τ) arg3 fullShare g ∗ owns (c : Thread nD τ) arg4 fullShare sc ∗ owns (c : Thread nD τ) arg5 fullShare sh ∗ owns (c : Thread nD τ) arg6 fullShare wg ∗ owns (c : Thread nD τ) arg7 fullShare wv ∗ owns (c : Thread nD τ) arg8 fullShare cw ∗ owns (c : Thread nD τ) arg9 fullShare cb ∗ owns (c : Thread nD τ) arg10 fullShare (outBlock i T wg wv cw cb)
            ∗ (∃ f, (arg11.view.loc (c : Thread nD τ) ↦[arg11.view.set]{fullShare} f) ∗ ⌜Rows arg11.view f (slot i) 0 1040 T ∧ Rows arg11.view f (other i) 0 (16 + ready ((i 1).val + 1)) (laterRows T x0 g sc sh)⌝)
            ∗ (∃ d, owns (c : Thread nD τ) arg12 fullShare d)) -∗ K PUnit.unit))
      ⊢ wp frame (wpE (defs₀ (F := F)) Variants.none c none) Set.univ (cc0_ffn_up i arg2 harg2 arg3 harg3 arg4 harg4 arg5 harg5 arg6 harg6 arg7 harg7 arg8 harg8 arg9 harg9 arg10 harg10 arg11 harg11 arg12 harg12) K := by
  simp only [cc0_ffn_up_eq_skeleton]; unfold cc0_ffn_up_skel
  simp only [k0_part1_eq_skeleton, k0_part2_eq_skeleton, k0_part3_eq_skeleton]; unfold k0_part1_skel k0_part2_skel k0_part3_skel
  rw [dif_neg k0_h1]
  unfold owns
  iintro ⟨⟨%f0, %hf0, H2⟩, ⟨%f1, %hf1, H3⟩, ⟨%f2, %hf2, H4⟩, ⟨%f3, %hf3, H5⟩, ⟨%f4, %hf4, H6⟩, ⟨%f5, %hf5, H7⟩, ⟨%f6, %hf6, H8⟩, ⟨%f7, %hf7, H9⟩, ⟨%d8, %f8, -, H10⟩, H11, ⟨%d12, %f12, -, H12⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  sl_exec
  have a1 := load_whole arg3 harg3 g ![0, 0] (by decide) inb_S1x2048_S1x2048_0_0
  have a2 := load_whole arg4 harg4 sc ![0, 0, 0] (by decide) inb_S1x1x2048_S1x1x2048_0_0_0
  have a3 := load_whole arg5 harg5 sh ![0, 0, 0] (by decide) inb_S1x1x2048_S1x1x2048_0_0_0
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    refine (store_whole arg10.view f8 _ ![0, 0] (by decide) _).trans ?_
    have e1 := load_tile arg11.view f11 (slot i) T hT (k0_off5 i) (off5_eq i) (k0_off5_inb i)
    have e2 := load_whole arg6 harg6 wg ![0, 0, 0] (by decide) inb_S1x2048x768_S1x2048x768_0_0_0
    have e3 := load_whole arg7 harg7 wv ![0, 0, 0] (by decide) inb_S1x2048x768_S1x2048x768_0_0_0
    have e4 := load_tap arg8 harg8 cw 0 ![0, 0] rfl inb_S3x768_S1x768_0_0
    have e5 := load_tap arg8 harg8 cw 1 ![1, 0] rfl inb_S3x768_S1x768_1_0
    have e6 := load_tap arg8 harg8 cw 2 ![2, 0] rfl inb_S3x768_S1x768_2_0
    have e7 := load_whole arg9 harg9 cb ![0, 0] (by decide) inb_S1x768_S1x768_0_0
    rw [e1, e2, e3, e4, e5, e6, e7]
    rfl
  isplitl [H11]
  · iexists _; isplitl [H11]; · iexact H11
    ipureintro
    refine slots_after arg11.view f11 i T arg2.view (harg2.unread x0) x0 (Memref.IsWhole.read_unread (Val := Elt F) harg2 x0) g sc sh hT hN (k0_off6_inb i) (k0_off7_inb i) (k0_off8_inb i) (k0_off9_inb i)
      (k0_pay1 (k0_pay12 (View.readAt (Elt F) arg2.view (Rect.unit (s := S1024x2048) (k0_off6 i) S160x2048.size (k0_off6_inb i)).toLoadRect (harg2.unread x0)) g sc) sh) rfl _ ?_
    refine Eq.trans (b := [⟨Rect.unit (s := S2x1040x2048) (k0_off7 i) S1x160x2048.size (k0_off7_inb i), k0_pay1 (k0_pay12 (View.readAt (Elt F) arg2.view (Rect.unit (s := S1024x2048) (k0_off6 i) S160x2048.size (k0_off6_inb i)).toLoadRect (harg2.unread x0)) (View.readAt (Elt F) arg3.view (Rect.unit (s := S1x2048) ![0, 0] S1x2048.size inb_S1x2048_S1x2048_0_0).toLoadRect (harg3.unread g)) (View.readAt (Elt F) arg4.view (Rect.unit (s := S1x1x2048) ![0, 0, 0] S1x1x2048.size inb_S1x1x2048_S1x1x2048_0_0_0).toLoadRect (harg4.unread sc))) (View.readAt (Elt F) arg5.view (Rect.unit (s := S1x1x2048) ![0, 0, 0] S1x1x2048.size inb_S1x1x2048_S1x1x2048_0_0_0).toLoadRect (harg5.unread sh))⟩]) rfl ?_
    rw [a1, a2, a3]
  iexists _, _; isplitr; swap; · iexact H12
  ipureintro; rfl

set_option sl_exec.squeezeSlice true in
set_option maxHeartbeats 800000 in
/-- The body at one grid point, the first: from the blocks it reads it leaves the blocks as they were, the first slot at the first tile, its
    output block computed from that tile, and the other slot with its next rows prepared. -/
theorem body_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x768 .bf16) (harg6 : arg6.IsWhole) (arg7 : Memref sig .tc .vmem S1x2048x768 .bf16) (harg7 : arg7.IsWhole) (arg8 : Memref sig .tc .vmem S3x768 .f32) (harg8 : arg8.IsWhole) (arg9 : Memref sig .tc .vmem S1x768 .f32) (harg9 : arg9.IsWhole) (arg10 : Memref sig .tc .vmem S1024x768 .bf16) (harg10 : arg10.IsWhole) (arg11 : Memref sig .tc .vmem S2x1040x2048 .bf16) (harg11 : arg11.IsWhole) (arg12 : Memref sig .tc .vmem S1024x128 .f32) (harg12 : arg12.IsWhole) (x0 : FVec F S1024x2048 .f32) (g : FVec F S1x2048 .f32) (sc sh : FVec F S1x1x2048 .f32)
    (wg wv : FVec F S1x2048x768 .bf16) (cw : FVec F S3x768 .f32) (cb : FVec F S1x768 .f32) (f11 : Buf (Elt F) (arg11.view.loc (c : Thread nD τ))) (k0_h1 : k0_cond1 i = 1#1)
    (K : PUnit → sProp 𝕄) :
    iprop(owns (c : Thread nD τ) arg2 fullShare x0 ∗ owns (c : Thread nD τ) arg3 fullShare g ∗ owns (c : Thread nD τ) arg4 fullShare sc ∗ owns (c : Thread nD τ) arg5 fullShare sh ∗ owns (c : Thread nD τ) arg6 fullShare wg ∗ owns (c : Thread nD τ) arg7 fullShare wv ∗ owns (c : Thread nD τ) arg8 fullShare cw ∗ owns (c : Thread nD τ) arg9 fullShare cb ∗ (∃ d, owns (c : Thread nD τ) arg10 fullShare d)
        ∗ (arg11.view.loc (c : Thread nD τ) ↦[arg11.view.set]{fullShare} f11) ∗ (∃ d, owns (c : Thread nD τ) arg12 fullShare d)
        ∗ (iprop(owns (c : Thread nD τ) arg2 fullShare x0 ∗ owns (c : Thread nD τ) arg3 fullShare g ∗ owns (c : Thread nD τ) arg4 fullShare sc ∗ owns (c : Thread nD τ) arg5 fullShare sh ∗ owns (c : Thread nD τ) arg6 fullShare wg ∗ owns (c : Thread nD τ) arg7 fullShare wv ∗ owns (c : Thread nD τ) arg8 fullShare cw ∗ owns (c : Thread nD τ) arg9 fullShare cb ∗ owns (c : Thread nD τ) arg10 fullShare (outBlock i (firstRows x0 g sc sh) wg wv cw cb)
            ∗ (∃ f, (arg11.view.loc (c : Thread nD τ) ↦[arg11.view.set]{fullShare} f) ∗ ⌜Rows arg11.view f (slot i) 0 1040 (firstRows x0 g sc sh) ∧ Rows arg11.view f (other i) 0 (16 + ready ((i 1).val + 1)) (laterRows (firstRows x0 g sc sh) x0 g sc sh)⌝)
            ∗ (∃ d, owns (c : Thread nD τ) arg12 fullShare d)) -∗ K PUnit.unit))
      ⊢ wp frame (wpE (defs₀ (F := F)) Variants.none c none) Set.univ (cc0_ffn_up i arg2 harg2 arg3 harg3 arg4 harg4 arg5 harg5 arg6 harg6 arg7 harg7 arg8 harg8 arg9 harg9 arg10 harg10 arg11 harg11 arg12 harg12) K := by
  simp only [cc0_ffn_up_eq_skeleton]; unfold cc0_ffn_up_skel
  simp only [k0_part1_eq_skeleton, k0_part2_eq_skeleton, k0_part3_eq_skeleton]; unfold k0_part1_skel k0_part2_skel k0_part3_skel
  rw [dif_pos k0_h1]
  have hi := (cond1_iff i).mp k0_h1
  have hs : slot i = 0 := Fin.ext (by show (i 0).val % 2 = 0; rw [hi.1])
  unfold owns
  iintro ⟨⟨%f0, %hf0, H2⟩, ⟨%f1, %hf1, H3⟩, ⟨%f2, %hf2, H4⟩, ⟨%f3, %hf3, H5⟩, ⟨%f4, %hf4, H6⟩, ⟨%f5, %hf5, H7⟩, ⟨%f6, %hf6, H8⟩, ⟨%f7, %hf7, H9⟩, ⟨%d8, %f8, -, H10⟩, H11, ⟨%d12, %f12, -, H12⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  sl_exec
  have a1 := load_whole arg3 harg3 g ![0, 0] (by decide) inb_S1x2048_S1x2048_0_0
  have a2 := load_whole arg4 harg4 sc ![0, 0, 0] (by decide) inb_S1x1x2048_S1x1x2048_0_0_0
  have a3 := load_whole arg5 harg5 sh ![0, 0, 0] (by decide) inb_S1x1x2048_S1x1x2048_0_0_0
  have a4 := load_whole arg2 harg2 x0 ![0, 0] (by decide) inb_S1024x2048_S1024x2048_0_0
  simp only [bind_assoc]
  iapply (wp_fill_loop c i arg2 harg2 arg3 harg3 arg4 harg4 arg5 harg5 arg6 harg6 arg7 harg7 arg8 harg8 arg9 harg9 arg10 harg10 arg11 harg11 arg12 harg12 k0_h1 (harg2.unread x0) _ _ x0 _ _ _ (Memref.IsWhole.read_unread (Val := Elt F) harg2 x0)
    ((store_whole arg12.view f12 _ ![0, 0] (by decide) _).trans (congrArg k0_pay4 a4))
    (rows_head arg11.view f11 0 _ ![0, 0, 0] rfl _ (k0_pay3 (F := F)) fun q e => by
      unfold firstRows
      have hq : q.val % 16 = q.val := by omega
      simp only [q.isLt, hq, ↓reduceIte]))
  isplitl [H2]
  · iexact H2
  isplitl [H12]
  · iexact H12
  isplitl [H11]
  · iexact H11
  iintro %f %hf H2 H12 H11
  rw [a1, a2, a3] at hf
  have hT : Rows arg11.view f (slot i) 0 1040 (firstRows x0 g sc sh) := by rw [hs]; exact hf
  have hN : Rows arg11.view f (other i) 16 (16 + ready (i 1).val) (laterRows (firstRows x0 g sc sh) x0 g sc sh) :=
    fun r hl hr => absurd hr (by rw [hi.2]; exact Nat.not_lt.mpr hl)
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    refine (store_whole arg10.view f8 _ ![0, 0] (by decide) _).trans ?_
    have e1 := load_tile arg11.view f (slot i) (firstRows x0 g sc sh) hT (k0_off5 i) (off5_eq i) (k0_off5_inb i)
    have e2 := load_whole arg6 harg6 wg ![0, 0, 0] (by decide) inb_S1x2048x768_S1x2048x768_0_0_0
    have e3 := load_whole arg7 harg7 wv ![0, 0, 0] (by decide) inb_S1x2048x768_S1x2048x768_0_0_0
    have e4 := load_tap arg8 harg8 cw 0 ![0, 0] rfl inb_S3x768_S1x768_0_0
    have e5 := load_tap arg8 harg8 cw 1 ![1, 0] rfl inb_S3x768_S1x768_1_0
    have e6 := load_tap arg8 harg8 cw 2 ![2, 0] rfl inb_S3x768_S1x768_2_0
    have e7 := load_whole arg9 harg9 cb ![0, 0] (by decide) inb_S1x768_S1x768_0_0
    rw [e1, e2, e3, e4, e5, e6, e7]
    rfl
  isplitl [H11]
  · iexists _; isplitl [H11]; · iexact H11
    ipureintro
    refine slots_after arg11.view f i (firstRows x0 g sc sh) arg2.view (harg2.unread x0) x0 (Memref.IsWhole.read_unread (Val := Elt F) harg2 x0) g sc sh hT hN (k0_off6_inb i) (k0_off7_inb i) (k0_off8_inb i) (k0_off9_inb i)
      (k0_pay1 (k0_pay12 (View.readAt (Elt F) arg2.view (Rect.unit (s := S1024x2048) (k0_off6 i) S160x2048.size (k0_off6_inb i)).toLoadRect (harg2.unread x0)) g sc) sh) rfl _ ?_
    rfl
  iexists _, _; isplitr; swap; · iexact H12
  ipureintro; rfl

end Cert.Proof.FfnUp

end
-- ==== Proof.FfnUpFrame.lean ====
module

public import proofs.«01_k».proof.Proof.FfnUpRun
public import Idealize.ShloMosaic.Lib.Pipeline.ValueKit

@[expose] public section

noncomputable section

namespace Cert.Proof.FfnUp

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks of the grid points -/

/-- The block of window 0 at a grid point. -/
theorem ind0 : ∀ t : Fin cfg0.N, win0_0.index t = ![if t.val = 0 then 0 else min (t.val / 8 + 1) 15, 0] := (by decide +kernel : ∀ t : Fin grid0.N, _)
/-- The block of window 1 at a grid point. -/
theorem ind1 : ∀ t : Fin cfg0.N, win0_1.index t = ![0, 0] := (by decide +kernel : ∀ t : Fin grid0.N, _)
/-- The block of window 2 at a grid point. -/
theorem ind2 : ∀ t : Fin cfg0.N, win0_2.index t = ![(if t.val = 0 then 0 else min (t.val / 8 + 1) 15) / 2, 0, 0] := (by decide +kernel : ∀ t : Fin grid0.N, _)
/-- The block of window 3 at a grid point. -/
theorem ind3 : ∀ t : Fin cfg0.N, win0_3.index t = ![(if t.val = 0 then 0 else min (t.val / 8 + 1) 15) / 2, 0, 0] := (by decide +kernel : ∀ t : Fin grid0.N, _)
/-- The block of window 4 at a grid point. -/
theorem ind4 : ∀ t : Fin cfg0.N, win0_4.index t = ![0, 0, t.val % 8] := (by decide +kernel : ∀ t : Fin grid0.N, _)
/-- The block of window 5 at a grid point. -/
theorem ind5 : ∀ t : Fin cfg0.N, win0_5.index t = ![0, 0, 8 + t.val % 8] := (by decide +kernel : ∀ t : Fin grid0.N, _)
/-- The block of window 6 at a grid point. -/
theorem ind6 : ∀ t : Fin cfg0.N, win0_6.index t = ![0, t.val % 8] := (by decide +kernel : ∀ t : Fin grid0.N, _)
/-- The block of window 7 at a grid point. -/
theorem ind7 : ∀ t : Fin cfg0.N, win0_7.index t = ![0, t.val % 8] := (by decide +kernel : ∀ t : Fin grid0.N, _)
/-- The block of window 8 at a grid point. -/
theorem ind8 : ∀ t : Fin cfg0.N, win0_8.index t = ![t.val / 8, t.val % 8] := (by decide +kernel : ∀ t : Fin grid0.N, _)
/-- A grid point's coordinates. -/
theorem coords_eq : ∀ t : Fin cfg0.N, (grid0.coords t 0).val = t.val / 8 ∧ (grid0.coords t 1).val = t.val % 8 := (by decide +kernel : ∀ t : Fin grid0.N, _)

/-- The grid has 128 points. -/
theorem N_eq : cfg0.N = 128 := by decide +kernel

/-- The grid point of a tile at which the tile's successor is first read. -/
def pt (k : ℕ) : Fin cfg0.N := ⟨(8 * k + 1) % 128, by rw [N_eq]; exact Nat.mod_lt _ (by decide)⟩

/-- A grid point is below 128. -/
theorem lt_128 (t : Fin cfg0.N) : t.val < 128 := lt_of_lt_of_eq t.isLt N_eq

/-- The point of the next tile's rows, as the window's map has it. -/
theorem at_pt (t : Fin cfg0.N) (ht : 1 ≤ t.val % 8) :
    (if t.val = 0 then 0 else min (t.val / 8 + 1) 15) = (if (8 * (t.val / 8) + 1) % 128 = 0 then 0 else min ((8 * (t.val / 8) + 1) % 128 / 8 + 1) 15) := by
  have hN := lt_128 t
  rw [if_neg (by omega), if_neg (by omega)]; omega

/-- Past a tile's first grid point the blocks of the next tile stay in place. -/
theorem stay0 (c : Dev nD) (t : Fin cfg0.N) (ht : 1 ≤ t.val % 8) : (iblk m c 0 t : FVec F S1024x2048 .f32) = iblk m c 0 (pt (t.val / 8)) := by
  funext y
  obtain ⟨i, e, rfl⟩ : ∃ (i : Fin 1024) (e : Fin 2048), y = ix2 i e := ⟨y 0, y 1, by funext a; fin_cases a <;> rfl⟩
  blk_simp [iblk]
  congr 1
  have h := at_pt t ht
  blk_ext [ind0, pt]
/-- Window 1's block stays while one tile is multiplied. -/
theorem stay1 (c : Dev nD) (t : Fin cfg0.N) (ht : 1 ≤ t.val % 8) : (iblk m c 1 t : FVec F S1x2048 .f32) = iblk m c 1 (pt (t.val / 8)) := by
  funext y
  obtain ⟨i, e, rfl⟩ : ∃ (i : Fin 1) (e : Fin 2048), y = ix2 i e := ⟨y 0, y 1, by funext a; fin_cases a <;> rfl⟩
  blk_simp [iblk]
  congr 1
  blk_ext [ind1, pt]
/-- Window 2's block stays while one tile is multiplied. -/
theorem stay2 (c : Dev nD) (t : Fin cfg0.N) (ht : 1 ≤ t.val % 8) : (iblk m c 2 t : FVec F S1x1x2048 .f32) = iblk m c 2 (pt (t.val / 8)) := by
  funext y
  obtain ⟨i, j, e, rfl⟩ : ∃ (i : Fin 1) (j : Fin 1) (e : Fin 2048), y = ix3 i j e := ⟨y 0, y 1, y 2, by funext a; fin_cases a <;> rfl⟩
  blk_simp [iblk]
  refine congrArg (V m c main_v2) ?_
  have h := at_pt t ht
  blk_ext [ind2, pt]
/-- Window 3's block stays while one tile is multiplied. -/
theorem stay3 (c : Dev nD) (t : Fin cfg0.N) (ht : 1 ≤ t.val % 8) : (iblk m c 3 t : FVec F S1x1x2048 .f32) = iblk m c 3 (pt (t.val / 8)) := by
  funext y
  obtain ⟨i, j, e, rfl⟩ : ∃ (i : Fin 1) (j : Fin 1) (e : Fin 2048), y = ix3 i j e := ⟨y 0, y 1, y 2, by funext a; fin_cases a <;> rfl⟩
  blk_simp [iblk]
  refine congrArg (V m c main_v3) ?_
  have h := at_pt t ht
  blk_ext [ind3, pt]

/-! ## The tiles -/

/-- The first grid point. -/
def pt0 : Fin cfg0.N := ⟨0, by rw [N_eq]; decide⟩

/-- Tile `k`, normed and modulated, behind the last sixteen rows of the tile before it. -/
def cur (c : Dev nD) : ℕ → Fin 1040 → Fin 2048 → F .bf16
  | 0 => firstRows (iblk m c 0 pt0) (iblk m c 1 pt0) (iblk m c 2 pt0) (iblk m c 3 pt0)
  | k + 1 => laterRows (cur c k) (iblk m c 0 (pt k)) (iblk m c 1 (pt k)) (iblk m c 2 (pt k)) (iblk m c 3 (pt k))

/-- What the scratch slots hold before grid point `n`: the tile being multiplied whole (past the first point), and the rows
    settled so far of the next. -/
def Slots (c : Dev nD) (n : ℕ) (f : (Memref.whole cc0_scratch0).view.ty.Contents (Elt F)) : Prop :=
  (n ≠ 0 → Rows (Memref.whole cc0_scratch0).view f ⟨n / 8 % 2, Nat.mod_lt _ (by decide)⟩ 0 1040 (cur m c (n / 8)))
    ∧ Rows (Memref.whole cc0_scratch0).view f ⟨1 - n / 8 % 2, by omega⟩ 16 (16 + ready (n % 8)) (cur m c (n / 8 + 1))

/-- What each window's buffer holds after the body at each grid point: an input its block, the output the block computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (grid0.coords t) (cur m c (t.val / 8)) (iblk m c 4 t) (iblk m c 5 t) (iblk m c 6 t) (iblk m c 7 t)
  Φ t := iprop(iprop((∃ f, ((Memref.whole cc0_scratch0).view.loc (c : Thread nD τ) ↦[(Memref.whole cc0_scratch0).view.set]{fullShare} f) ∗ ⌜Slots m c t.val f⌝)
    ∗ (∃ d, owns (c : Thread nD τ) (Memref.whole cc0_scratch1) fullShare d)) ∗ (∃ r, prngReg c r))
  q w := Pipeline.shareOf spec0 w
  owed _ := 0

/-- The arrays before the region. -/
theorem A_eq (c : Dev nD) (w : Fin cfg0.W) : (dats m 0 c).A w = V m c (Pipeline.arrRef spec0 w) := by
  dsimp only [dats]

/-- What window 0's buffer holds after the body. -/
theorem after_0 (c : Dev nD) (t : Fin cfg0.N) : (dats m 0 c).after 0 t = iblk m c 0 t := by dsimp only [dats]
/-- What window 1's buffer holds after the body. -/
theorem after_1 (c : Dev nD) (t : Fin cfg0.N) : (dats m 0 c).after 1 t = iblk m c 1 t := by dsimp only [dats]
/-- What window 2's buffer holds after the body. -/
theorem after_2 (c : Dev nD) (t : Fin cfg0.N) : (dats m 0 c).after 2 t = iblk m c 2 t := by dsimp only [dats]
/-- What window 3's buffer holds after the body. -/
theorem after_3 (c : Dev nD) (t : Fin cfg0.N) : (dats m 0 c).after 3 t = iblk m c 3 t := by dsimp only [dats]
/-- What window 4's buffer holds after the body. -/
theorem after_4 (c : Dev nD) (t : Fin cfg0.N) : (dats m 0 c).after 4 t = iblk m c 4 t := by dsimp only [dats]
/-- What window 5's buffer holds after the body. -/
theorem after_5 (c : Dev nD) (t : Fin cfg0.N) : (dats m 0 c).after 5 t = iblk m c 5 t := by dsimp only [dats]
/-- What window 6's buffer holds after the body. -/
theorem after_6 (c : Dev nD) (t : Fin cfg0.N) : (dats m 0 c).after 6 t = iblk m c 6 t := by dsimp only [dats]
/-- What window 7's buffer holds after the body. -/
theorem after_7 (c : Dev nD) (t : Fin cfg0.N) : (dats m 0 c).after 7 t = iblk m c 7 t := by dsimp only [dats]
/-- What the output's buffer holds after the body. -/
theorem after_8 (c : Dev nD) (t : Fin cfg0.N) : (dats m 0 c).after 8 t = outBlock (grid0.coords t) (cur m c (t.val / 8)) (iblk m c 4 t) (iblk m c 5 t) (iblk m c 6 t) (iblk m c 7 t) := by dsimp only [dats]

/-- What window 0's buffer holds before the body. -/
theorem before_0 (c : Dev nD) (t : Fin cfg0.N) (d) : (dats m 0 c).before 0 t d = iblk m c 0 t :=
  before0_0_of m (dats m 0 c) (A_eq m c 0) (after_0 m c) t d
/-- What window 1's buffer holds before the body. -/
theorem before_1 (c : Dev nD) (t : Fin cfg0.N) (d) : (dats m 0 c).before 1 t d = iblk m c 1 t :=
  before0_1_of m (dats m 0 c) (A_eq m c 1) (after_1 m c) t d
/-- What window 2's buffer holds before the body. -/
theorem before_2 (c : Dev nD) (t : Fin cfg0.N) (d) : (dats m 0 c).before 2 t d = iblk m c 2 t :=
  before0_2_of m (dats m 0 c) (A_eq m c 2) (after_2 m c) t d
/-- What window 3's buffer holds before the body. -/
theorem before_3 (c : Dev nD) (t : Fin cfg0.N) (d) : (dats m 0 c).before 3 t d = iblk m c 3 t :=
  before0_3_of m (dats m 0 c) (A_eq m c 3) (after_3 m c) t d
/-- What window 4's buffer holds before the body. -/
theorem before_4 (c : Dev nD) (t : Fin cfg0.N) (d) : (dats m 0 c).before 4 t d = iblk m c 4 t :=
  before0_4_of m (dats m 0 c) (A_eq m c 4) (after_4 m c) t d
/-- What window 5's buffer holds before the body. -/
theorem before_5 (c : Dev nD) (t : Fin cfg0.N) (d) : (dats m 0 c).before 5 t d = iblk m c 5 t :=
  before0_5_of m (dats m 0 c) (A_eq m c 5) (after_5 m c) t d
/-- What window 6's buffer holds before the body. -/
theorem before_6 (c : Dev nD) (t : Fin cfg0.N) (d) : (dats m 0 c).before 6 t d = iblk m c 6 t :=
  before0_6_of m (dats m 0 c) (A_eq m c 6) (after_6 m c) t d
/-- What window 7's buffer holds before the body. -/
theorem before_7 (c : Dev nD) (t : Fin cfg0.N) (d) : (dats m 0 c).before 7 t d = iblk m c 7 t :=
  before0_7_of m (dats m 0 c) (A_eq m c 7) (after_7 m c) t d

/-- The invariant before a grid point. -/
theorem phi_eq (c : Dev nD) (t : Fin (cfg0.N + 1)) : (dats m 0 c).Φ t
    = (iprop(iprop((∃ f, ((Memref.whole cc0_scratch0).view.loc (c : Thread nD τ) ↦[(Memref.whole cc0_scratch0).view.set]{fullShare} f) ∗ ⌜Slots m c t.val f⌝)
        ∗ (∃ d, owns (c : Thread nD τ) (Memref.whole cc0_scratch1) fullShare d)) ∗ (∃ r, prngReg c r)) : sProp 𝕄) := by dsimp only [dats]

/-- The two scratch buffers and the generator's register are what the region keeps for itself. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- Before the first point the slots hold anything. -/
theorem phi_in (c : Dev nD) : (Pipeline.ΦA spec0 c : sProp 𝕄) ⊢ (dats m 0 c).Φ 0 := by
  rw [phi_eq, scratch_eq]
  unfold owns
  iintro ⟨⟨⟨%d, %f, -, H0⟩, H1⟩, Hg⟩
  isplitl [H0 H1]
  · isplitl [H0]
    · iexists f
      isplitl [H0]; · iexact H0
      ipureintro
      exact ⟨fun h => absurd rfl h, fun r hl hr => absurd hr (Nat.not_lt.mpr hl)⟩
    iexact H1
  iexact Hg

/-- After the last point what the slots hold is forgotten. -/
theorem phi_out (c : Dev nD) : (dats m 0 c).Φ (Fin.last cfg0.N) ⊢ (Pipeline.ΦA spec0 c : sProp 𝕄) := by
  rw [phi_eq, scratch_eq]
  unfold owns
  iintro ⟨⟨⟨%f, H0, -⟩, H1⟩, Hg⟩
  isplitl [H0 H1]
  · isplitl [H0]
    · iexists _, f
      isplitr; · ipureintro; rfl
      iexact H0
    iexact H1
  iexact Hg

/-! ## The body at every grid point -/

/-- Past a tile's first point the rows prepared are the next tile's. -/
theorem next_eq (c : Dev nD) (t : Fin cfg0.N) (ht : 1 ≤ t.val % 8) :
    laterRows (cur m c (t.val / 8)) (iblk m c 0 t) (iblk m c 1 t) (iblk m c 2 t) (iblk m c 3 t) = cur m c (t.val / 8 + 1) := by
  show _ = laterRows (cur m c (t.val / 8)) (iblk m c 0 (pt (t.val / 8))) (iblk m c 1 (pt (t.val / 8))) (iblk m c 2 (pt (t.val / 8))) (iblk m c 3 (pt (t.val / 8)))
  rw [stay0 m c t ht, stay1 m c t ht, stay2 m c t ht, stay3 m c t ht]

/-- The slot being multiplied at a grid point. -/
theorem slot_eq (t : Fin cfg0.N) : slot (grid0.coords t) = ⟨t.val / 8 % 2, Nat.mod_lt _ (by decide)⟩ :=
  Fin.ext (by show (grid0.coords t 0).val % 2 = _; rw [(coords_eq t).1])
/-- The slot being prepared at a grid point. -/
theorem other_eq (t : Fin cfg0.N) : other (grid0.coords t) = ⟨1 - t.val / 8 % 2, by omega⟩ :=
  Fin.ext (by show 1 - (grid0.coords t 0).val % 2 = _; rw [(coords_eq t).1])

/-- What the slots hold after the body at a point is what they hold before the next. -/
theorem slots_step (c : Dev nD) (t : Fin cfg0.N) (f : (Memref.whole cc0_scratch0).view.ty.Contents (Elt F))
    (h : Rows (Memref.whole cc0_scratch0).view f (slot (grid0.coords t)) 0 1040 (cur m c (t.val / 8))
      ∧ Rows (Memref.whole cc0_scratch0).view f (other (grid0.coords t)) 0 (16 + ready ((grid0.coords t 1).val + 1)) (laterRows (cur m c (t.val / 8)) (iblk m c 0 t) (iblk m c 1 t) (iblk m c 2 t) (iblk m c 3 t))) :
    Slots m c (t.val + 1) f := by
  have hN := lt_128 t
  obtain ⟨h1, h2⟩ := h
  rw [slot_eq] at h1
  rw [other_eq, (coords_eq t).2] at h2
  unfold Slots
  by_cases h8 : t.val % 8 = 7
  · have e1 : (t.val + 1) / 8 = t.val / 8 + 1 := by omega
    have e2 : (t.val + 1) % 8 = 0 := by omega
    rw [next_eq m c t (by omega)] at h2
    refine ⟨fun _ r hl hr e => ?_, fun r hl hr => absurd hr (by rw [e2]; exact Nat.not_lt.mpr hl)⟩
    have hs : (⟨(t.val + 1) / 8 % 2, Nat.mod_lt _ (by decide)⟩ : Fin 2) = ⟨1 - t.val / 8 % 2, by omega⟩ := Fin.ext (by show (t.val + 1) / 8 % 2 = 1 - t.val / 8 % 2; omega)
    rw [hs, e1]
    exact h2 r hl (by rw [h8]; exact hr) e
  · have e1 : (t.val + 1) / 8 = t.val / 8 := by omega
    have e2 : (t.val + 1) % 8 = t.val % 8 + 1 := by omega
    simp only [e1, e2]
    refine ⟨fun _ => h1, fun r hl hr e => ?_⟩
    by_cases h0 : t.val % 8 = 0
    · rw [h0] at hr
      exact absurd hr (Nat.not_lt.mpr hl)
    rw [next_eq m c t (by omega)] at h2
    exact h2 r (Nat.zero_le _) hr e

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the body returns at a grid point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 800000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7, after_8, phi_eq, phi_eq]
  rw [show (t.castSucc).val = t.val from rfl, show (t.succ).val = t.val + 1 from rfl]
  iintro ⟨⟨⟨⟨%f, HS0, %hf⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h : k0_cond1 (grid0.coords t) = 1#1
  · have ht : t = pt0 := by
      have hc := (cond1_iff _).mp h
      rw [(coords_eq t).1, (coords_eq t).2] at hc
      exact Fin.ext (by show t.val = 0; omega)
    have hk : cur m c (t.val / 8) = firstRows (iblk m c 0 t) (iblk m c 1 t) (iblk m c 2 t) (iblk m c 3 t) := by
      subst ht; rfl
    rw [hk]
    iapply (body_first c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) f h _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, ⟨%f', HS0, %hf'⟩, HS1⟩
    isplitl [HS0 HS1 Hg]
    · isplitl [HS0 HS1]
      · isplitl [HS0]
        · iexists f'
          isplitl [HS0]; · iexact HS0
          ipureintro
          exact slots_step m c t f' (by rw [hk]; exact hf')
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

  · have ht : t.val ≠ 0 := by
      intro h0
      exact h ((cond1_iff _).mpr (by rw [(coords_eq t).1, (coords_eq t).2, h0]; decide))
    have hT : Rows (Memref.whole cc0_scratch0).view f (slot (grid0.coords t)) 0 1040 (cur m c (t.val / 8)) := by
      rw [slot_eq]; exact hf.1 ht
    have hN : Rows (Memref.whole cc0_scratch0).view f (other (grid0.coords t)) 16 (16 + ready (grid0.coords t 1).val) (laterRows (cur m c (t.val / 8)) (iblk m c 0 t) (iblk m c 1 t) (iblk m c 2 t) (iblk m c 3 t)) := by
      rw [other_eq, (coords_eq t).2]
      by_cases h1 : 1 ≤ t.val % 8
      · rw [next_eq m c t h1]; exact hf.2
      · intro r hl hr
        have h0 : t.val % 8 = 0 := by omega
        rw [h0] at hr
        exact absurd hr (Nat.not_lt.mpr hl)
    iapply (body_later c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) f (cur m c (t.val / 8)) h hT hN _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, ⟨%f', HS0, %hf'⟩, HS1⟩
    isplitl [HS0 HS1 Hg]
    · isplitl [HS0 HS1]
      · isplitl [HS0]
        · iexists f'
          isplitl [HS0]; · iexact HS0
          ipureintro
          exact slots_step m c t f' hf'
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body as the region calls it. -/
theorem defs₀_row (t : Fin cfg0.N) :
    defs₀ (F := F) .tc cfg0.body (cfg0.bodyArgs t (cfg0.slots t)) = bodyAt0 t := by
  unfold defs₀; rw [Defs.onTc_tc]

/-- The body's obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run ends with every array at what the windows leave in it, and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := phi_in m) (hout := phi_out m)

/-- Every run ends with every array at what the windows leave in it. -/
theorem run_main : θ_run defs (onTc (τ := τ) (main (F := F))) (s₀ m ρ) (Pipeline.FramePost cfgs (dats m) 0 (V m)) :=
  (θ_run defs _ _).mono (fun _ h => h.1) (run_quiescent m ρ)

/-- Every run ends, with the argument arrays unchanged and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.Proof.FfnUp

end
-- ==== Proof.FfnUpMath.lean ====
module

public import proofs.«01_k».proof.Proof.FfnUpFrame
public import proofs.«01_k».proof.Proof.Gen.Reference7Ideal
public import proofs.«01_k».proof.Proof.Gen.Reference7Ideal.Run
public import Idealize.ShloMosaic.Lib.Pipeline.ValueKit
public import Idealize.ShloMosaic.Lib.Pointwise

@[expose] public section

noncomputable section

namespace Cert.Proof.FfnUp

/-- An entry normed, with the sum of its row's squares, and modulated. -/
def hForm (x s g sc sh : EReal) : EReal :=
  x * Idealize.ShloMosaic.Ideal.rsqrt (Idealize.ShloMosaic.Ideal.div s (Idealize.ShloMosaic.Ideal.ofBits .f32 0x45000000#32) + Idealize.ShloMosaic.Ideal.ofBits .f32 0x358637BD#32)
    * g * (1 + sc) + sh

/-- Three taps of the convolution over the gate, and its bias. -/
def convForm (b g0 c0 g1 c1 g2 c2 : EReal) : EReal := b + g0 * c0 + g1 * c1 + g2 * c2

/-- The gate's activation, in its form with a hyperbolic tangent. -/
def geluForm (u : EReal) : EReal :=
  u * (Idealize.ShloMosaic.Ideal.ofBits .f32 0x3F000000#32 * (1 + Idealize.ShloMosaic.Ideal.tanh (Idealize.ShloMosaic.Ideal.ofBits .f32 0x3F4C422A#32 * (u + Idealize.ShloMosaic.Ideal.ofBits .f32 0x3D372713#32 * (u * u * u)))))

section Reference

open Cert.Reference7Ideal Cert.Reference7Ideal.Gen
open Idealize.ShloMosaic Idealize.ShloMosaic.TcCoe

/-- The batch of a row. -/
def batch (r : Fin 16384) : Fin 8 := ⟨r.val / 2048, by omega⟩
/-- The time of a row. -/
def time (r : Fin 16384) : Fin 2048 := ⟨r.val % 2048, by omega⟩

/-- The reference's normed and modulated input. -/
def refH (x : FVec Ideal S8x2048x2048 .f32) (g : FVec Ideal S2048 .f32) (sc sh : FVec Ideal S8x2048 .f32) : FVec Ideal S8x2048x2048 .f32 :=
  addf (mulf (mulf (mulf x (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf x x) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 g))) (broadcastInDim S8x2048x2048 ![0, 1, 2] bcast_S8x1x2048_S8x2048x2048_0_1_2 (addf (broadcastInDim S8x1x2048 ![] bcast_S_S8x1x2048 (constant S_ .f32 0x3F800000#32)) (broadcastInDim S8x1x2048 ![0, 2] bcast_S8x2048_S8x1x2048_0_2 sc)))) (broadcastInDim S8x2048x2048 ![0, 1, 2] bcast_S8x1x2048_S8x2048x2048_0_1_2 (broadcastInDim S8x1x2048 ![0, 2] bcast_S8x2048_S8x1x2048_0_2 sh))

/-- The reference's product with the whole weight. -/
def refZ (h : FVec Ideal S8x2048x2048 .f32) (w : FVec Ideal S2x2048x12288 .f32) : FVec Ideal S8x2048x12288 .f32 :=
  Host.dotGeneral dot_S8x2048x2048_S2048x12288_S8x2048x12288_2_0_01_1_n_n none h (shapeCast _ (extractStridedSlice S1x2048x12288 ![0, 0, 0] w slices_S2x2048x12288_S1x2048x12288_0_0_0) shapeCasts_S1x2048x12288_S2048x12288)

/-- The reference's gate, behind two rows of zeros in every sequence. -/
def refPad (z : FVec Ideal S8x2048x12288 .f32) : FVec Ideal S8x2050x6144 .f32 :=
  pad S8x2050x6144 ![0, 2, 0] ![0, 0, 0] ![0, 0, 0] (extractStridedSlice S8x2048x6144 ![0, 0, 0] z slices_S8x2048x12288_S8x2048x6144_0_0_0) (sitofp (F := Ideal) .f32 (constantI S_ 32 0#32)) pads_S8x2048x6144_S8x2050x6144_000_200_000 h_S_

/-- The reference's convolution of the gate. -/
def refConv (p : FVec Ideal S8x2050x6144 .f32) (cw : FVec Ideal S3x6144 .f32) (cb : FVec Ideal S6144 .f32) : FVec Ideal S8x2048x6144 .f32 :=
  addf (addf (addf (broadcastInDim S8x2048x6144 ![0, 1, 2] bcast_S1x1x6144_S8x2048x6144_0_1_2 (broadcastInDim S1x1x6144 ![2] bcast_S6144_S1x1x6144_2 cb))
    (mulf (extractStridedSlice S8x2048x6144 ![0, 0, 0] p slices_S8x2050x6144_S8x2048x6144_0_0_0) (broadcastInDim S8x2048x6144 ![0, 1, 2] bcast_S1x1x6144_S8x2048x6144_0_1_2 (broadcastInDim S1x1x6144 ![2] bcast_S6144_S1x1x6144_2 (shapeCast _ (extractStridedSlice S1x6144 ![0, 0] cw slices_S3x6144_S1x6144_0_0) shapeCasts_S1x6144_S6144)))))
    (mulf (extractStridedSlice S8x2048x6144 ![0, 1, 0] p slices_S8x2050x6144_S8x2048x6144_0_1_0) (broadcastInDim S8x2048x6144 ![0, 1, 2] bcast_S1x1x6144_S8x2048x6144_0_1_2 (broadcastInDim S1x1x6144 ![2] bcast_S6144_S1x1x6144_2 (shapeCast _ (extractStridedSlice S1x6144 ![1, 0] cw slices_S3x6144_S1x6144_1_0) shapeCasts_S1x6144_S6144)))))
    (mulf (extractStridedSlice S8x2048x6144 ![0, 2, 0] p slices_S8x2050x6144_S8x2048x6144_0_2_0) (broadcastInDim S8x2048x6144 ![0, 1, 2] bcast_S1x1x6144_S8x2048x6144_0_1_2 (broadcastInDim S1x1x6144 ![2] bcast_S6144_S1x1x6144_2 (shapeCast _ (extractStridedSlice S1x6144 ![2, 0] cw slices_S3x6144_S1x6144_2_0) shapeCasts_S1x6144_S6144))))

/-- The reference's activation of the gate, by the other half of the product, as rows. -/
def refGate (u : FVec Ideal S8x2048x6144 .f32) (z : FVec Ideal S8x2048x12288 .f32) : FVec Ideal S16384x6144 .bf16 :=
  truncf .bf16 (shapeCast _ (mulf (mulf u (mulf (broadcastInDim S8x2048x6144 ![] bcast_S_S8x2048x6144 (constant S_ .f32 0x3F000000#32)) (addf (broadcastInDim S8x2048x6144 ![] bcast_S_S8x2048x6144 (constant S_ .f32 0x3F800000#32)) (Host.tanh (mulf (broadcastInDim S8x2048x6144 ![] bcast_S_S8x2048x6144 (constant S_ .f32 0x3F4C422A#32)) (addf u (mulf (broadcastInDim S8x2048x6144 ![] bcast_S_S8x2048x6144 (constant S_ .f32 0x3D372713#32)) (mulf (mulf u u) u))))))))
    (extractStridedSlice S8x2048x6144 ![0, 0, 6144] z slices_S8x2048x12288_S8x2048x6144_0_0_6144)) shapeCasts_S8x2048x6144_S16384x6144) bitsLt_bf16_f32

/-- The reference's result, from its arguments. -/
def refOut (x : FVec Ideal S8x2048x2048 .f32) (g : FVec Ideal S2048 .f32) (sc sh : FVec Ideal S8x2048 .f32) (w : FVec Ideal S2x2048x12288 .f32)
    (cw : FVec Ideal S3x6144 .f32) (cb : FVec Ideal S6144 .f32) : FVec Ideal S16384x6144 .bf16 :=
  refGate (refConv (refPad (refZ (refH x g sc sh) w)) cw cb) (refZ (refH x g sc sh) w)

/-- The reference's result is what its run leaves. -/
theorem res_eq (m : (ℓ : Loc nD τ sig) → Buf (Elt Ideal) ℓ) (c : Dev nD) :
    Cert.Reference7Ideal.Value.res_main_v65 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

/-- The normed and modulated input at an entry. -/
theorem refH_apply (x : FVec Ideal S8x2048x2048 .f32) (g : FVec Ideal S2048 .f32) (sc sh : FVec Ideal S8x2048 .f32) (b : Fin 8) (t k : Fin 2048) :
    (refH x g sc sh (ix3 b t k) : EReal) = hForm (x (ix3 b t k)) (∑ l : Fin 2048, (x (ix3 b t l) : EReal) * x (ix3 b t l)) (g (ix1 k)) (sc (ix2 b k)) (sh (ix2 b k)) := by
  pointwise [refH]
  rfl

/-- The product at an entry. -/
theorem refZ_apply (h : FVec Ideal S8x2048x2048 .f32) (w : FVec Ideal S2x2048x12288 .f32) (b : Fin 8) (t : Fin 2048) (n : Fin 12288) :
    (refZ h w (ix3 b t n) : EReal) = ∑ k : Fin 2048, (h (ix3 b t k) : EReal) * w (ix3 0 k n) := by
  pointwise [refZ]

/-- The padded gate at an entry: the gate two rows before, or zero where there is none. -/
theorem refPad_apply (z : FVec Ideal S8x2048x12288 .f32) (b : Fin 8) (t : Fin 2050) (n : Fin 6144) :
    (refPad z (ix3 b t n) : EReal) = if h : t.val < 2 then 0 else z (ix3 b ⟨t.val - 2, by omega⟩ ⟨n.val, by omega⟩) := by
  pointwise [refPad]
  by_cases h : t.val < 2
  · have h' : ¬ 2 ≤ t.val := by omega
    simp only [h, h', ↓reduceDIte, ↓reduceIte]
    show (((0#32).toInt : ℝ) : EReal) = 0
    simp
  · have h' : 2 ≤ t.val := by omega
    have h2 : t.val - 2 < 2048 := by omega
    simp only [h, h', h2, and_self, ↓reduceDIte, ↓reduceIte]

/-- The convolution at an entry. -/
theorem refConv_apply (p : FVec Ideal S8x2050x6144 .f32) (cw : FVec Ideal S3x6144 .f32) (cb : FVec Ideal S6144 .f32) (b : Fin 8) (t : Fin 2048) (n : Fin 6144) :
    (refConv p cw cb (ix3 b t n) : EReal) = convForm (cb (ix1 n)) (p (ix3 b ⟨t.val, by omega⟩ n)) (cw (ix2 0 n)) (p (ix3 b ⟨1 + t.val, by omega⟩ n)) (cw (ix2 1 n)) (p (ix3 b ⟨2 + t.val, by omega⟩ n)) (cw (ix2 2 n)) := by
  pointwise [refConv]
  rfl

/-- The activated gate at an entry. -/
theorem refGate_apply (u : FVec Ideal S8x2048x6144 .f32) (z : FVec Ideal S8x2048x12288 .f32) (r : Fin 16384) (n : Fin 6144) :
    (refGate u z (ix2 r n) : EReal) = geluForm (u (ix3 (batch r) (time r) n)) * z (ix3 (batch r) (time r) ⟨6144 + n.val, by omega⟩) := by
  pointwise [refGate]
  rfl

end Reference

section Payloads

open Cert.Kernel7Ideal Cert.Kernel7Ideal.Gen
open Idealize.ShloMosaic Idealize.ShloMosaic.TcCoe

/-- A hundred and sixty rows normed and modulated, at an entry. -/
theorem pay1_apply (x : FVec Ideal S160x2048 .f32) (g : FVec Ideal S1x2048 .f32) (sc sh : FVec Ideal S1x1x2048 .f32) (i : Fin 160) (e : Fin 2048) :
    (k0_pay1 (F := Ideal) (k0_pay12 (F := Ideal) x g sc) sh (ix3 0 i e) : EReal)
      = hForm (x (ix2 i e)) (∑ l : Fin 2048, (x (ix2 i l) : EReal) * x (ix2 i l)) (g (ix2 0 e)) (sc (ix3 0 0 e)) (sh (ix3 0 0 e)) := by
  pointwise [k0_pay1, k0_pay12]
  rfl

/-- Sixteen rows carried over, at an entry. -/
theorem pay2_apply (v : FVec Ideal S1x16x2048 .bf16) (q : Fin 16) (e : Fin 2048) : (k0_pay2 (F := Ideal) v (ix3 0 q e) : EReal) = v (ix3 0 q e) := by
  pointwise [k0_pay2]

/-- A tile's reciprocal roots, at an entry: the row's, in every column. -/
theorem pay4_apply (x : FVec Ideal S1024x2048 .f32) (i : Fin 1024) (e : Fin 128) :
    (k0_pay4 (F := Ideal) x (ix2 i e) : EReal)
      = Ideal.rsqrt (Ideal.div (∑ l : Fin 2048, (x (ix2 i l) : EReal) * x (ix2 i l)) (Ideal.ofBits .f32 0x45000000#32) + Ideal.ofBits .f32 0x358637BD#32) := by
  pointwise [k0_pay4]

/-- Sixteen rows modulated, at an entry. -/
theorem pay5_apply (g : FVec Ideal S1x2048 .f32) (sc sh : FVec Ideal S1x1x2048 .f32) (v : FVec Ideal S16x128 .f32) (x : FVec Ideal S16x2048 .f32) (i : Fin 16) (e : Fin 2048)
    (q : EReal) (hv : ∀ j : Fin 128, (v (ix2 i j) : EReal) = q) :
    (k0_pay5 (F := Ideal) g sc sh v x (ix3 0 i e) : EReal) = (x (ix2 i e) : EReal) * q * g (ix2 0 e) * (1 + sc (ix3 0 0 e)) + sh (ix3 0 0 e) := by
  unfold k0_pay5
  generalize hC : concatenate S16x2048 1 _ _ = C
  have hc : (C (ix2 i e) : EReal) = q := by
    rw [← hC]
    refine (concatenate_replicate_apply (t := S16x2048) 1 16 v _ rfl (ix2 i e) (ix2 i ⟨e.val % 128, Nat.mod_lt _ (by decide)⟩) rfl fun b hb => ?_).trans (hv _)
    fin_cases b
    · rfl
    · exact absurd rfl hb
  clear hC
  pointwise
  rw [hc]

/-- The gate's product at an entry. -/
theorem pay7_apply (h : FVec Ideal S1x1040x2048 .bf16) (w : FVec Ideal S1x2048x768 .bf16) (i : Fin 1040) (e : Fin 768) :
    (k0_pay7 (F := Ideal) h w (ix2 i e) : EReal) = ∑ k : Fin 2048, (h (ix3 0 i k) : EReal) * w (ix3 0 k e) := by
  pointwise [k0_pay7, k0_pay6]

/-- The other half's product at an entry: the rows behind the first sixteen. -/
theorem pay8_apply (h : FVec Ideal S1x1040x2048 .bf16) (w : FVec Ideal S1x2048x768 .bf16) (i : Fin 1024) (e : Fin 768) :
    (k0_pay8 (F := Ideal) h w (ix2 i e) : EReal) = ∑ k : Fin 2048, (h (ix3 0 ⟨16 + i.val, by omega⟩ k) : EReal) * w (ix3 0 k e) := by
  pointwise [k0_pay8, k0_pay6]

/-- The activated gate by the other half, at an entry. -/
theorem pay11_apply (z u : FVec Ideal S1024x768 .f32) (t : FVec Ideal S1024x768 .f32) (i : Fin 1024) (e : Fin 768)
    (ht : (t (ix2 i e) : EReal) = (u (ix2 i e) : EReal) + Ideal.ofBits .f32 0x3D372713#32 * ((u (ix2 i e) : EReal) * ((u (ix2 i e) : EReal) * u (ix2 i e)))) :
    (k0_pay11 (F := Ideal) z u t (ix2 i e) : EReal) = geluForm (u (ix2 i e)) * z (ix2 i e) := by
  pointwise [k0_pay11]
  rw [ht, ← mul_assoc (u (ix2 i e) : EReal) (u (ix2 i e)) (u (ix2 i e))]
  rfl

/-- Whether a grid point's first row starts a sequence, as the body works it out. -/
def seqBit (v27 v28 : BitVec 32) (v29 v30 : BitVec 1) (c0 : BitVec 32) : BitVec 1 :=
  Scalar.cmpi .eq (Scalar.select (Scalar.andi (Scalar.xori v30 (Scalar.cmpi .slt v27 c0)) v29) (Scalar.addi v28 v27) v28) 0#32

/-- A grid point's first row starts a sequence at every second tile. -/
theorem seqBit_eq : ∀ i : grid0.Coords, seqBit seqLen (seqPos i) (Scalar.cmpi .ne (seqPos i) 0#32) (Scalar.cmpi .slt (seqPos i) 0#32) 0#32
    = if (i 0).val % 2 = 0 then 1#1 else 0#1 := by decide +kernel

/-- The convolution of a block of the gate, from whether its first row starts a sequence. -/
def convOf (b : BitVec 1) (v20 : FVec Ideal S1040x768 .f32) (v38 v48 v61 v66 : FVec Ideal S1x768 .f32) : FVec Ideal S1024x768 .f32 :=
  have v37 : IVec S1024x1 32 := iota .tc S1024x1 32 [0] iota_S1024x1_d0_w32
  have v39 : FVec Ideal S1x768 .f32 := shapeCast S1x768 v38 shapeCasts_S1x768_S1x768
  have v40 : FVec Ideal S1024x768 .f32 := extractStridedSlice S1024x768 ![14, 0] v20 slices_S1040x768_o14_0_S1024x768
  let v41 : BitVec 32 := Scalar.select b 2#32 0#32
  have v42 : IVec S1024x1 32 := broadcast S1024x1 v41
  have v43 : IVec S1024x1 1 := cmpi .sge v37 v42
  have cst_24 : Ideal .f32 := Scalar.ofBits .f32 0x00000000#32
  have v44 : IVec S1024x1 1 := shapeCast S1024x1 v43 shapeCasts_S1024x1_S1024x1
  have v45 : IVec S1024x768 1 := broadcastTo S1024x768 v44 broadcasts_S1024x1_S1024x768
  have v46 : FVec Ideal S1024x768 .f32 := broadcast S1024x768 cst_24
  have v47 : FVec Ideal S1024x768 .f32 := select v45 v40 v46
  have v49 : FVec Ideal S1024x768 .f32 := broadcastTo S1024x768 v48 broadcasts_S1x768_S1024x768
  have v50 : FVec Ideal S1024x768 .f32 := mulf v47 v49
  have v51 : FVec Ideal S1024x768 .f32 := broadcastTo S1024x768 v39 broadcasts_S1x768_S1024x768
  have v52 : FVec Ideal S1024x768 .f32 := addf v51 v50
  have v53 : FVec Ideal S1024x768 .f32 := extractStridedSlice S1024x768 ![15, 0] v20 slices_S1040x768_o15_0_S1024x768
  let v54 : BitVec 32 := Scalar.select b 1#32 0#32
  have v55 : IVec S1024x1 32 := broadcast S1024x1 v54
  have v56 : IVec S1024x1 1 := cmpi .sge v37 v55
  have cst_29 : Ideal .f32 := Scalar.ofBits .f32 0x00000000#32
  have v57 : IVec S1024x1 1 := shapeCast S1024x1 v56 shapeCasts_S1024x1_S1024x1
  have v58 : IVec S1024x768 1 := broadcastTo S1024x768 v57 broadcasts_S1024x1_S1024x768
  have v59 : FVec Ideal S1024x768 .f32 := broadcast S1024x768 cst_29
  have v60 : FVec Ideal S1024x768 .f32 := select v58 v53 v59
  have v62 : FVec Ideal S1024x768 .f32 := broadcastTo S1024x768 v61 broadcasts_S1x768_S1024x768
  have v63 : FVec Ideal S1024x768 .f32 := mulf v60 v62
  have v64 : FVec Ideal S1024x768 .f32 := addf v52 v63
  have v65 : FVec Ideal S1024x768 .f32 := extractStridedSlice S1024x768 ![16, 0] v20 slices_S1040x768_o16_0_S1024x768
  have v67 : FVec Ideal S1024x768 .f32 := broadcastTo S1024x768 v66 broadcasts_S1x768_S1024x768
  have v68 : FVec Ideal S1024x768 .f32 := mulf v65 v67
  have v69 : FVec Ideal S1024x768 .f32 := addf v64 v68
  v69

/-- The body's convolution is that one. -/
theorem pay9_eq (v20 : FVec Ideal S1040x768 .f32) (v27 v28 : BitVec 32) (v29 v30 : BitVec 1) (c0 : BitVec 32) (v38 v48 v61 v66 : FVec Ideal S1x768 .f32) :
    k0_pay9 (F := Ideal) v20 v27 v28 v29 v30 c0 v38 v48 v61 v66 = convOf (seqBit v27 v28 v29 v30 c0) v20 v38 v48 v61 v66 := rfl

/-- Comparing a row with two. -/
theorem sge_two : ∀ i : Fin 1024, IntOp.cmpi .sge (BitVec.ofNat 32 i.val) 2#32 = if i.val < 2 then 0#1 else 1#1 := by decide +kernel

/-- Comparing a row with one. -/
theorem sge_one : ∀ i : Fin 1024, IntOp.cmpi .sge (BitVec.ofNat 32 i.val) 1#32 = if i.val < 1 then 0#1 else 1#1 := by decide +kernel

/-- Comparing a row with nought. -/
theorem sge_zero : ∀ i : Fin 1024, IntOp.cmpi .sge (BitVec.ofNat 32 i.val) 0#32 = 1#1 := by decide +kernel

/-- The convolution at an entry, where the first row starts a sequence. -/
theorem convOf_one (z : FVec Ideal S1040x768 .f32) (b c0 c1 c2 : FVec Ideal S1x768 .f32) (i : Fin 1024) (e : Fin 768) :
    (convOf 1#1 z b c0 c1 c2 (ix2 i e) : EReal) = convForm (b (ix2 0 e)) (if i.val < 2 then 0 else z (ix2 ⟨14 + i.val, by omega⟩ e)) (c0 (ix2 0 e))
      (if i.val < 1 then 0 else z (ix2 ⟨15 + i.val, by omega⟩ e)) (c1 (ix2 0 e)) (z (ix2 ⟨16 + i.val, by omega⟩ e)) (c2 (ix2 0 e)) := by
  pointwise [convOf]
  rw [sge_two i, sge_one i]
  by_cases h1 : i.val < 1
  · have h2 : i.val < 2 := by omega
    simp only [h1, h2, ↓reduceIte, convForm, zero_mul]
    rfl
  · by_cases h2 : i.val < 2
    · simp only [h1, h2, ↓reduceIte, convForm, zero_mul]
      rfl
    · simp only [h1, h2, ↓reduceIte, convForm]
      rfl

/-- The convolution at an entry, where the first row goes on with a sequence. -/
theorem convOf_zero (z : FVec Ideal S1040x768 .f32) (b c0 c1 c2 : FVec Ideal S1x768 .f32) (i : Fin 1024) (e : Fin 768) :
    (convOf 0#1 z b c0 c1 c2 (ix2 i e) : EReal) = convForm (b (ix2 0 e)) (z (ix2 ⟨14 + i.val, by omega⟩ e)) (c0 (ix2 0 e))
      (z (ix2 ⟨15 + i.val, by omega⟩ e)) (c1 (ix2 0 e)) (z (ix2 ⟨16 + i.val, by omega⟩ e)) (c2 (ix2 0 e)) := by
  pointwise [convOf]
  rw [sge_zero i]
  rfl

/-- The first tile at an entry. -/
theorem firstTile_apply (X : FVec Ideal S1024x2048 .f32) (g : FVec Ideal S1x2048 .f32) (sc sh : FVec Ideal S1x1x2048 .f32) (r : Fin 1024) (e : Fin 2048) :
    (firstTile X g sc sh r e : EReal) = hForm (X (ix2 r e)) (∑ l : Fin 2048, (X (ix2 r l) : EReal) * X (ix2 r l)) (g (ix2 0 e)) (sc (ix3 0 0 e)) (sh (ix3 0 0 e)) := by
  have hr : (⟨16 * (r.val / 16) + r.val % 16, by omega⟩ : Fin 1024) = r := Fin.ext (by show 16 * (r.val / 16) + r.val % 16 = r.val; omega)
  unfold firstTile
  refine (pay5_apply g sc sh _ _ ⟨r.val % 16, by omega⟩ e _ fun j => (pay4_apply X ⟨16 * (r.val / 16) + r.val % 16, by omega⟩ j)).trans ?_
  show (X (ix2 ⟨16 * (r.val / 16) + r.val % 16, _⟩ e) : EReal) * _ * _ * _ + _ = _
  rw [hr]
  rfl

/-- A later tile at an entry. -/
theorem nextTile_apply (X : FVec Ideal S1024x2048 .f32) (g : FVec Ideal S1x2048 .f32) (sc sh : FVec Ideal S1x1x2048 .f32) (r : Fin 1024) (e : Fin 2048) :
    (nextTile X g sc sh r e : EReal) = hForm (X (ix2 r e)) (∑ l : Fin 2048, (X (ix2 r l) : EReal) * X (ix2 r l)) (g (ix2 0 e)) (sc (ix3 0 0 e)) (sh (ix3 0 0 e)) := by
  have hle : start r.val ≤ r.val := by unfold start; split_ifs <;> omega
  have hr : ∀ h, (⟨start r.val + (r.val - start r.val), h⟩ : Fin 1024) = r := fun h => Fin.ext (by show start r.val + (r.val - start r.val) = r.val; omega)
  unfold nextTile
  refine (pay1_apply _ g sc sh ⟨r.val - start r.val, start_lt r.val r.isLt⟩ e).trans ?_
  have key : ∀ r' : Fin 1024, r' = r → hForm (X (ix2 r' e)) (∑ l : Fin 2048, (X (ix2 r' l) : EReal) * X (ix2 r' l)) (g (ix2 0 e)) (sc (ix3 0 0 e)) (sh (ix3 0 0 e))
      = hForm (X (ix2 r e)) (∑ l : Fin 2048, (X (ix2 r l) : EReal) * X (ix2 r l)) (g (ix2 0 e)) (sc (ix3 0 0 e)) (sh (ix3 0 0 e)) := by
    rintro _ rfl
    rfl
  exact key _ (hr _)

end Payloads

end Cert.Proof.FfnUp

end
-- ==== Proof.FfnUp.lean ====
module

public import proofs.«01_k».proof.Defs
public import proofs.«01_k».proof.Proof.Gen.Kernel7
public import proofs.«01_k».proof.Proof.FfnUpMath
public import Idealize.ShloMosaic.Lib.Quiescent

@[expose] public section

/-! The gated product of the normed and modulated input. -/

noncomputable section

namespace Cert.Proof.FfnUp

open Cert.Kernel7Ideal Cert.Kernel7Ideal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- The tile at a grid point's window. -/
def tileAt (t : Fin cfg0.N) : Fin 16 := ⟨if t.val = 0 then 0 else min (t.val / 8 + 1) 15, by split_ifs <;> omega⟩
/-- The tile of a grid point. -/
def tileOut (t : Fin cfg0.N) : Fin 16 := ⟨t.val / 8, by have := lt_128 t; omega⟩
/-- Row `i` of a tile, in the whole array. -/
def row (I : Fin 16) (i : Fin 1024) : Fin 16384 := ⟨1024 * I.val + i.val, by omega⟩
/-- Column `e` of a grid point's block of columns, in the whole array. -/
def col (t : Fin cfg0.N) (e : Fin 768) : Fin 6144 := ⟨768 * (t.val % 8) + e.val, by omega⟩

/-! What the host prepares. -/

/-- Array `main_v0` is an argument, reshaped. -/
theorem V_v0 (c : Dev nD) : V m c main_v0 = shapeCast S16384x2048 (m ((c : Thread nD τ).loc main_arg0)) shapeCasts_S8x2048x2048_S16384x2048 := by
  simp only [V, hostOps0]
  after_results
  rfl

/-- Array `main_v1` is an argument, reshaped. -/
theorem V_v1 (c : Dev nD) : V m c main_v1 = shapeCast S1x2048 (m ((c : Thread nD τ).loc main_arg1)) shapeCasts_S2048_S1x2048 := by
  simp only [V, hostOps0]
  after_results
  rfl

/-- Array `main_v2` is an argument, reshaped. -/
theorem V_v2 (c : Dev nD) : V m c main_v2 = shapeCast S8x1x2048 (m ((c : Thread nD τ).loc main_arg2)) shapeCasts_S8x2048_S8x1x2048 := by
  simp only [V, hostOps0]
  after_results
  rfl

/-- Array `main_v3` is an argument, reshaped. -/
theorem V_v3 (c : Dev nD) : V m c main_v3 = shapeCast S8x1x2048 (m ((c : Thread nD τ).loc main_arg3)) shapeCasts_S8x2048_S8x1x2048 := by
  simp only [V, hostOps0]
  after_results
  rfl

/-- Array `main_v5` is an argument, reshaped. -/
theorem V_v5 (c : Dev nD) : V m c main_v5 = shapeCast S1x6144 (m ((c : Thread nD τ).loc main_arg6)) shapeCasts_S6144_S1x6144 := by
  simp only [V, hostOps0]
  after_results
  rfl

/-- Array `main_v4` is the weight, rounded. -/
theorem V_v4 (c : Dev nD) : V m c main_v4 = truncf (F := Ideal) .bf16 (m ((c : Thread nD τ).loc main_arg4)) bitsLt_bf16_f32 := by
  simp only [V, hostOps0]
  after_results

/-- The rows of all sequences, at an entry. -/
theorem cast0 (x : FVec Ideal S8x2048x2048 .f32) (r : Fin 16384) (k : Fin 2048) : (shapeCast S16384x2048 x shapeCasts_S8x2048x2048_S16384x2048 (ix2 r k) : EReal) = x (ix3 (batch r) (time r) k) := by
  pointwise
  rfl
/-- A vector as one row, at an entry. -/
theorem cast1 (x : FVec Ideal S2048 .f32) (k : Fin 2048) : (shapeCast S1x2048 x shapeCasts_S2048_S1x2048 (ix2 0 k) : EReal) = x (ix1 k) := by
  pointwise
/-- A vector for every sequence, at an entry. -/
theorem cast2 (x : FVec Ideal S8x2048 .f32) (b : Fin 8) (k : Fin 2048) : (shapeCast S8x1x2048 x shapeCasts_S8x2048_S8x1x2048 (ix3 b 0 k) : EReal) = x (ix2 b k) := by
  pointwise
/-- The bias as one row, at an entry. -/
theorem cast5 (x : FVec Ideal S6144 .f32) (k : Fin 6144) : (shapeCast S1x6144 x shapeCasts_S6144_S1x6144 (ix2 0 k) : EReal) = x (ix1 k) := by
  pointwise

/-! The blocks a grid point reads, from the whole arguments. -/

/-- Window 0's block, at an entry. -/
theorem block0 (c : Dev nD) (t : Fin cfg0.N) (i : Fin 1024) (k : Fin 2048) :
    (iblk m c 0 t (ix2 i k) : EReal) = m ((c : Thread nD τ).loc main_arg0) (ix3 (batch (row (tileAt t) i)) (time (row (tileAt t) i)) k) := by
  blk_simp [iblk]
  refine (congrArg (V m c main_v0) ?_).trans ((congrFun (V_v0 m c) (ix2 (row (tileAt t) i) k)).trans (cast0 _ _ _))
  blk_ext [ind0, row, tileAt]

/-- Window 1's block, at an entry. -/
theorem block1 (c : Dev nD) (t : Fin cfg0.N) (k : Fin 2048) :
    (iblk m c 1 t (ix2 0 k) : EReal) = m ((c : Thread nD τ).loc main_arg1) (ix1 k) := by
  blk_simp [iblk]
  refine (congrArg (V m c main_v1) ?_).trans ((congrFun (V_v1 m c) (ix2 0 k)).trans (cast1 _ _))
  blk_ext [ind1]

/-- Window 2's block, at an entry. -/
theorem block2 (c : Dev nD) (t : Fin cfg0.N) (i : Fin 1024) (k : Fin 2048) :
    (iblk m c 2 t (ix3 0 0 k) : EReal) = m ((c : Thread nD τ).loc main_arg2) (ix2 (batch (row (tileAt t) i)) k) := by
  blk_simp [iblk]
  refine (congrArg (V m c main_v2) ?_).trans ((congrFun (V_v2 m c) (ix3 (batch (row (tileAt t) i)) 0 k)).trans (cast2 _ _ _))
  blk_ext [ind2, row, batch, tileAt]

/-- Window 3's block, at an entry. -/
theorem block3 (c : Dev nD) (t : Fin cfg0.N) (i : Fin 1024) (k : Fin 2048) :
    (iblk m c 3 t (ix3 0 0 k) : EReal) = m ((c : Thread nD τ).loc main_arg3) (ix2 (batch (row (tileAt t) i)) k) := by
  blk_simp [iblk]
  refine (congrArg (V m c main_v3) ?_).trans ((congrFun (V_v3 m c) (ix3 (batch (row (tileAt t) i)) 0 k)).trans (cast2 _ _ _))
  blk_ext [ind3, row, batch, tileAt]

/-- Window 4's block, at an entry. -/
theorem block4 (c : Dev nD) (t : Fin cfg0.N) (k : Fin 2048) (e : Fin 768) :
    (iblk m c 4 t (ix3 0 k e) : EReal) = m ((c : Thread nD τ).loc main_arg4) (ix3 0 k ⟨(col t e).val, by omega⟩) := by
  blk_simp [iblk]
  refine (congrArg (V m c main_v4) ?_).trans ((congrFun (V_v4 m c) (ix3 0 k ⟨(col t e).val, by omega⟩)).trans rfl)
  blk_ext [ind4, col]

/-- Window 5's block, at an entry. -/
theorem block5 (c : Dev nD) (t : Fin cfg0.N) (k : Fin 2048) (e : Fin 768) :
    (iblk m c 5 t (ix3 0 k e) : EReal) = m ((c : Thread nD τ).loc main_arg4) (ix3 0 k ⟨6144 + (col t e).val, by omega⟩) := by
  blk_simp [iblk]
  refine (congrArg (V m c main_v4) ?_).trans ((congrFun (V_v4 m c) (ix3 0 k ⟨6144 + (col t e).val, by omega⟩)).trans rfl)
  blk_ext [ind5, col]

/-- Window 6's block, at an entry. -/
theorem block6 (c : Dev nD) (t : Fin cfg0.N) (j : Fin 3) (e : Fin 768) :
    (iblk m c 6 t (ix2 j e) : EReal) = m ((c : Thread nD τ).loc main_arg5) (ix2 j (col t e)) := by
  blk_simp [iblk]
  refine (congrArg (V m c main_arg5) ?_).trans (congrFun (V_main_arg5 m c) (ix2 j (col t e)))
  blk_ext [ind6, col]

/-- Window 7's block, at an entry. -/
theorem block7 (c : Dev nD) (t : Fin cfg0.N) (e : Fin 768) :
    (iblk m c 7 t (ix2 0 e) : EReal) = m ((c : Thread nD τ).loc main_arg6) (ix1 (col t e)) := by
  blk_simp [iblk]
  refine (congrArg (V m c main_v5) ?_).trans ((congrFun (V_v5 m c) (ix2 0 (col t e))).trans (cast5 _ _))
  blk_ext [ind7, col]

/-- The rows of a tile behind its first sixteen are the reference's rows. -/
theorem cur_apply (c : Dev nD) : ∀ (k : ℕ) (hk : k < 16) (r : Fin 1040) (hr : 16 ≤ r.val) (e : Fin 2048),
    (cur m c k r e : EReal) = (refH (m ((c : Thread nD τ).loc main_arg0)) (m ((c : Thread nD τ).loc main_arg1)) (m ((c : Thread nD τ).loc main_arg2)) (m ((c : Thread nD τ).loc main_arg3))) (ix3 (batch (row ⟨k, hk⟩ ⟨r.val - 16, by omega⟩)) (time (row ⟨k, hk⟩ ⟨r.val - 16, by omega⟩)) e)
  | 0, hk, r, hr, e => by
    have ht : tileAt pt0 = ⟨0, hk⟩ := Fin.ext rfl
    show (firstRows (F := Ideal) (iblk m c 0 pt0) (iblk m c 1 pt0) (iblk m c 2 pt0) (iblk m c 3 pt0) r e : EReal) = _
    unfold firstRows
    rw [if_neg (by omega)]
    refine (firstTile_apply _ _ _ _ _ e).trans (.trans ?_ (refH_apply _ _ _ _ _ _ _).symm)
    simp only [block0 m c pt0, block1 m c pt0, block2 m c pt0 ⟨r.val - 16, by omega⟩, block3 m c pt0 ⟨r.val - 16, by omega⟩, ht]
  | k + 1, hk, r, hr, e => by
    have ht : tileAt (pt k) = ⟨k + 1, hk⟩ := Fin.ext (by
      show (if (8 * k + 1) % 128 = 0 then 0 else min ((8 * k + 1) % 128 / 8 + 1) 15) = k + 1
      have h1 : (8 * k + 1) % 128 = 8 * k + 1 := Nat.mod_eq_of_lt (by omega)
      rw [h1, if_neg (by omega)]; omega)
    show (laterRows (F := Ideal) (cur m c k) (iblk m c 0 (pt k)) (iblk m c 1 (pt k)) (iblk m c 2 (pt k)) (iblk m c 3 (pt k)) r e : EReal) = _
    unfold laterRows
    rw [if_neg (by omega)]
    refine (nextTile_apply _ _ _ _ _ e).trans (.trans ?_ (refH_apply _ _ _ _ _ _ _).symm)
    simp only [block0 m c (pt k), block1 m c (pt k), block2 m c (pt k) ⟨r.val - 16, by omega⟩, block3 m c (pt k) ⟨r.val - 16, by omega⟩, ht]

/-- The first sixteen rows of a tile are the last of the one before. -/
theorem cur_halo (c : Dev nD) (k : ℕ) (r : Fin 1040) (hr : r.val < 16) (e : Fin 2048) :
    (cur m c (k + 1) r e : EReal) = cur m c k ⟨1024 + r.val, by omega⟩ e := by
  show (laterRows (F := Ideal) (cur m c k) (iblk m c 0 (pt k)) (iblk m c 1 (pt k)) (iblk m c 2 (pt k)) (iblk m c 3 (pt k)) r e : EReal) = _
  unfold laterRows
  rw [if_pos hr]
  refine (pay2_apply _ _ e).trans ?_
  refine congrArg (fun q => (cur m c k q e : EReal)) (Fin.ext ?_)
  show 1024 + r.val % 16 = 1024 + r.val
  rw [Nat.mod_eq_of_lt hr]

/-- Every row of a tile, and of the sixteen before it, is the reference's row. -/
theorem cur_row (c : Dev nD) (k : ℕ) (hk : k < 16) (r : Fin 1040) (R : Fin 16384) (hR : R.val + 16 = 1024 * k + r.val) (e : Fin 2048) :
    (cur m c k r e : EReal) = (refH (m ((c : Thread nD τ).loc main_arg0)) (m ((c : Thread nD τ).loc main_arg1)) (m ((c : Thread nD τ).loc main_arg2)) (m ((c : Thread nD τ).loc main_arg3))) (ix3 (batch R) (time R) e) := by
  by_cases hr : 16 ≤ r.val
  · have hq : row ⟨k, hk⟩ ⟨r.val - 16, by omega⟩ = R := Fin.ext (by show 1024 * k + (r.val - 16) = R.val; omega)
    rw [cur_apply m c k hk r hr e, hq]
  · obtain ⟨l, rfl⟩ : ∃ l, k = l + 1 := ⟨k - 1, by omega⟩
    have hq : row ⟨l, by omega⟩ ⟨1024 + r.val - 16, by omega⟩ = R := Fin.ext (by show 1024 * l + (1024 + r.val - 16) = R.val; omega)
    rw [cur_halo m c l r (by omega) e, cur_apply m c l (by omega) ⟨1024 + r.val, by omega⟩ (by show 16 ≤ 1024 + r.val; omega) e]
    exact congrArg (fun q => (refH (m ((c : Thread nD τ).loc main_arg0)) (m ((c : Thread nD τ).loc main_arg1)) (m ((c : Thread nD τ).loc main_arg2)) (m ((c : Thread nD τ).loc main_arg3))) (ix3 (batch q) (time q) e)) hq

/-- The gate's product at a row of a tile, or of the sixteen before it. -/
theorem gate_row (c : Dev nD) (t : Fin cfg0.N) (r : Fin 1040) (R : Fin 16384) (hR : R.val + 16 = 1024 * (t.val / 8) + r.val) (e : Fin 768) :
    (k0_pay7 (F := Ideal) (tileOf (cur m c (t.val / 8))) (iblk m c 4 t) (ix2 r e) : EReal) = (refZ (refH (m ((c : Thread nD τ).loc main_arg0)) (m ((c : Thread nD τ).loc main_arg1)) (m ((c : Thread nD τ).loc main_arg2)) (m ((c : Thread nD τ).loc main_arg3))) (m ((c : Thread nD τ).loc main_arg4))) (ix3 (batch R) (time R) ⟨(col t e).val, by omega⟩) := by
  refine (pay7_apply _ _ r e).trans (.trans ?_ (refZ_apply _ _ _ _ _).symm)
  exact Finset.sum_congr rfl fun k _ => congrArg₂ _ (cur_row m c (t.val / 8) (tileOut t).isLt r R hR k) (block4 m c t k e)

/-- The other half's product at a row of a tile. -/
theorem val_row (c : Dev nD) (t : Fin cfg0.N) (i : Fin 1024) (e : Fin 768) :
    (k0_pay8 (F := Ideal) (tileOf (cur m c (t.val / 8))) (iblk m c 5 t) (ix2 i e) : EReal)
      = (refZ (refH (m ((c : Thread nD τ).loc main_arg0)) (m ((c : Thread nD τ).loc main_arg1)) (m ((c : Thread nD τ).loc main_arg2)) (m ((c : Thread nD τ).loc main_arg3))) (m ((c : Thread nD τ).loc main_arg4))) (ix3 (batch (row (tileOut t) i)) (time (row (tileOut t) i)) ⟨6144 + (col t e).val, by omega⟩) := by
  refine (pay8_apply _ _ i e).trans (.trans ?_ (refZ_apply _ _ _ _ _).symm)
  exact Finset.sum_congr rfl fun k _ => congrArg₂ _ (cur_row m c (t.val / 8) (tileOut t).isLt ⟨16 + i.val, by omega⟩ (row (tileOut t) i)
    (by show 1024 * (t.val / 8) + i.val + 16 = 1024 * (t.val / 8) + (16 + i.val); omega) k) (block5 m c t k e)

/-- The reference's padded gate, two rows or more into a sequence. -/
theorem pad_row (z : FVec Ideal Cert.Reference7Ideal.S8x2048x12288 .f32) (b : Fin 8) (q : Fin 2050) (n : Fin 6144) (R : Fin 16384) (hq : 2 ≤ q.val) (hR : 2048 * b.val + q.val = R.val + 2) :
    (refPad z (ix3 b q n) : EReal) = z (ix3 (batch R) (time R) ⟨n.val, by omega⟩) := by
  have e1 : batch R = b := Fin.ext (by show R.val / 2048 = b.val; omega)
  have e2 : time R = ⟨q.val - 2, by omega⟩ := Fin.ext (by show R.val % 2048 = q.val - 2; omega)
  rw [refPad_apply, dif_neg (by omega), e1, e2]

/-- The reference's padded gate at the start of a sequence. -/
theorem pad_zero (z : FVec Ideal Cert.Reference7Ideal.S8x2048x12288 .f32) (b : Fin 8) (q : Fin 2050) (n : Fin 6144) (hq : q.val < 2) :
    (refPad z (ix3 b q n) : EReal) = 0 := by
  rw [refPad_apply, dif_pos hq]

/-- A tap of the gate, two rows or more into a sequence, is the reference's. -/
theorem tap_eq (c : Dev nD) (t : Fin cfg0.N) (i : Fin 1024) (e : Fin 768) (j : ℕ) (hj : j ≤ 2) (r : Fin 1040) (hr : r.val = 14 + j + i.val)
    (q : Fin 2050) (hq : q.val = j + (time (row (tileOut t) i)).val) (h2 : 2 ≤ q.val) :
    (k0_pay7 (F := Ideal) (tileOf (cur m c (t.val / 8))) (iblk m c 4 t) (ix2 r e) : EReal) = refPad (refZ (refH (m ((c : Thread nD τ).loc main_arg0)) (m ((c : Thread nD τ).loc main_arg1)) (m ((c : Thread nD τ).loc main_arg2)) (m ((c : Thread nD τ).loc main_arg3))) (m ((c : Thread nD τ).loc main_arg4))) (ix3 (batch (row (tileOut t) i)) q (col t e)) := by
  have ht := lt_128 t
  have hq' : q.val = j + (1024 * (t.val / 8) + i.val) % 2048 := hq
  have hi := i.isLt
  have hR : 1024 * (t.val / 8) + i.val + j - 2 < 16384 := by omega
  refine (gate_row m c t r ⟨1024 * (t.val / 8) + i.val + j - 2, hR⟩ (by show 1024 * (t.val / 8) + i.val + j - 2 + 16 = _; omega) e).trans (pad_row _ _ q _ _ h2 ?_).symm
  show 2048 * ((1024 * (t.val / 8) + i.val) / 2048) + q.val = 1024 * (t.val / 8) + i.val + j - 2 + 2
  omega

/-- The convolution of a grid point's block of the gate is the reference's. -/
theorem conv_eq (c : Dev nD) (t : Fin cfg0.N) (i : Fin 1024) (e : Fin 768) :
    (k0_pay9 (F := Ideal) (k0_pay7 (tileOf (cur m c (t.val / 8))) (iblk m c 4 t)) seqLen (seqPos (grid0.coords t)) (Scalar.cmpi .ne (seqPos (grid0.coords t)) 0#32) (Scalar.cmpi .slt (seqPos (grid0.coords t)) 0#32) 0#32
        (iblk m c 7 t) (tap (F := Ideal) (iblk m c 6 t) 0) (tap (F := Ideal) (iblk m c 6 t) 1) (tap (F := Ideal) (iblk m c 6 t) 2) (ix2 i e) : EReal)
      = refConv (refPad (refZ (refH (m ((c : Thread nD τ).loc main_arg0)) (m ((c : Thread nD τ).loc main_arg1)) (m ((c : Thread nD τ).loc main_arg2)) (m ((c : Thread nD τ).loc main_arg3))) (m ((c : Thread nD τ).loc main_arg4)))) (m ((c : Thread nD τ).loc main_arg5)) (m ((c : Thread nD τ).loc main_arg6)) (ix3 (batch (row (tileOut t) i)) (time (row (tileOut t) i)) (col t e)) := by
  have hT : (time (row (tileOut t) i)).val = (1024 * (t.val / 8) + i.val) % 2048 := rfl
  have hi := i.isLt
  rw [pay9_eq, seqBit_eq, (coords_eq t).1, refConv_apply]
  have g2 := tap_eq m c t i e 2 (by omega) ⟨16 + i.val, by omega⟩ (by show 16 + i.val = _; omega) ⟨2 + (time (row (tileOut t) i)).val, by omega⟩ rfl (by show 2 ≤ 2 + _; omega)
  by_cases hp : t.val / 8 % 2 = 0
  · have hT' : (time (row (tileOut t) i)).val = i.val := by rw [hT]; omega
    rw [if_pos hp]
    refine (convOf_one _ _ _ _ _ i e).trans ?_
    refine congr (congr (congr (congr (congr (congrArg₂ convForm (block7 m c t e) ?_) (block6 m c t 0 e)) ?_) (block6 m c t 1 e)) g2) (block6 m c t 2 e)
    · split_ifs with h
      · exact (pad_zero _ _ _ _ (by show (time (row (tileOut t) i)).val < 2; omega)).symm
      · exact tap_eq m c t i e 0 (by omega) _ (by show 14 + i.val = _; omega) _ (by show (time (row (tileOut t) i)).val = _; omega) (by show 2 ≤ (time (row (tileOut t) i)).val; omega)
    · split_ifs with h
      · exact (pad_zero _ _ _ _ (by show 1 + (time (row (tileOut t) i)).val < 2; omega)).symm
      · exact tap_eq m c t i e 1 (by omega) _ (by show 15 + i.val = _; omega) _ rfl (by show 2 ≤ 1 + (time (row (tileOut t) i)).val; omega)
  · have hT' : (time (row (tileOut t) i)).val = 1024 + i.val := by rw [hT]; omega
    rw [if_neg hp]
    refine (convOf_zero _ _ _ _ _ i e).trans ?_
    refine congr (congr (congr (congr (congr (congrArg₂ convForm (block7 m c t e) ?_) (block6 m c t 0 e)) ?_) (block6 m c t 1 e)) g2) (block6 m c t 2 e)
    · exact tap_eq m c t i e 0 (by omega) _ (by show 14 + i.val = _; omega) _ (by show (time (row (tileOut t) i)).val = _; omega) (by show 2 ≤ (time (row (tileOut t) i)).val; omega)
    · exact tap_eq m c t i e 1 (by omega) _ (by show 15 + i.val = _; omega) _ rfl (by show 2 ≤ 1 + (time (row (tileOut t) i)).val; omega)

/-- The cubed term of the activation, from the convolution, at an entry. -/
theorem pay10_apply (v20 : FVec Ideal S1040x768 .f32) (v27 v28 : BitVec 32) (v29 v30 : BitVec 1) (c0 : BitVec 32) (v38 v48 v61 v66 : FVec Ideal S1x768 .f32) (u : EReal) (i : Fin 1024) (e : Fin 768)
    (hu : (k0_pay9 (F := Ideal) v20 v27 v28 v29 v30 c0 v38 v48 v61 v66 (ix2 i e) : EReal) = u) :
    (k0_pay10 (F := Ideal) v20 v27 v28 v29 v30 c0 v38 v48 v61 v66 (ix2 i e) : EReal) = u + Ideal.ofBits .f32 0x3D372713#32 * (u * (u * u)) := by
  subst hu
  rfl

/-- The kernel's block at a grid point is the reference's result there. -/
theorem point_eq (c : Dev nD) (t : Fin cfg0.N) (i : Fin 1024) (e : Fin 768) :
    (outBlock (F := Ideal) (grid0.coords t) (cur m c (t.val / 8)) (iblk m c 4 t) (iblk m c 5 t) (iblk m c 6 t) (iblk m c 7 t) (ix2 i e) : EReal)
      = refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row (tileOut t) i) (col t e)) := by
  refine (pay11_apply _ _ _ i e (pay10_apply _ _ _ _ _ _ _ _ _ _ _ i e rfl)).trans (.trans ?_ (refGate_apply _ _ _ _).symm)
  exact congrArg₂ _ (congrArg geluForm (conv_eq m c t i e)) (val_row m c t i e)

/-- The output array after all grid points is the reference's result on the same arguments. -/
theorem out_eq (c : Dev nD) : (dats m 0 c).arrAt 8 cfg0.N = refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after_8]
  obtain ⟨i, e, rfl⟩ : ∃ (i : Fin 1024) (e : Fin 768), y = ix2 i e := ⟨y 0, y 1, by funext a; fin_cases a <;> rfl⟩
  refine (point_eq m c t i e).trans (congrArg _ ?_)
  blk_ext [ind8, row, col, tileOut]

/-- Every run ends with the reference's result in the output array and the arguments unchanged. -/
theorem run_value :
    θ_run (defs (F := Ideal)) (onTc (τ := τ) (main (F := Ideal))) ⟨m, fun _ => 0, ρ⟩ (fun r => ∀ c : Dev nD,
      r.2.mem ((c.tc : Thread nD τ).loc main_v6) = refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 8).trans (out_eq m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).1 6).trans (((dats m 0 c).arrAt_in 6 rfl _).trans ((A_eq m c 6).trans (V_main_arg5 m c))),
    ((h c).2 main_arg6 (Pipeline.mem_restRefs_of main_arg6 (by decide) (by decide))).trans (V_main_arg6 m c)⟩)
    (run_main m ρ)

/-- The printed kernel and its idealization have the same body table. -/
theorem tables₀ {F : FTy → Type} [FloatOps F] : (Cert.Kernel7.defs₀ (F := F)) = defs₀ := by
  unfold Cert.Kernel7.defs₀ defs₀
  refine congrArg Defs.onTc ?_
  funext l a
  match l, a with
  | 0, (t, s) => rfl
  | ⟨_ + 1, h⟩, _ => exact absurd h (Nat.not_lt.2 (Nat.le_add_left _ _))

/-- The same table with the pipeline's entries. -/
theorem tables {F : FTy → Type} [FloatOps F] : (Cert.Kernel7.defs (F := F)) = defs := by
  unfold Cert.Kernel7.defs defs
  rw [tables₀]
  rfl

/-- The kernel as printed: every run ends, leaves its arguments as they were, and ends with every semaphore at zero. -/
theorem frame_kernel : Cert.quiescent_Kernel7 := fun m ρ _ => by
  rw [tables]
  exact (θ_run defs _ _).mono (fun _ h => h) (frame_any (F := Bits) m ρ)

/-- The same of the kernel read over the extended reals. -/
theorem frame_kernelIdeal : Cert.quiescent_Kernel7Ideal := fun m ρ _ => frame_any (F := Ideal) m ρ

/-- The same of the reference, which has no semaphore at all. -/
theorem frame_reference : Cert.quiescent_Reference7Ideal := fun m ρ _ =>
  (θ_run Cert.Reference7Ideal.defs _ _).mono (fun _ h => ⟨fun c => (h c).2, sem_eq_zero_of_no_sems rfl _⟩)
    (Cert.Reference7Ideal.Value.run (F := Ideal) m ρ)

/-- Over the extended reals the kernel and the reference end with one and the same result, from the same arguments. -/
theorem algebraic : Cert.algebraic_Kernel7Ideal_Reference7Ideal := fun m g m' g' _ hm => by
  refine ⟨fun c => refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    run_value m g,
    (θ_run Cert.Reference7Ideal.defs _ _).mono (fun r h c => ⟨(h c).1.trans ((res_eq m' c).trans ?_), (h c).2⟩) (Cert.Reference7Ideal.Value.run (F := Ideal) m' g')⟩
  obtain ⟨h0, h1, h2, h3, h4, h5, h6⟩ := hm c
  rw [h0, h1, h2, h3, h4, h5, h6]

end Cert.Proof.FfnUp

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.LruFrame
public import proofs.«01_k».proof.Proof.LruValue
public import proofs.«01_k».proof.Proof.Tables
public import proofs.«01_k».proof.Proof.Down
public import proofs.«01_k».proof.Proof.OutProj
public import proofs.«01_k».proof.Proof.Norm
public import proofs.«01_k».proof.Proof.Merge
public import proofs.«01_k».proof.Proof.InProj
public import proofs.«01_k».proof.Proof.FfnUp
public import Idealize.ShloMosaic.Lib.Quiescent

@[expose] public section

noncomputable section

namespace Cert.Proof

open Idealize.ShloMosaic Idealize.SL.Sem

/-- The kernel as printed: every run ends, leaves its arguments as they were, and ends with every semaphore at zero. -/
theorem frame_kernel : Cert.quiescent_Kernel := fun m ρ _ => by
  rw [tables]
  exact (θ_run Cert.KernelIdeal.defs _ _).mono (fun _ h => h) (Lru.frame_any (F := Bits) m ρ)

/-- The same of the kernel read over the extended reals. -/
theorem frame_kernelIdeal : Cert.quiescent_KernelIdeal := fun m ρ _ => Lru.frame_any (F := Ideal) m ρ

/-- The same of the reference, which has no semaphore at all. -/
theorem frame_reference : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

/-- Over the extended reals the kernel and the reference end with one and the same result, from the same arguments. -/
theorem algebraic : Cert.algebraic_KernelIdeal_ReferenceIdeal := fun m g m' g' _ hm =>
  ⟨_, Lru.run_value m g m' hm, Cert.ReferenceIdeal.Value.run (F := Ideal) m' g'⟩

/-- Everything claimed of the layer's calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  frame_kernel, frame_kernelIdeal, frame_reference,
  Down.frame_kernel, Down.frame_kernelIdeal, Down.frame_reference,
  OutProj.frame_kernel, OutProj.frame_kernelIdeal, OutProj.frame_reference,
  Norm.frame_kernel, Norm.frame_kernelIdeal, Norm.frame_reference,
  Merge.frame_kernel, Merge.frame_kernelIdeal, Merge.frame_reference,
  InProj.frame_kernel, InProj.frame_kernelIdeal, InProj.frame_reference,
  FfnUp.frame_kernel, FfnUp.frame_kernelIdeal, FfnUp.frame_reference,
  trivial, algebraic, trivial, Down.algebraic, trivial, OutProj.algebraic, trivial, Norm.algebraic, trivial, Merge.algebraic, trivial, InProj.algebraic, trivial, FfnUp.algebraic⟩

end Cert.Proof

end
